-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.Statement Cert.KernelIdeal.S8192x128 Cert.KernelIdeal.S4096x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![65536, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S65536x128 : Shape := ⟨2, ![65536, 128]⟩
abbrev S8 : Shape := ⟨1, ![8]⟩
abbrev S_ : Shape := ⟨0, ![]⟩
abbrev S8192x128 : Shape := ⟨2, ![8192, 128]⟩
abbrev S1 : Shape := ⟨1, ![1]⟩
abbrev S128x2x32x128 : Shape := ⟨4, ![128, 2, 32, 128]⟩
abbrev S128x1x32x128 : Shape := ⟨4, ![128, 1, 32, 128]⟩
abbrev S128x32x128 : Shape := ⟨3, ![128, 32, 128]⟩
abbrev S128x1x1 : Shape := ⟨3, ![128, 1, 1]⟩
abbrev S64x2x64x128 : Shape := ⟨4, ![64, 2, 64, 128]⟩
abbrev S64x1x64x128 : Shape := ⟨4, ![64, 1, 64, 128]⟩
abbrev S64x64x128 : Shape := ⟨3, ![64, 64, 128]⟩
abbrev S64x1x1 : Shape := ⟨3, ![64, 1, 1]⟩
abbrev S32x2x128x128 : Shape := ⟨4, ![32, 2, 128, 128]⟩
abbrev S32x1x128x128 : Shape := ⟨4, ![32, 1, 128, 128]⟩
abbrev S32x128x128 : Shape := ⟨3, ![32, 128, 128]⟩
abbrev S32x1x1 : Shape := ⟨3, ![32, 1, 1]⟩
abbrev S16x2x256x128 : Shape := ⟨4, ![16, 2, 256, 128]⟩
abbrev S16x1x256x128 : Shape := ⟨4, ![16, 1, 256, 128]⟩
abbrev S16x256x128 : Shape := ⟨3, ![16, 256, 128]⟩
abbrev S16x1x1 : Shape := ⟨3, ![16, 1, 1]⟩
abbrev S8x2x512x128 : Shape := ⟨4, ![8, 2, 512, 128]⟩
abbrev S8x1x512x128 : Shape := ⟨4, ![8, 1, 512, 128]⟩
abbrev S8x512x128 : Shape := ⟨3, ![8, 512, 128]⟩
abbrev S8x1x1 : Shape := ⟨3, ![8, 1, 1]⟩
abbrev S4x2x1024x128 : Shape := ⟨4, ![4, 2, 1024, 128]⟩
abbrev S4x1x1024x128 : Shape := ⟨4, ![4, 1, 1024, 128]⟩
abbrev S4x1024x128 : Shape := ⟨3, ![4, 1024, 128]⟩
abbrev S4x1x1 : Shape := ⟨3, ![4, 1, 1]⟩
abbrev S2x2x2048x128 : Shape := ⟨4, ![2, 2, 2048, 128]⟩
abbrev S2x1x2048x128 : Shape := ⟨4, ![2, 1, 2048, 128]⟩
abbrev S2x2048x128 : Shape := ⟨3, ![2, 2048, 128]⟩
abbrev S2x1x1 : Shape := ⟨3, ![2, 1, 1]⟩
abbrev S1x2x4096x128 : Shape := ⟨4, ![1, 2, 4096, 128]⟩
abbrev S1x1x4096x128 : Shape := ⟨4, ![1, 1, 4096, 128]⟩
abbrev S1x4096x128 : Shape := ⟨3, ![1, 4096, 128]⟩
abbrev S1x1x1 : Shape := ⟨3, ![1, 1, 1]⟩
abbrev S256x2x16x128 : Shape := ⟨4, ![256, 2, 16, 128]⟩
abbrev S256x1x16x128 : Shape := ⟨4, ![256, 1, 16, 128]⟩
abbrev S256x16x128 : Shape := ⟨3, ![256, 16, 128]⟩
abbrev S256x1x1 : Shape := ⟨3, ![256, 1, 1]⟩
abbrev S512x2x8x128 : Shape := ⟨4, ![512, 2, 8, 128]⟩
abbrev S512x1x8x128 : Shape := ⟨4, ![512, 1, 8, 128]⟩
abbrev S512x8x128 : Shape := ⟨3, ![512, 8, 128]⟩
abbrev S512x1x1 : Shape := ⟨3, ![512, 1, 1]⟩
abbrev S4096x128 : Shape := ⟨2, ![4096, 128]⟩
abbrev S8192x1 : Shape := ⟨2, ![8192, 1]⟩

abbrev nBuf : Space → Nat
  | .hbm => 2
  | .vmem => 1
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .local _ .vmem, ⟨0, _⟩ => ⟨S65536x128, .bf16⟩
  | _, _ => ⟨S8192x1024, .bf16⟩

abbrev bufScoped : (cs : CoreSpace) → Fin (nBuf (.core cs)) → Bool
  | .vmem, ⟨0, _⟩ => true
  | _, _ => false

abbrev semScoped : Fin 2 → Bool
  | ⟨0, _⟩ => false
  | ⟨1, _⟩ => true
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 2 33 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [BitOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32 : BitVec 32 := 8192#32
  let v33 : BitVec 32 := Scalar.muli v2 c8192_i32
  let c0_i32_29 : BitVec 32 := 0#32
  ![v33.toNat, 0]
def k0_off2 (d0 : Dev nD) : Fin 2 → Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v32 : BitVec 32 := Scalar.muli v2 c128_i32
  ![0, v32.toNat]
def k0_off3 (d0 : Dev nD) (c1_i32_31 : BitVec 32) : Fin 2 → Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.addi v2 c1_i32_31
  let c8_i32_32 : BitVec 32 := 8#32
  let v37 : BitVec 32 := Scalar.remsi v36 c8_i32_32
  let c128_i32_33 : BitVec 32 := 128#32
  let v38 : BitVec 32 := Scalar.muli v37 c128_i32_33
  ![0, v38.toNat]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v36 : BitVec 32 := Scalar.addi v2 c1_i32_31
  let c8_i32_32 : BitVec 32 := 8#32
  let v37 : BitVec 32 := Scalar.remsi v36 c8_i32_32
  let c1_i32_37 : BitVec 32 := 1#32
  let v40 : BitVec 32 := Scalar.muli v37 c1_i32_37
  let v41 : BitVec 32 := Scalar.addi c0_i32_38 v40
  v41.toNat
def k0_dev9 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_41 : BitVec 32 := 2#32
  let v48 : BitVec 32 := Scalar.addi v2 c2_i32_41
  let c8_i32_42 : BitVec 32 := 8#32
  let v49 : BitVec 32 := Scalar.remsi v48 c8_i32_42
  let c1_i32_47 : BitVec 32 := 1#32
  let v52 : BitVec 32 := Scalar.muli v49 c1_i32_47
  let v53 : BitVec 32 := Scalar.addi c0_i32_48 v52
  v53.toNat
def k0_dev10 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_51 : BitVec 32 := 3#32
  let v60 : BitVec 32 := Scalar.addi v2 c3_i32_51
  let c8_i32_52 : BitVec 32 := 8#32
  let v61 : BitVec 32 := Scalar.remsi v60 c8_i32_52
  let c1_i32_57 : BitVec 32 := 1#32
  let v64 : BitVec 32 := Scalar.muli v61 c1_i32_57
  let v65 : BitVec 32 := Scalar.addi c0_i32_58 v64
  v65.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v72 : BitVec 32 := Scalar.addi v2 c4_i32_61
  let c8_i32_62 : BitVec 32 := 8#32
  let v73 : BitVec 32 := Scalar.remsi v72 c8_i32_62
  let c1_i32_67 : BitVec 32 := 1#32
  let v76 : BitVec 32 := Scalar.muli v73 c1_i32_67
  let v77 : BitVec 32 := Scalar.addi c0_i32_68 v76
  v77.toNat
def k0_dev12 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_71 : BitVec 32 := 5#32
  let v84 : BitVec 32 := Scalar.addi v2 c5_i32_71
  let c8_i32_72 : BitVec 32 := 8#32
  let v85 : BitVec 32 := Scalar.remsi v84 c8_i32_72
  let c1_i32_77 : BitVec 32 := 1#32
  let v88 : BitVec 32 := Scalar.muli v85 c1_i32_77
  let v89 : BitVec 32 := Scalar.addi c0_i32_78 v88
  v89.toNat
def k0_dev13 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_81 : BitVec 32 := 6#32
  let v96 : BitVec 32 := Scalar.addi v2 c6_i32_81
  let c8_i32_82 : BitVec 32 := 8#32
  let v97 : BitVec 32 := Scalar.remsi v96 c8_i32_82
  let c1_i32_87 : BitVec 32 := 1#32
  let v100 : BitVec 32 := Scalar.muli v97 c1_i32_87
  let v101 : BitVec 32 := Scalar.addi c0_i32_88 v100
  v101.toNat
def k0_dev14 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_91 : BitVec 32 := 7#32
  let v108 : BitVec 32 := Scalar.addi v2 c7_i32_91
  let c8_i32_92 : BitVec 32 := 8#32
  let v109 : BitVec 32 := Scalar.remsi v108 c8_i32_92
  let c1_i32_97 : BitVec 32 := 1#32
  let v112 : BitVec 32 := Scalar.muli v109 c1_i32_97
  let v113 : BitVec 32 := Scalar.addi c0_i32_98 v112
  v113.toNat
@[reducible] def k0_t1_loop : Scf.Loop 32 :=
  let c0_i32_103 : BitVec 32 := 0#32
  let c8_i32_104 : BitVec 32 := 8#32
  let v122 : BitVec 32 := Scalar.addi c0_i32_103 c8_i32_104
  let c1_i32_105 : BitVec 32 := 1#32
  ⟨c0_i32_103, v122, c1_i32_105⟩
def k0_mult1 (d0 : Dev nD) (k0_t1 : Fin k0_t1_loop.trips) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  v320
def k0_cond1 (k0_t1 : Fin k0_t1_loop.trips) : BitVec 1 :=
  let c0_i32_103 : BitVec 32 := 0#32
  let c1_i32_105 : BitVec 32 := 1#32
  let arg8 : BitVec 32 := Scf.iv c0_i32_103 c1_i32_105 k0_t1
  let c0_i32_292 : BitVec 32 := 0#32
  let v322 : BitVec 1 := Scalar.cmpi .sgt arg8 c0_i32_292
  let v323 : BitVec 32 := Scalar.extui v322
  let c0_i32_293 : BitVec 32 := 0#32
  let v324 : BitVec 1 := Scalar.cmpi .ne v323 c0_i32_293
  v324

def k0_off4 (k0_t1 : Fin k0_t1_loop.trips) : Fin 1 → Nat :=
  let c0_i32_103 : BitVec 32 := 0#32
  let c1_i32_105 : BitVec 32 := 1#32
  let arg8 : BitVec 32 := Scf.iv c0_i32_103 c1_i32_105 k0_t1
  ![arg8.toNat]
def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_298 : BitVec 32 := 8192#32
  let v327 : BitVec 32 := Scalar.muli v319 c8192_i32_298
  let c0_i32_301 : BitVec 32 := 0#32
  ![v327.toNat, 0]
def k0_off6 (d0 : Dev nD) (k0_t1 : Fin k0_t1_loop.trips) : Fin 2 → Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c128_i32_297 : BitVec 32 := 128#32
  let v326 : BitVec 32 := Scalar.muli v319 c128_i32_297
  ![0, v326.toNat]
@[reducible] def k0_t2_loop : Scf.Loop 32 :=
  let c1_i32_294 : BitVec 32 := 1#32
  let c13_i32 : BitVec 32 := 13#32
  let v325 : BitVec 32 := Scalar.addi c1_i32_294 c13_i32
  let c1_i32_295 : BitVec 32 := 1#32
  ⟨c1_i32_294, v325, c1_i32_295⟩
@[reducible] def k0_t3_loop (k0_t2 : Fin k0_t2_loop.trips) : Scf.Loop 32 :=
  let c0_i32_301 : BitVec 32 := 0#32
  let c1_i32_294 : BitVec 32 := 1#32
  let c1_i32_295 : BitVec 32 := 1#32
  let arg9 : BitVec 32 := Scf.iv c1_i32_294 c1_i32_295 k0_t2
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_303 : BitVec 32 := 1#32
  ⟨c0_i32_301, v333, c1_i32_303⟩
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v342 : Index := Scalar.indexCast v321
  let c0 : Index := 0#32
  ![v342.toNat, 0]
def k0_cond2 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c32_i32_309 : BitVec 32 := 32#32
  let v344 : BitVec 1 := Scalar.cmpi .eq v341 c32_i32_309
  let v345 : BitVec 32 := Scalar.extui v344
  let c0_i32_310 : BitVec 32 := 0#32
  let v346 : BitVec 1 := Scalar.cmpi .ne v345 c0_i32_310
  v346

def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond3 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c64_i32 : BitVec 32 := 64#32
  let v347 : BitVec 1 := Scalar.cmpi .eq v341 c64_i32
  let v348 : BitVec 32 := Scalar.extui v347
  let c0_i32_311 : BitVec 32 := 0#32
  let v349 : BitVec 1 := Scalar.cmpi .ne v348 c0_i32_311
  v349

def k0_off9 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond4 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c128_i32_312 : BitVec 32 := 128#32
  let v350 : BitVec 1 := Scalar.cmpi .eq v341 c128_i32_312
  let v351 : BitVec 32 := Scalar.extui v350
  let c0_i32_313 : BitVec 32 := 0#32
  let v352 : BitVec 1 := Scalar.cmpi .ne v351 c0_i32_313
  v352

def k0_off10 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond5 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c256_i32 : BitVec 32 := 256#32
  let v353 : BitVec 1 := Scalar.cmpi .eq v341 c256_i32
  let v354 : BitVec 32 := Scalar.extui v353
  let c0_i32_314 : BitVec 32 := 0#32
  let v355 : BitVec 1 := Scalar.cmpi .ne v354 c0_i32_314
  v355

def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond6 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c512_i32 : BitVec 32 := 512#32
  let v356 : BitVec 1 := Scalar.cmpi .eq v341 c512_i32
  let v357 : BitVec 32 := Scalar.extui v356
  let c0_i32_315 : BitVec 32 := 0#32
  let v358 : BitVec 1 := Scalar.cmpi .ne v357 c0_i32_315
  v358

def k0_off12 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond7 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c1024_i32 : BitVec 32 := 1024#32
  let v359 : BitVec 1 := Scalar.cmpi .eq v341 c1024_i32
  let v360 : BitVec 32 := Scalar.extui v359
  let c0_i32_316 : BitVec 32 := 0#32
  let v361 : BitVec 1 := Scalar.cmpi .ne v360 c0_i32_316
  v361

def k0_off13 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond8 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c2048_i32 : BitVec 32 := 2048#32
  let v362 : BitVec 1 := Scalar.cmpi .eq v341 c2048_i32
  let v363 : BitVec 32 := Scalar.extui v362
  let c0_i32_317 : BitVec 32 := 0#32
  let v364 : BitVec 1 := Scalar.cmpi .ne v363 c0_i32_317
  v364

def k0_off14 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond9 (k0_t2 : Fin k0_t2_loop.trips) (k0_t3 : Fin (k0_t3_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c1_i32_303 : BitVec 32 := 1#32
  let arg10 : BitVec 32 := Scf.iv c0_i32_301 c1_i32_303 k0_t3
  let c1_i32_308 : BitVec 32 := 1#32
  let v340 : BitVec 32 := Scalar.addi arg10 c1_i32_308
  let v341 : BitVec 32 := Scalar.shrsi v326 v340
  let c4096_i32 : BitVec 32 := 4096#32
  let v365 : BitVec 1 := Scalar.cmpi .eq v341 c4096_i32
  let v366 : BitVec 32 := Scalar.extui v365
  let c0_i32_318 : BitVec 32 := 0#32
  let v367 : BitVec 1 := Scalar.cmpi .ne v366 c0_i32_318
  v367

def k0_off15 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
@[reducible] def k0_t4_loop (k0_t2 : Fin k0_t2_loop.trips) : Scf.Loop 32 :=
  let c0_i32_301 : BitVec 32 := 0#32
  let c1_i32_294 : BitVec 32 := 1#32
  let c1_i32_295 : BitVec 32 := 1#32
  let arg9 : BitVec 32 := Scf.iv c1_i32_294 c1_i32_295 k0_t2
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let v330 : BitVec 32 := Scalar.addi c0_i32_301 v329
  let c1_i32_304 : BitVec 32 := 1#32
  ⟨v333, v330, c1_i32_304⟩
def k0_off16 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v342 : Index := Scalar.indexCast v321
  let c0 : Index := 0#32
  ![v342.toNat, 0]
def k0_cond10 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c32_i32_309 : BitVec 32 := 32#32
  let v344 : BitVec 1 := Scalar.cmpi .eq v341 c32_i32_309
  let v345 : BitVec 32 := Scalar.extui v344
  let c0_i32_310 : BitVec 32 := 0#32
  let v346 : BitVec 1 := Scalar.cmpi .ne v345 c0_i32_310
  v346

def k0_off17 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond11 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c64_i32 : BitVec 32 := 64#32
  let v347 : BitVec 1 := Scalar.cmpi .eq v341 c64_i32
  let v348 : BitVec 32 := Scalar.extui v347
  let c0_i32_311 : BitVec 32 := 0#32
  let v349 : BitVec 1 := Scalar.cmpi .ne v348 c0_i32_311
  v349

def k0_off18 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond12 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c128_i32_312 : BitVec 32 := 128#32
  let v350 : BitVec 1 := Scalar.cmpi .eq v341 c128_i32_312
  let v351 : BitVec 32 := Scalar.extui v350
  let c0_i32_313 : BitVec 32 := 0#32
  let v352 : BitVec 1 := Scalar.cmpi .ne v351 c0_i32_313
  v352

def k0_off19 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond13 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c256_i32 : BitVec 32 := 256#32
  let v353 : BitVec 1 := Scalar.cmpi .eq v341 c256_i32
  let v354 : BitVec 32 := Scalar.extui v353
  let c0_i32_314 : BitVec 32 := 0#32
  let v355 : BitVec 1 := Scalar.cmpi .ne v354 c0_i32_314
  v355

def k0_off20 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond14 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c512_i32 : BitVec 32 := 512#32
  let v356 : BitVec 1 := Scalar.cmpi .eq v341 c512_i32
  let v357 : BitVec 32 := Scalar.extui v356
  let c0_i32_315 : BitVec 32 := 0#32
  let v358 : BitVec 1 := Scalar.cmpi .ne v357 c0_i32_315
  v358

def k0_off21 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond15 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c1024_i32 : BitVec 32 := 1024#32
  let v359 : BitVec 1 := Scalar.cmpi .eq v341 c1024_i32
  let v360 : BitVec 32 := Scalar.extui v359
  let c0_i32_316 : BitVec 32 := 0#32
  let v361 : BitVec 1 := Scalar.cmpi .ne v360 c0_i32_316
  v361

def k0_off22 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond16 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c2048_i32 : BitVec 32 := 2048#32
  let v362 : BitVec 1 := Scalar.cmpi .eq v341 c2048_i32
  let v363 : BitVec 32 := Scalar.extui v362
  let c0_i32_317 : BitVec 32 := 0#32
  let v364 : BitVec 1 := Scalar.cmpi .ne v363 c0_i32_317
  v364

def k0_off23 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond17 (k0_t2 : Fin k0_t2_loop.trips) (k0_t4 : Fin (k0_t4_loop k0_t2).trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c0_i32_301 : BitVec 32 := 0#32
  let c5_i32_298 : BitVec 32 := 5#32
  let v327 : BitVec 32 := Scalar.subi arg9 c5_i32_298
  let c0_i32_299 : BitVec 32 := 0#32
  let v328 : BitVec 32 := Scalar.maxsi v327 c0_i32_299
  let v329 : BitVec 32 := Scalar.subi v328 c0_i32_301
  let c1_i32_302 : BitVec 32 := 1#32
  let v331 : BitVec 32 := Scalar.divsi v329 c1_i32_302
  let v332 : BitVec 32 := Scalar.muli v331 c1_i32_302
  let v333 : BitVec 32 := Scalar.addi c0_i32_301 v332
  let c1_i32_304 : BitVec 32 := 1#32
  let arg10 : BitVec 32 := Scf.iv v333 c1_i32_304 k0_t4
  let c1_i32_308 : BitVec 32 := 1#32
  let v340 : BitVec 32 := Scalar.addi arg10 c1_i32_308
  let v341 : BitVec 32 := Scalar.shrsi v326 v340
  let c4096_i32 : BitVec 32 := 4096#32
  let v365 : BitVec 1 := Scalar.cmpi .eq v341 c4096_i32
  let v366 : BitVec 32 := Scalar.extui v365
  let c0_i32_318 : BitVec 32 := 0#32
  let v367 : BitVec 1 := Scalar.cmpi .ne v366 c0_i32_318
  v367

def k0_off24 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v394 : Index := Scalar.indexCast v321
  let c0_321 : Index := 0#32
  ![v394.toNat, 0]
def k0_cond18 (k0_t2 : Fin k0_t2_loop.trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c32_i32 : BitVec 32 := 32#32
  let v334 : BitVec 1 := Scalar.cmpi .sge v326 c32_i32
  let v335 : BitVec 32 := Scalar.extui v334
  let c0_i32_305 : BitVec 32 := 0#32
  let v336 : BitVec 1 := Scalar.cmpi .ne v335 c0_i32_305
  v336

def k0_off25 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v340 : Index := Scalar.indexCast v321
  let c0 : Index := 0#32
  ![v340.toNat, 0]
def k0_cond19 (k0_t2 : Fin k0_t2_loop.trips) : BitVec 1 :=
  let c1_i32_297 : BitVec 32 := 1#32
  let c1_i32_294 : BitVec 32 := 1#32
  let c1_i32_295 : BitVec 32 := 1#32
  let arg9 : BitVec 32 := Scf.iv c1_i32_294 c1_i32_295 k0_t2
  let v326 : BitVec 32 := Scalar.shli c1_i32_297 arg9
  let c32_i32_306 : BitVec 32 := 32#32
  let v337 : BitVec 1 := Scalar.cmpi .slt v326 c32_i32_306
  let v338 : BitVec 32 := Scalar.extui v337
  let c0_i32_307 : BitVec 32 := 0#32
  let v339 : BitVec 1 := Scalar.cmpi .ne v338 c0_i32_307
  v339

def k0_off26 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_103 : BitVec 32 := 0#32
  let c1_i32_105 : BitVec 32 := 1#32
  let arg8 : BitVec 32 := Scf.iv c0_i32_103 c1_i32_105 k0_t1
  let v317 : BitVec 32 := Scalar.subi v2 arg8
  let c8_i32_289 : BitVec 32 := 8#32
  let v318 : BitVec 32 := Scalar.addi v317 c8_i32_289
  let c8_i32_290 : BitVec 32 := 8#32
  let v319 : BitVec 32 := Scalar.remsi v318 c8_i32_290
  let c8192_i32_291 : BitVec 32 := 8192#32
  let v320 : BitVec 32 := Scalar.muli v319 c8192_i32_291
  let v321 : BitVec 32 := v320
  let v340 : Index := Scalar.indexCast v321
  let c0 : Index := 0#32
  ![v340.toNat, 0]
@[reducible] def k0_t5_loop : Scf.Loop 32 :=
  let c14_i32 : BitVec 32 := 14#32
  let c3_i32_170 : BitVec 32 := 3#32
  let v179 : BitVec 32 := Scalar.addi c14_i32 c3_i32_170
  let c1_i32_171 : BitVec 32 := 1#32
  ⟨c14_i32, v179, c1_i32_171⟩
@[reducible] def k0_t6_loop (k0_t5 : Fin k0_t5_loop.trips) : Scf.Loop 32 :=
  let c0_i32_292 : BitVec 32 := 0#32
  let c14_i32 : BitVec 32 := 14#32
  let c1_i32_171 : BitVec 32 := 1#32
  let arg8 : BitVec 32 := Scf.iv c14_i32 c1_i32_171 k0_t5
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_294 : BitVec 32 := 1#32
  ⟨c0_i32_292, v323, c1_i32_294⟩
def k0_cond20 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c8192_i32_301 : BitVec 32 := 8192#32
  let v327 : BitVec 1 := Scalar.cmpi .sge v326 c8192_i32_301
  let v328 : BitVec 32 := Scalar.extui v327
  let c0_i32_302 : BitVec 32 := 0#32
  let v329 : BitVec 1 := Scalar.cmpi .ne v328 c0_i32_302
  v329

@[reducible] def k0_t7_loop : Scf.Loop 32 :=
  let c0_i32_306 : BitVec 32 := 0#32
  let c4_i32_307 : BitVec 32 := 4#32
  let v333 : BitVec 32 := Scalar.addi c0_i32_306 c4_i32_307
  let c1_i32_308 : BitVec 32 := 1#32
  ⟨c0_i32_306, v333, c1_i32_308⟩
def k0_mult2 (k0_t5 : Fin k0_t5_loop.trips) (k0_t6 : Fin (k0_t6_loop k0_t5).trips) (k0_t7 : Fin k0_t7_loop.trips) : BitVec 32 :=
  let c0_i32_306 : BitVec 32 := 0#32
  let c1_i32_308 : BitVec 32 := 1#32
  let arg10 : BitVec 32 := Scf.iv c0_i32_306 c1_i32_308 k0_t7
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  v355
def k0_mult3 (k0_t5 : Fin k0_t5_loop.trips) (k0_t6 : Fin (k0_t6_loop k0_t5).trips) (k0_t7 : Fin k0_t7_loop.trips) : BitVec 32 :=
  let c0_i32_306 : BitVec 32 := 0#32
  let c1_i32_308 : BitVec 32 := 1#32
  let arg10 : BitVec 32 := Scf.iv c0_i32_306 c1_i32_308 k0_t7
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  let v356 : BitVec 32 := v355
  let v357 : BitVec 32 := Scalar.addi v356 v326
  v357
def k0_off27 (k0_t5 : Fin k0_t5_loop.trips) (k0_t6 : Fin (k0_t6_loop k0_t5).trips) (k0_t7 : Fin k0_t7_loop.trips) : Fin 2 → Nat :=
  let c0_i32_306 : BitVec 32 := 0#32
  let c1_i32_308 : BitVec 32 := 1#32
  let arg10 : BitVec 32 := Scf.iv c0_i32_306 c1_i32_308 k0_t7
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  let v356 : BitVec 32 := v355
  let v359 : Index := Scalar.indexCast v356
  let c0 : Index := 0#32
  ![v359.toNat, 0]
def k0_off28 (k0_t5 : Fin k0_t5_loop.trips) (k0_t6 : Fin (k0_t6_loop k0_t5).trips) (k0_t7 : Fin k0_t7_loop.trips) : Fin 2 → Nat :=
  let c0_i32_306 : BitVec 32 := 0#32
  let c1_i32_308 : BitVec 32 := 1#32
  let arg10 : BitVec 32 := Scf.iv c0_i32_306 c1_i32_308 k0_t7
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  let v356 : BitVec 32 := v355
  let v357 : BitVec 32 := Scalar.addi v356 v326
  let v358 : BitVec 32 := v357
  let v361 : Index := Scalar.indexCast v358
  let c0_318 : Index := 0#32
  ![v361.toNat, 0]
def k0_cond21 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c8192_i32_303 : BitVec 32 := 8192#32
  let v330 : BitVec 1 := Scalar.cmpi .slt v326 c8192_i32_303
  let v331 : BitVec 32 := Scalar.extui v330
  let c0_i32_304 : BitVec 32 := 0#32
  let v332 : BitVec 1 := Scalar.cmpi .ne v331 c0_i32_304
  v332

@[reducible] def k0_t8_loop : Scf.Loop 32 :=
  let c0_i32_306 : BitVec 32 := 0#32
  let c8_i32_307 : BitVec 32 := 8#32
  let v333 : BitVec 32 := Scalar.addi c0_i32_306 c8_i32_307
  let c1_i32_308 : BitVec 32 := 1#32
  ⟨c0_i32_306, v333, c1_i32_308⟩
def k0_mult4 (k0_t8 : Fin k0_t8_loop.trips) : BitVec 32 :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  v334
def k0_off29 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v336 : Index := Scalar.indexCast v335
  let c0 : Index := 0#32
  ![v336.toNat, 0]
def k0_cond22 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c32_i32 : BitVec 32 := 32#32
  let v338 : BitVec 1 := Scalar.cmpi .eq v326 c32_i32
  let v339 : BitVec 32 := Scalar.extui v338
  let c0_i32_311 : BitVec 32 := 0#32
  let v340 : BitVec 1 := Scalar.cmpi .ne v339 c0_i32_311
  v340

def k0_off30 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond23 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c64_i32 : BitVec 32 := 64#32
  let v341 : BitVec 1 := Scalar.cmpi .eq v326 c64_i32
  let v342 : BitVec 32 := Scalar.extui v341
  let c0_i32_312 : BitVec 32 := 0#32
  let v343 : BitVec 1 := Scalar.cmpi .ne v342 c0_i32_312
  v343

def k0_off31 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond24 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c128_i32_313 : BitVec 32 := 128#32
  let v344 : BitVec 1 := Scalar.cmpi .eq v326 c128_i32_313
  let v345 : BitVec 32 := Scalar.extui v344
  let c0_i32_314 : BitVec 32 := 0#32
  let v346 : BitVec 1 := Scalar.cmpi .ne v345 c0_i32_314
  v346

def k0_off32 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond25 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c256_i32 : BitVec 32 := 256#32
  let v347 : BitVec 1 := Scalar.cmpi .eq v326 c256_i32
  let v348 : BitVec 32 := Scalar.extui v347
  let c0_i32_315 : BitVec 32 := 0#32
  let v349 : BitVec 1 := Scalar.cmpi .ne v348 c0_i32_315
  v349

def k0_off33 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond26 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c512_i32 : BitVec 32 := 512#32
  let v350 : BitVec 1 := Scalar.cmpi .eq v326 c512_i32
  let v351 : BitVec 32 := Scalar.extui v350
  let c0_i32_316 : BitVec 32 := 0#32
  let v352 : BitVec 1 := Scalar.cmpi .ne v351 c0_i32_316
  v352

def k0_off34 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond27 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c1024_i32 : BitVec 32 := 1024#32
  let v353 : BitVec 1 := Scalar.cmpi .eq v326 c1024_i32
  let v354 : BitVec 32 := Scalar.extui v353
  let c0_i32_317 : BitVec 32 := 0#32
  let v355 : BitVec 1 := Scalar.cmpi .ne v354 c0_i32_317
  v355

def k0_off35 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond28 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c2048_i32 : BitVec 32 := 2048#32
  let v356 : BitVec 1 := Scalar.cmpi .eq v326 c2048_i32
  let v357 : BitVec 32 := Scalar.extui v356
  let c0_i32_318 : BitVec 32 := 0#32
  let v358 : BitVec 1 := Scalar.cmpi .ne v357 c0_i32_318
  v358

def k0_off36 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond29 (k0_t5 : Fin k0_t5_loop.trips) (k0_t6 : Fin (k0_t6_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c1_i32_294 : BitVec 32 := 1#32
  let arg9 : BitVec 32 := Scf.iv c0_i32_292 c1_i32_294 k0_t6
  let c1_i32_300 : BitVec 32 := 1#32
  let v325 : BitVec 32 := Scalar.addi arg9 c1_i32_300
  let v326 : BitVec 32 := Scalar.shrsi v317 v325
  let c4096_i32 : BitVec 32 := 4096#32
  let v359 : BitVec 1 := Scalar.cmpi .eq v326 c4096_i32
  let v360 : BitVec 32 := Scalar.extui v359
  let c0_i32_319 : BitVec 32 := 0#32
  let v361 : BitVec 1 := Scalar.cmpi .ne v360 c0_i32_319
  v361

def k0_off37 (k0_t8 : Fin k0_t8_loop.trips) : Fin 2 → Nat :=
  let c0_i32_306 : BitVec 32 := 0#32
  let c1_i32_308 : BitVec 32 := 1#32
  let arg10 : BitVec 32 := Scf.iv c0_i32_306 c1_i32_308 k0_t8
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
@[reducible] def k0_t9_loop (k0_t5 : Fin k0_t5_loop.trips) : Scf.Loop 32 :=
  let c0_i32_292 : BitVec 32 := 0#32
  let c14_i32 : BitVec 32 := 14#32
  let c1_i32_171 : BitVec 32 := 1#32
  let arg8 : BitVec 32 := Scf.iv c14_i32 c1_i32_171 k0_t5
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let v320 : BitVec 32 := Scalar.addi c0_i32_292 v319
  let c1_i32_295 : BitVec 32 := 1#32
  ⟨v323, v320, c1_i32_295⟩
def k0_cond30 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c8192_i32_301 : BitVec 32 := 8192#32
  let v327 : BitVec 1 := Scalar.cmpi .sge v326 c8192_i32_301
  let v328 : BitVec 32 := Scalar.extui v327
  let c0_i32_302 : BitVec 32 := 0#32
  let v329 : BitVec 1 := Scalar.cmpi .ne v328 c0_i32_302
  v329

@[reducible] def k0_t10_loop : Scf.Loop 32 :=
  let c0_i32_306 : BitVec 32 := 0#32
  let c4_i32_307 : BitVec 32 := 4#32
  let v333 : BitVec 32 := Scalar.addi c0_i32_306 c4_i32_307
  let c1_i32_308 : BitVec 32 := 1#32
  ⟨c0_i32_306, v333, c1_i32_308⟩
def k0_mult5 (k0_t5 : Fin k0_t5_loop.trips) (k0_t9 : Fin (k0_t9_loop k0_t5).trips) (k0_t10 : Fin k0_t10_loop.trips) : BitVec 32 :=
  let c0_i32_306 : BitVec 32 := 0#32
  let c1_i32_308 : BitVec 32 := 1#32
  let arg10 : BitVec 32 := Scf.iv c0_i32_306 c1_i32_308 k0_t10
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  v355
def k0_mult6 (k0_t5 : Fin k0_t5_loop.trips) (k0_t9 : Fin (k0_t9_loop k0_t5).trips) (k0_t10 : Fin k0_t10_loop.trips) : BitVec 32 :=
  let c0_i32_306 : BitVec 32 := 0#32
  let c1_i32_308 : BitVec 32 := 1#32
  let arg10 : BitVec 32 := Scf.iv c0_i32_306 c1_i32_308 k0_t10
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  let v356 : BitVec 32 := v355
  let v357 : BitVec 32 := Scalar.addi v356 v326
  v357
def k0_off38 (k0_t5 : Fin k0_t5_loop.trips) (k0_t9 : Fin (k0_t9_loop k0_t5).trips) (k0_t10 : Fin k0_t10_loop.trips) : Fin 2 → Nat :=
  let c0_i32_306 : BitVec 32 := 0#32
  let c1_i32_308 : BitVec 32 := 1#32
  let arg10 : BitVec 32 := Scf.iv c0_i32_306 c1_i32_308 k0_t10
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  let v356 : BitVec 32 := v355
  let v359 : Index := Scalar.indexCast v356
  let c0 : Index := 0#32
  ![v359.toNat, 0]
def k0_off39 (k0_t5 : Fin k0_t5_loop.trips) (k0_t9 : Fin (k0_t9_loop k0_t5).trips) (k0_t10 : Fin k0_t10_loop.trips) : Fin 2 → Nat :=
  let c0_i32_306 : BitVec 32 := 0#32
  let c1_i32_308 : BitVec 32 := 1#32
  let arg10 : BitVec 32 := Scf.iv c0_i32_306 c1_i32_308 k0_t10
  let c8192_i32_310 : BitVec 32 := 8192#32
  let v334 : BitVec 32 := Scalar.muli arg10 c8192_i32_310
  let c0_i32_311 : BitVec 32 := 0#32
  let v336 : BitVec 1 := Scalar.cmpi .sgt v334 c0_i32_311
  let v337 : BitVec 32 := Scalar.extui v336
  let c0_i32_312 : BitVec 32 := 0#32
  let v338 : BitVec 1 := Scalar.cmpi .slt v334 c0_i32_312
  let v339 : BitVec 32 := Scalar.extui v338
  let v340 : BitVec 32 := Scalar.subi v337 v339
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c0_i32_313 : BitVec 32 := 0#32
  let v341 : BitVec 1 := Scalar.cmpi .sgt v326 c0_i32_313
  let v342 : BitVec 32 := Scalar.extui v341
  let c0_i32_314 : BitVec 32 := 0#32
  let v343 : BitVec 1 := Scalar.cmpi .slt v326 c0_i32_314
  let v344 : BitVec 32 := Scalar.extui v343
  let v345 : BitVec 32 := Scalar.subi v342 v344
  let v346 : BitVec 1 := Scalar.cmpi .ne v340 v345
  let v347 : BitVec 32 := Scalar.remsi v334 v326
  let c0_i32_315 : BitVec 32 := 0#32
  let v348 : BitVec 1 := Scalar.cmpi .ne v347 c0_i32_315
  let v349 : BitVec 1 := Scalar.andi v346 v348
  let v335 : BitVec 32 := Scalar.divsi v334 v326
  let c1_i32_316 : BitVec 32 := 1#32
  let v350 : BitVec 32 := Scalar.subi v335 c1_i32_316
  let v351 : BitVec 32 := Scalar.select v349 v350 v335
  let c2_i32_317 : BitVec 32 := 2#32
  let v353 : BitVec 32 := Scalar.muli v351 c2_i32_317
  let v354 : BitVec 32 := Scalar.muli v353 v326
  let v352 : BitVec 32 := Scalar.remsi v334 v326
  let v355 : BitVec 32 := Scalar.addi v354 v352
  let v356 : BitVec 32 := v355
  let v357 : BitVec 32 := Scalar.addi v356 v326
  let v358 : BitVec 32 := v357
  let v361 : Index := Scalar.indexCast v358
  let c0_318 : Index := 0#32
  ![v361.toNat, 0]
def k0_cond31 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c8192_i32_303 : BitVec 32 := 8192#32
  let v330 : BitVec 1 := Scalar.cmpi .slt v326 c8192_i32_303
  let v331 : BitVec 32 := Scalar.extui v330
  let c0_i32_304 : BitVec 32 := 0#32
  let v332 : BitVec 1 := Scalar.cmpi .ne v331 c0_i32_304
  v332

@[reducible] def k0_t11_loop : Scf.Loop 32 :=
  let c0_i32_306 : BitVec 32 := 0#32
  let c8_i32_307 : BitVec 32 := 8#32
  let v333 : BitVec 32 := Scalar.addi c0_i32_306 c8_i32_307
  let c1_i32_308 : BitVec 32 := 1#32
  ⟨c0_i32_306, v333, c1_i32_308⟩
def k0_mult7 (k0_t11 : Fin k0_t11_loop.trips) : BitVec 32 :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  v334
def k0_off40 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v336 : Index := Scalar.indexCast v335
  let c0 : Index := 0#32
  ![v336.toNat, 0]
def k0_cond32 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c32_i32 : BitVec 32 := 32#32
  let v338 : BitVec 1 := Scalar.cmpi .eq v326 c32_i32
  let v339 : BitVec 32 := Scalar.extui v338
  let c0_i32_311 : BitVec 32 := 0#32
  let v340 : BitVec 1 := Scalar.cmpi .ne v339 c0_i32_311
  v340

def k0_off41 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond33 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c64_i32 : BitVec 32 := 64#32
  let v341 : BitVec 1 := Scalar.cmpi .eq v326 c64_i32
  let v342 : BitVec 32 := Scalar.extui v341
  let c0_i32_312 : BitVec 32 := 0#32
  let v343 : BitVec 1 := Scalar.cmpi .ne v342 c0_i32_312
  v343

def k0_off42 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond34 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c128_i32_313 : BitVec 32 := 128#32
  let v344 : BitVec 1 := Scalar.cmpi .eq v326 c128_i32_313
  let v345 : BitVec 32 := Scalar.extui v344
  let c0_i32_314 : BitVec 32 := 0#32
  let v346 : BitVec 1 := Scalar.cmpi .ne v345 c0_i32_314
  v346

def k0_off43 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond35 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c256_i32 : BitVec 32 := 256#32
  let v347 : BitVec 1 := Scalar.cmpi .eq v326 c256_i32
  let v348 : BitVec 32 := Scalar.extui v347
  let c0_i32_315 : BitVec 32 := 0#32
  let v349 : BitVec 1 := Scalar.cmpi .ne v348 c0_i32_315
  v349

def k0_off44 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond36 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c512_i32 : BitVec 32 := 512#32
  let v350 : BitVec 1 := Scalar.cmpi .eq v326 c512_i32
  let v351 : BitVec 32 := Scalar.extui v350
  let c0_i32_316 : BitVec 32 := 0#32
  let v352 : BitVec 1 := Scalar.cmpi .ne v351 c0_i32_316
  v352

def k0_off45 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond37 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c1024_i32 : BitVec 32 := 1024#32
  let v353 : BitVec 1 := Scalar.cmpi .eq v326 c1024_i32
  let v354 : BitVec 32 := Scalar.extui v353
  let c0_i32_317 : BitVec 32 := 0#32
  let v355 : BitVec 1 := Scalar.cmpi .ne v354 c0_i32_317
  v355

def k0_off46 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond38 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c2048_i32 : BitVec 32 := 2048#32
  let v356 : BitVec 1 := Scalar.cmpi .eq v326 c2048_i32
  let v357 : BitVec 32 := Scalar.extui v356
  let c0_i32_318 : BitVec 32 := 0#32
  let v358 : BitVec 1 := Scalar.cmpi .ne v357 c0_i32_318
  v358

def k0_off47 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
def k0_cond39 (k0_t5 : Fin k0_t5_loop.trips) (k0_t9 : Fin (k0_t9_loop k0_t5).trips) : BitVec 1 :=
  let c1_i32_289 : BitVec 32 := 1#32
  let c14_i32 : BitVec 32 := 14#32
  let c1_i32_171 : BitVec 32 := 1#32
  let arg8 : BitVec 32 := Scf.iv c14_i32 c1_i32_171 k0_t5
  let v317 : BitVec 32 := Scalar.shli c1_i32_289 arg8
  let c0_i32_292 : BitVec 32 := 0#32
  let c5_i32_290 : BitVec 32 := 5#32
  let v318 : BitVec 32 := Scalar.subi arg8 c5_i32_290
  let v319 : BitVec 32 := Scalar.subi v318 c0_i32_292
  let c1_i32_293 : BitVec 32 := 1#32
  let v321 : BitVec 32 := Scalar.divsi v319 c1_i32_293
  let v322 : BitVec 32 := Scalar.muli v321 c1_i32_293
  let v323 : BitVec 32 := Scalar.addi c0_i32_292 v322
  let c1_i32_295 : BitVec 32 := 1#32
  let arg9 : BitVec 32 := Scf.iv v323 c1_i32_295 k0_t9
  let c1_i32_300 : BitVec 32 := 1#32
  let v325 : BitVec 32 := Scalar.addi arg9 c1_i32_300
  let v326 : BitVec 32 := Scalar.shrsi v317 v325
  let c4096_i32 : BitVec 32 := 4096#32
  let v359 : BitVec 1 := Scalar.cmpi .eq v326 c4096_i32
  let v360 : BitVec 32 := Scalar.extui v359
  let c0_i32_319 : BitVec 32 := 0#32
  let v361 : BitVec 1 := Scalar.cmpi .ne v360 c0_i32_319
  v361

def k0_off48 (k0_t11 : Fin k0_t11_loop.trips) : Fin 2 → Nat :=
  let c0_i32_306 : BitVec 32 := 0#32
  let c1_i32_308 : BitVec 32 := 1#32
  let arg10 : BitVec 32 := Scf.iv c0_i32_306 c1_i32_308 k0_t11
  let c8192_i32_310 : BitVec 32 := 8192#32
  let v334 : BitVec 32 := Scalar.muli arg10 c8192_i32_310
  let v335 : BitVec 32 := v334
  let v388 : Index := Scalar.indexCast v335
  let c0_322 : Index := 0#32
  ![v388.toNat, 0]
@[reducible] def k0_t12_loop : Scf.Loop 32 :=
  let c0_i32_296 : BitVec 32 := 0#32
  let c8_i32_297 : BitVec 32 := 8#32
  let v324 : BitVec 32 := Scalar.addi c0_i32_296 c8_i32_297
  let c1_i32_298 : BitVec 32 := 1#32
  ⟨c0_i32_296, v324, c1_i32_298⟩
def k0_mult8 (k0_t12 : Fin k0_t12_loop.trips) : BitVec 32 :=
  let c0_i32_296 : BitVec 32 := 0#32
  let c1_i32_298 : BitVec 32 := 1#32
  let arg9 : BitVec 32 := Scf.iv c0_i32_296 c1_i32_298 k0_t12
  let c8192_i32_300 : BitVec 32 := 8192#32
  let v325 : BitVec 32 := Scalar.muli arg9 c8192_i32_300
  v325
def k0_off49 (k0_t12 : Fin k0_t12_loop.trips) : Fin 2 → Nat :=
  let c0_i32_296 : BitVec 32 := 0#32
  let c1_i32_298 : BitVec 32 := 1#32
  let arg9 : BitVec 32 := Scf.iv c0_i32_296 c1_i32_298 k0_t12
  let c8192_i32_300 : BitVec 32 := 8192#32
  let v325 : BitVec 32 := Scalar.muli arg9 c8192_i32_300
  let v326 : BitVec 32 := v325
  let v327 : Index := Scalar.indexCast v326
  let c0 : Index := 0#32
  ![v327.toNat, 0]
def k0_cond40 (k0_t5 : Fin k0_t5_loop.trips) : BitVec 1 :=
  let c14_i32 : BitVec 32 := 14#32
  let c1_i32_171 : BitVec 32 := 1#32
  let arg8 : BitVec 32 := Scf.iv c14_i32 c1_i32_171 k0_t5
  let c16_i32_319 : BitVec 32 := 16#32
  let v462 : BitVec 1 := Scalar.cmpi .eq arg8 c16_i32_319
  let v463 : BitVec 32 := Scalar.extui v462
  let c0_i32_320 : BitVec 32 := 0#32
  let v464 : BitVec 1 := Scalar.cmpi .ne v463 c0_i32_320
  v464

def k0_cond41 (d0 : Dev nD) (k0_t12 : Fin k0_t12_loop.trips) : BitVec 1 :=
  let c0_i32_296 : BitVec 32 := 0#32
  let c1_i32_298 : BitVec 32 := 1#32
  let arg9 : BitVec 32 := Scf.iv c0_i32_296 c1_i32_298 k0_t12
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v465 : BitVec 1 := Scalar.cmpi .eq arg9 v2
  let v466 : BitVec 32 := Scalar.extui v465
  let c0_i32_321 : BitVec 32 := 0#32
  let v467 : BitVec 1 := Scalar.cmpi .ne v466 c0_i32_321
  v467

def k0_off50 (d0 : Dev nD) : Fin 2 → Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_324 : BitVec 32 := 128#32
  let v472 : BitVec 32 := Scalar.muli v2 c128_i32_324
  ![0, v472.toNat]
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32_323 : BitVec 32 := 8192#32
  let v471 : BitVec 32 := Scalar.muli v2 c8192_i32_323
  let c0_i32_326 : BitVec 32 := 0#32
  ![v471.toNat, 0]
def k0_cond42 (d0 : Dev nD) (k0_t12 : Fin k0_t12_loop.trips) : BitVec 1 :=
  let c0_i32_296 : BitVec 32 := 0#32
  let c1_i32_298 : BitVec 32 := 1#32
  let arg9 : BitVec 32 := Scf.iv c0_i32_296 c1_i32_298 k0_t12
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v468 : BitVec 1 := Scalar.cmpi .ne arg9 v2
  let v469 : BitVec 32 := Scalar.extui v468
  let c0_i32_322 : BitVec 32 := 0#32
  let v470 : BitVec 1 := Scalar.cmpi .ne v469 c0_i32_322
  v470

def k0_off52 (k0_t12 : Fin k0_t12_loop.trips) : Fin 1 → Nat :=
  let c0_i32_296 : BitVec 32 := 0#32
  let c1_i32_298 : BitVec 32 := 1#32
  let arg9 : BitVec 32 := Scf.iv c0_i32_296 c1_i32_298 k0_t12
  ![arg9.toNat]
def k0_off53 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off54 (d0 : Dev nD) : Fin 2 → Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_324 : BitVec 32 := 128#32
  let v472 : BitVec 32 := Scalar.muli v2 c128_i32_324
  ![0, v472.toNat]
def k0_off55 (k0_t12 : Fin k0_t12_loop.trips) : Fin 2 → Nat :=
  let c0_i32_296 : BitVec 32 := 0#32
  let c1_i32_298 : BitVec 32 := 1#32
  let arg9 : BitVec 32 := Scf.iv c0_i32_296 c1_i32_298 k0_t12
  let c8192_i32_323 : BitVec 32 := 8192#32
  let v471 : BitVec 32 := Scalar.muli arg9 c8192_i32_323
  let c0_i32_328 : BitVec 32 := 0#32
  ![v471.toNat, 0]
def k0_dev15 (k0_t12 : Fin k0_t12_loop.trips) : Nat :=
  let c0_i32_326 : BitVec 32 := 0#32
  let c0_i32_296 : BitVec 32 := 0#32
  let c1_i32_298 : BitVec 32 := 1#32
  let arg9 : BitVec 32 := Scf.iv c0_i32_296 c1_i32_298 k0_t12
  let c1_i32_325 : BitVec 32 := 1#32
  let v473 : BitVec 32 := Scalar.muli arg9 c1_i32_325
  let v474 : BitVec 32 := Scalar.addi c0_i32_326 v473
  v474.toNat
def k0_off56 (d0 : Dev nD) (c1_i32_173 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v180 : BitVec 32 := Scalar.addi v2 c1_i32_173
  let c8_i32_174 : BitVec 32 := 8#32
  let v181 : BitVec 32 := Scalar.remsi v180 c8_i32_174
  ![v181.toNat]
def k0_off57 (d0 : Dev nD) (c1_i32_173 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v180 : BitVec 32 := Scalar.addi v2 c1_i32_173
  let c8_i32_174 : BitVec 32 := 8#32
  let v181 : BitVec 32 := Scalar.remsi v180 c8_i32_174
  let c8192_i32_175 : BitVec 32 := 8192#32
  let v182 : BitVec 32 := Scalar.muli v181 c8192_i32_175
  let c0_i32_178 : BitVec 32 := 0#32
  ![v182.toNat, 0]
def k0_off58 (d0 : Dev nD) (c1_i32_226 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.subi v2 c1_i32_226
  let c8_i32_227 : BitVec 32 := 8#32
  let v241 : BitVec 32 := Scalar.addi v240 c8_i32_227
  let c8_i32_228 : BitVec 32 := 8#32
  let v242 : BitVec 32 := Scalar.remsi v241 c8_i32_228
  ![v242.toNat]
def k0_off59 (d0 : Dev nD) (c1_i32_226 : BitVec 32) : Fin 2 → Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.subi v2 c1_i32_226
  let c8_i32_227 : BitVec 32 := 8#32
  let v241 : BitVec 32 := Scalar.addi v240 c8_i32_227
  let c8_i32_228 : BitVec 32 := 8#32
  let v242 : BitVec 32 := Scalar.remsi v241 c8_i32_228
  let c128_i32_230 : BitVec 32 := 128#32
  let v244 : BitVec 32 := Scalar.muli v242 c128_i32_230
  ![0, v244.toNat]
def k0_off60 (d0 : Dev nD) (c1_i32_226 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v240 : BitVec 32 := Scalar.subi v2 c1_i32_226
  let c8_i32_227 : BitVec 32 := 8#32
  let v241 : BitVec 32 := Scalar.addi v240 c8_i32_227
  let c8_i32_228 : BitVec 32 := 8#32
  let v242 : BitVec 32 := Scalar.remsi v241 c8_i32_228
  let c8192_i32_229 : BitVec 32 := 8192#32
  let v243 : BitVec 32 := Scalar.muli v242 c8192_i32_229
  let c0_i32_234 : BitVec 32 := 0#32
  ![v243.toNat, 0]
def k0_dev16 (d0 : Dev nD) : Nat :=
  let c0_i32_293_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_289_r0 : BitVec 32 := 1#32
  let v318_r0 : BitVec 32 := Scalar.addi v2 c1_i32_289_r0
  let c8_i32_290_r0 : BitVec 32 := 8#32
  let v319_r0 : BitVec 32 := Scalar.remsi v318_r0 c8_i32_290_r0
  let c1_i32_292_r0 : BitVec 32 := 1#32
  let v320_r0 : BitVec 32 := Scalar.muli v319_r0 c1_i32_292_r0
  let v321_r0 : BitVec 32 := Scalar.addi c0_i32_293_r0 v320_r0
  v321_r0.toNat
def k0_dev17 (d0 : Dev nD) : Nat :=
  let c0_i32_298_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_294_r0 : BitVec 32 := 2#32
  let v322_r0 : BitVec 32 := Scalar.addi v2 c2_i32_294_r0
  let c8_i32_295_r0 : BitVec 32 := 8#32
  let v323_r0 : BitVec 32 := Scalar.remsi v322_r0 c8_i32_295_r0
  let c1_i32_297_r0 : BitVec 32 := 1#32
  let v324_r0 : BitVec 32 := Scalar.muli v323_r0 c1_i32_297_r0
  let v325_r0 : BitVec 32 := Scalar.addi c0_i32_298_r0 v324_r0
  v325_r0.toNat
def k0_dev18 (d0 : Dev nD) : Nat :=
  let c0_i32_303_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_299_r0 : BitVec 32 := 3#32
  let v326_r0 : BitVec 32 := Scalar.addi v2 c3_i32_299_r0
  let c8_i32_300_r0 : BitVec 32 := 8#32
  let v327_r0 : BitVec 32 := Scalar.remsi v326_r0 c8_i32_300_r0
  let c1_i32_302_r0 : BitVec 32 := 1#32
  let v328_r0 : BitVec 32 := Scalar.muli v327_r0 c1_i32_302_r0
  let v329_r0 : BitVec 32 := Scalar.addi c0_i32_303_r0 v328_r0
  v329_r0.toNat
def k0_dev19 (d0 : Dev nD) : Nat :=
  let c0_i32_308_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_304_r0 : BitVec 32 := 4#32
  let v330_r0 : BitVec 32 := Scalar.addi v2 c4_i32_304_r0
  let c8_i32_305_r0 : BitVec 32 := 8#32
  let v331_r0 : BitVec 32 := Scalar.remsi v330_r0 c8_i32_305_r0
  let c1_i32_307_r0 : BitVec 32 := 1#32
  let v332_r0 : BitVec 32 := Scalar.muli v331_r0 c1_i32_307_r0
  let v333_r0 : BitVec 32 := Scalar.addi c0_i32_308_r0 v332_r0
  v333_r0.toNat
def k0_dev20 (d0 : Dev nD) : Nat :=
  let c0_i32_313_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_309_r0 : BitVec 32 := 5#32
  let v334_r0 : BitVec 32 := Scalar.addi v2 c5_i32_309_r0
  let c8_i32_310_r0 : BitVec 32 := 8#32
  let v335_r0 : BitVec 32 := Scalar.remsi v334_r0 c8_i32_310_r0
  let c1_i32_312_r0 : BitVec 32 := 1#32
  let v336_r0 : BitVec 32 := Scalar.muli v335_r0 c1_i32_312_r0
  let v337_r0 : BitVec 32 := Scalar.addi c0_i32_313_r0 v336_r0
  v337_r0.toNat
def k0_dev21 (d0 : Dev nD) : Nat :=
  let c0_i32_318_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_314_r0 : BitVec 32 := 6#32
  let v338_r0 : BitVec 32 := Scalar.addi v2 c6_i32_314_r0
  let c8_i32_315_r0 : BitVec 32 := 8#32
  let v339_r0 : BitVec 32 := Scalar.remsi v338_r0 c8_i32_315_r0
  let c1_i32_317_r0 : BitVec 32 := 1#32
  let v340_r0 : BitVec 32 := Scalar.muli v339_r0 c1_i32_317_r0
  let v341_r0 : BitVec 32 := Scalar.addi c0_i32_318_r0 v340_r0
  v341_r0.toNat
def k0_dev22 (d0 : Dev nD) : Nat :=
  let c0_i32_323_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_319_r0 : BitVec 32 := 7#32
  let v342_r0 : BitVec 32 := Scalar.addi v2 c7_i32_319_r0
  let c8_i32_320_r0 : BitVec 32 := 8#32
  let v343_r0 : BitVec 32 := Scalar.remsi v342_r0 c8_i32_320_r0
  let c1_i32_322_r0 : BitVec 32 := 1#32
  let v344_r0 : BitVec 32 := Scalar.muli v343_r0 c1_i32_322_r0
  let v345_r0 : BitVec 32 := Scalar.addi c0_i32_323_r0 v344_r0
  v345_r0.toNat
-- ==== KernelIdeal.lean ====
variable {F : FTy → Type} [FloatOps F]
-- ==== ReferenceIdeal.lean ====
abbrev S65536x1024 : Shape := ⟨2, ![65536, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S65536x1024, .f32⟩
  | .hbm, ⟨3, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.K.Loops.lean ====
/-
The sorting loops on the device's own slabs: what each trip takes a slab from and to, given the laws of the payloads; the
loop invariants over them.
-/
module

public import proofs.«01_k».proof.Proof.K.Steps

@[expose] public section

noncomputable section

namespace Cert.Kernel.Net

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ UU ℕ

variable (m : (ℓ : Loc nD τ sig) → Buf (Elt F) ℓ) (Gd : Know F)

/-! ## The loops' trips -/

/-- The slab of trip `t` of the first sorting loop. -/
abbrev slabOf (c : Dev nD) (t : Fin k0_t1_loop.trips) : Dev nD := ⟨(c.val + 8 - t.val) % 8, Nat.mod_lt _ (by decide)⟩
/-- The slab of a trip of the loops over all slabs. -/
abbrev slab8 (t : Fin k0_t8_loop.trips) : Dev nD := ⟨t.val, lt_of_lt_of_eq t.isLt (by decide)⟩
abbrev slab12 (t : Fin k0_t12_loop.trips) : Dev nD := ⟨t.val, lt_of_lt_of_eq t.isLt (by decide)⟩

/-- A device's number as the kernel computes it. -/
abbrev v2w (c : Dev nD) : BitVec 32 := Scalar.remsi (Scalar.divsi (Dev.word c) 1#32) 8#32

/-- The stages of the first `t` levels. -/
def tri (t : ℕ) : ℕ := t * (t + 1) / 2

/-- The first loop runs over the eight slabs. -/
theorem trips1 : k0_t1_loop.trips = 8 := by decide
/-- Thirteen levels lie within a slab. -/
theorem trips2 : k0_t2_loop.trips = 13 := by decide
/-- A level of the first loop has so many stages before its last five. -/
theorem trips3 : ∀ t2 : Fin k0_t2_loop.trips, (k0_t3_loop t2).trips = t2.val - 4 := by decide +kernel
/-- The other half of that loop never runs. -/
theorem trips4 : ∀ t2 : Fin k0_t2_loop.trips, (k0_t4_loop t2).trips = 0 := by decide +kernel
/-- Three levels lie between slabs. -/
theorem trips5 : k0_t5_loop.trips = 3 := by decide
/-- A level of the second loop has so many stages before its last five. -/
theorem trips6 : ∀ t5 : Fin k0_t5_loop.trips, (k0_t6_loop t5).trips = t5.val + 9 := by decide +kernel
/-- A stage between slabs works on four pairs. -/
theorem trips7 : k0_t7_loop.trips = 4 := by decide
/-- A stage within the slabs works on all eight. -/
theorem trips8 : k0_t8_loop.trips = 8 := by decide
/-- The other half of that loop never runs. -/
theorem trips9 : ∀ t5 : Fin k0_t5_loop.trips, (k0_t9_loop t5).trips = 0 := by decide +kernel
/-- The last five stages work on all eight slabs. -/
theorem trips12 : k0_t12_loop.trips = 8 := by decide

/-- Which stage of the first loop runs the case of distance 32. -/
theorem cond2_iff : ∀ (t2 : Fin k0_t2_loop.trips) (t3 : Fin (k0_t3_loop t2).trips), k0_cond2 t2 t3 = 1#1 ↔ t2.val - t3.val = 5 := by decide +kernel
/-- Which stage of the first loop runs the case of distance 64. -/
theorem cond3_iff : ∀ (t2 : Fin k0_t2_loop.trips) (t3 : Fin (k0_t3_loop t2).trips), k0_cond3 t2 t3 = 1#1 ↔ t2.val - t3.val = 6 := by decide +kernel
/-- Which stage of the first loop runs the case of distance 128. -/
theorem cond4_iff : ∀ (t2 : Fin k0_t2_loop.trips) (t3 : Fin (k0_t3_loop t2).trips), k0_cond4 t2 t3 = 1#1 ↔ t2.val - t3.val = 7 := by decide +kernel
/-- Which stage of the first loop runs the case of distance 256. -/
theorem cond5_iff : ∀ (t2 : Fin k0_t2_loop.trips) (t3 : Fin (k0_t3_loop t2).trips), k0_cond5 t2 t3 = 1#1 ↔ t2.val - t3.val = 8 := by decide +kernel
/-- Which stage of the first loop runs the case of distance 512. -/
theorem cond6_iff : ∀ (t2 : Fin k0_t2_loop.trips) (t3 : Fin (k0_t3_loop t2).trips), k0_cond6 t2 t3 = 1#1 ↔ t2.val - t3.val = 9 := by decide +kernel
/-- Which stage of the first loop runs the case of distance 1024. -/
theorem cond7_iff : ∀ (t2 : Fin k0_t2_loop.trips) (t3 : Fin (k0_t3_loop t2).trips), k0_cond7 t2 t3 = 1#1 ↔ t2.val - t3.val = 10 := by decide +kernel
/-- Which stage of the first loop runs the case of distance 2048. -/
theorem cond8_iff : ∀ (t2 : Fin k0_t2_loop.trips) (t3 : Fin (k0_t3_loop t2).trips), k0_cond8 t2 t3 = 1#1 ↔ t2.val - t3.val = 11 := by decide +kernel
/-- Which stage of the first loop runs the case of distance 4096. -/
theorem cond9_iff : ∀ (t2 : Fin k0_t2_loop.trips) (t3 : Fin (k0_t3_loop t2).trips), k0_cond9 t2 t3 = 1#1 ↔ t2.val - t3.val = 12 := by decide +kernel
/-- The distances of the stages of the first loop before the last five. -/
theorem q3 : ∀ (t2 : Fin k0_t2_loop.trips) (t3 : Fin (k0_t3_loop t2).trips), 5 ≤ t2.val - t3.val ∧ t2.val - t3.val ≤ 12 := by decide +kernel
/-- The last five stages run without gates from the fifth level on. -/
theorem cond18_iff : ∀ t2 : Fin k0_t2_loop.trips, k0_cond18 t2 = 1#1 ↔ 4 ≤ t2.val := by decide +kernel
/-- The last five stages run with gates in the first four levels. -/
theorem cond19_iff : ∀ t2 : Fin k0_t2_loop.trips, k0_cond19 t2 = 1#1 ↔ t2.val < 4 := by decide +kernel
/-- The first loop waits for a landing except at its own slab. -/
theorem cond1_iff : ∀ t1 : Fin k0_t1_loop.trips, k0_cond1 t1 = 1#1 ↔ t1.val ≠ 0 := by decide +kernel
/-- The first stages of a level of the second loop are between slabs. -/
theorem cond20_iff : ∀ (t5 : Fin k0_t5_loop.trips) (t6 : Fin (k0_t6_loop t5).trips), k0_cond20 t5 t6 = 1#1 ↔ t6.val ≤ t5.val := by decide +kernel
/-- The others are within the slabs. -/
theorem cond21_iff : ∀ (t5 : Fin k0_t5_loop.trips) (t6 : Fin (k0_t6_loop t5).trips), k0_cond21 t5 t6 = 1#1 ↔ ¬ t6.val ≤ t5.val := by decide +kernel
/-- Which stage of the second loop runs the case of distance 32. -/
theorem cond22_iff : ∀ (t5 : Fin k0_t5_loop.trips) (t6 : Fin (k0_t6_loop t5).trips), k0_cond22 t5 t6 = 1#1 ↔ t5.val + 13 - t6.val = 5 := by decide +kernel
/-- Which stage of the second loop runs the case of distance 64. -/
theorem cond23_iff : ∀ (t5 : Fin k0_t5_loop.trips) (t6 : Fin (k0_t6_loop t5).trips), k0_cond23 t5 t6 = 1#1 ↔ t5.val + 13 - t6.val = 6 := by decide +kernel
/-- Which stage of the second loop runs the case of distance 128. -/
theorem cond24_iff : ∀ (t5 : Fin k0_t5_loop.trips) (t6 : Fin (k0_t6_loop t5).trips), k0_cond24 t5 t6 = 1#1 ↔ t5.val + 13 - t6.val = 7 := by decide +kernel
/-- Which stage of the second loop runs the case of distance 256. -/
theorem cond25_iff : ∀ (t5 : Fin k0_t5_loop.trips) (t6 : Fin (k0_t6_loop t5).trips), k0_cond25 t5 t6 = 1#1 ↔ t5.val + 13 - t6.val = 8 := by decide +kernel
/-- Which stage of the second loop runs the case of distance 512. -/
theorem cond26_iff : ∀ (t5 : Fin k0_t5_loop.trips) (t6 : Fin (k0_t6_loop t5).trips), k0_cond26 t5 t6 = 1#1 ↔ t5.val + 13 - t6.val = 9 := by decide +kernel
/-- Which stage of the second loop runs the case of distance 1024. -/
theorem cond27_iff : ∀ (t5 : Fin k0_t5_loop.trips) (t6 : Fin (k0_t6_loop t5).trips), k0_cond27 t5 t6 = 1#1 ↔ t5.val + 13 - t6.val = 10 := by decide +kernel
/-- Which stage of the second loop runs the case of distance 2048. -/
theorem cond28_iff : ∀ (t5 : Fin k0_t5_loop.trips) (t6 : Fin (k0_t6_loop t5).trips), k0_cond28 t5 t6 = 1#1 ↔ t5.val + 13 - t6.val = 11 := by decide +kernel
/-- Which stage of the second loop runs the case of distance 4096. -/
theorem cond29_iff : ∀ (t5 : Fin k0_t5_loop.trips) (t6 : Fin (k0_t6_loop t5).trips), k0_cond29 t5 t6 = 1#1 ↔ t5.val + 13 - t6.val = 12 := by decide +kernel
/-- The distances of the stages of the second loop within the slabs before the last five. -/
theorem q6 : ∀ (t5 : Fin k0_t5_loop.trips) (t6 : Fin (k0_t6_loop t5).trips), k0_cond21 t5 t6 = 1#1 → 5 ≤ t5.val + 13 - t6.val ∧ t5.val + 13 - t6.val ≤ 12 := by decide +kernel
/-- The last level is the one that sends. -/
theorem cond40_iff : ∀ t5 : Fin k0_t5_loop.trips, k0_cond40 t5 = 1#1 ↔ t5.val = 2 := by decide +kernel
/-- The own slab is copied. -/
theorem cond41_iff : ∀ (c : Dev nD) (t : Fin k0_t12_loop.trips), k0_cond41 c t = 1#1 ↔ slab12 t = c := by decide +kernel
/-- The other slabs are sent. -/
theorem cond42_iff : ∀ (c : Dev nD) (t : Fin k0_t12_loop.trips), k0_cond42 c t = 1#1 ↔ slab12 t ≠ c := by decide +kernel

/-- The two slabs of a trip of the pairing loop: the lower at `t7` with a zero put in at bit `t5 - t6`, the upper at a one. -/
def lo7 (t5 t6 t7 : ℕ) : ℕ := t7 / 2 ^ (t5 - t6) * 2 ^ (t5 - t6 + 1) + t7 % 2 ^ (t5 - t6)
def hi7 (t5 t6 t7 : ℕ) : ℕ := lo7 t5 t6 t7 + 2 ^ (t5 - t6)
/-- The lower slab of a pair is one of the eight. -/
theorem lo7_lt : ∀ (t5 : Fin k0_t5_loop.trips) (t6 : Fin (k0_t6_loop t5).trips) (t7 : Fin k0_t7_loop.trips), k0_cond20 t5 t6 = 1#1 → lo7 t5 t6 t7 < 8 := by decide +kernel
/-- The upper slab of a pair is one of the eight. -/
theorem hi7_lt : ∀ (t5 : Fin k0_t5_loop.trips) (t6 : Fin (k0_t6_loop t5).trips) (t7 : Fin k0_t7_loop.trips), k0_cond20 t5 t6 = 1#1 → hi7 t5 t6 t7 < 8 := by decide +kernel
/-- Where the lower slab of a pair begins. -/
theorem off27_eq' : ∀ (t5 : Fin k0_t5_loop.trips) (t6 : Fin (k0_t6_loop t5).trips) (t7 : Fin k0_t7_loop.trips), k0_cond20 t5 t6 = 1#1 → k0_off27 t5 t6 t7 = ![8192 * lo7 t5 t6 t7, 0] := by decide +kernel
/-- Where the upper slab of a pair begins. -/
theorem off28_eq' : ∀ (t5 : Fin k0_t5_loop.trips) (t6 : Fin (k0_t6_loop t5).trips) (t7 : Fin k0_t7_loop.trips), k0_cond20 t5 t6 = 1#1 → k0_off28 t5 t6 t7 = ![8192 * hi7 t5 t6 t7, 0] := by decide +kernel
abbrev slabL (t5 : Fin k0_t5_loop.trips) (t6 : Fin (k0_t6_loop t5).trips) (t7 : Fin k0_t7_loop.trips) (h : k0_cond20 t5 t6 = 1#1) : Dev nD := ⟨lo7 t5 t6 t7, lo7_lt t5 t6 t7 h⟩
abbrev slabH (t5 : Fin k0_t5_loop.trips) (t6 : Fin (k0_t6_loop t5).trips) (t7 : Fin k0_t7_loop.trips) (h : k0_cond20 t5 t6 = 1#1) : Dev nD := ⟨hi7 t5 t6 t7, hi7_lt t5 t6 t7 h⟩

/-! ## The laws of the payloads -/

/-- The row of the slab's first element and the level's block size, as the kernel's words. -/
abbrev baseW (c : Dev nD) (t1 : Fin k0_t1_loop.trips) : BitVec 32 :=
  Scalar.muli (Scalar.remsi (Scalar.addi (Scalar.subi (v2w c) (Scf.iv 0#32 1#32 t1)) 8#32) 8#32) 8192#32
abbrev kW1 (t2 : Fin k0_t2_loop.trips) : BitVec 32 := Scalar.shli 1#32 (Scf.iv 1#32 1#32 t2)
abbrev kW5 (t5 : Fin k0_t5_loop.trips) : BitVec 32 := Scalar.shli 1#32 (Scf.iv 14#32 1#32 t5)
abbrev baseW12 (t : Fin k0_t12_loop.trips) : BitVec 32 := Scalar.muli (Scf.iv 0#32 1#32 t) 8192#32

/-- Here nothing is asked of the slabs' contents. -/
structure Laws : Prop where
  land : ∀ c s, Gd 0 c s (xblk m s c)
  all : ∀ n c s v, Gd n c s v

variable (H : Laws m Gd)

/-! ## The loops -/

omit [BitOps F] in
/-- A slab with known contents has had its stages. -/
theorem aG_mk (n : ℕ) (c s : Dev nD) (v : Blk F) (h : Gd n c s v) : (aO c s v : sProp 𝕄) ⊢ aG Gd n c s := by
  unfold aG
  iintro H
  iexists v
  isplitr
  · ipureintro; exact h
  iexact H

omit [BitOps F] in
/-- A slab that has had its stages has contents of which that is known. -/
theorem aG_elim (n : ℕ) (c s : Dev nD) : (aG Gd n c s : sProp 𝕄) ⊢ iprop(∃ v, ⌜Gd n c s v⌝ ∗ aO c s v) := by
  unfold aG; exact Entails.refl _

omit [BitOps F] in
/-- Of all slabs one or two, for what they come to; the others stay. -/
theorem upd1 (c : Dev nD) (f g : Dev nD → ℕ) (s : Dev nD) (h : ∀ s', s' ≠ s → f s' = g s') :
    (bigSep Finset.univ fun s => aG Gd (f s) c s : sProp 𝕄) ⊢ iprop(aG Gd (f s) c s ∗ (aG Gd (g s) c s -∗ bigSep Finset.univ fun s => aG Gd (g s) c s)) := by
  rw [take s (Finset.mem_univ s) rfl (fun s => aG Gd (f s) c s), take s (Finset.mem_univ s) rfl (fun s => aG Gd (g s) c s),
    bigSep_congr (s := Finset.univ.erase s) (Φ := fun s => aG Gd (f s) c s) (Ψ := fun s => aG Gd (g s) c s)
      (fun s' hs => by rw [h s' (Finset.ne_of_mem_erase hs)])]
  iintro ⟨H, Hr⟩
  isplitl [H]; · iexact H
  iintro H
  isplitl [H]; · iexact H
  iexact Hr

omit [BitOps F] in
/-- Two slabs may be taken out and put back changed. -/
theorem upd2 (c : Dev nD) (f g : Dev nD → ℕ) (s t : Dev nD) (hst : t ≠ s) (h : ∀ s', s' ≠ s → s' ≠ t → f s' = g s') :
    (bigSep Finset.univ fun s => aG Gd (f s) c s : sProp 𝕄)
      ⊢ iprop(aG Gd (f s) c s ∗ aG Gd (f t) c t ∗ (iprop(aG Gd (g s) c s ∗ aG Gd (g t) c t) -∗ bigSep Finset.univ fun s => aG Gd (g s) c s)) := by
  have ht : t ∈ Finset.univ.erase s := Finset.mem_erase.mpr ⟨hst, Finset.mem_univ t⟩
  rw [take s (Finset.mem_univ s) rfl (fun s => aG Gd (f s) c s), take s (Finset.mem_univ s) rfl (fun s => aG Gd (g s) c s),
    take t ht rfl (fun s => aG Gd (f s) c s), take t ht rfl (fun s => aG Gd (g s) c s),
    bigSep_congr (s := (Finset.univ.erase s).erase t) (Φ := fun s => aG Gd (f s) c s) (Ψ := fun s => aG Gd (g s) c s)
      (fun s' hs => by rw [h s' (Finset.ne_of_mem_erase (Finset.mem_of_mem_erase hs)) (Finset.ne_of_mem_erase hs)])]
  iintro ⟨H, H', Hr⟩
  isplitl [H]; · iexact H
  isplitl [H']; · iexact H'
  iintro ⟨H, H'⟩
  isplitl [H]; · iexact H
  isplitl [H']; · iexact H'
  iexact Hr

omit [BitOps F] in
/-- Nothing has an index among none. -/
theorem fin0 {n : ℕ} (k : Fin n) (h : n = 0) {P : Prop} : P := by subst h; exact k.elim0

include H

/-- One trip of the loop over the stages between rows 32 or more apart. -/
theorem t3_trip (c : Dev nD) (v112 c0 : BitVec 32) (t1 : Fin k0_t1_loop.trips) (t2 : Fin k0_t2_loop.trips) (t3 : Fin (k0_t3_loop t2).trips) (acc : Unit) :
    aG Gd (tri t2 + t3) c (slabOf c t1) ⊢ WP c (k0_t3_body (F := F) xW (Memref.isWhole_whole _) oW (Memref.isWhole_whole _) aW (Memref.isWhole_whole _) cc0_scratch1 cc0_scratch2 cc0_scratch3 cc0_scratch4 cc0_scratch5 cc0_scoped0 c (v2w c) v112 c0 t1 t2 t3 acc)
      (fun _ => aG Gd (tri t2 + t3 + 1) c (slabOf c t1)) := by
  have hq := q3 t2 t3
  have e2 := cond2_iff t2 t3
  have e3 := cond3_iff t2 t3
  have e4 := cond4_iff t2 t3
  have e5 := cond5_iff t2 t3
  have e6 := cond6_iff t2 t3
  have e7 := cond7_iff t2 t3
  have e8 := cond8_iff t2 t3
  have e9 := cond9_iff t2 t3
  unfold k0_t3_body
  iintro Ha0
  ihave Ha1 := (aG_elim Gd _ c (slabOf c t1)) $$ Ha0
  icases Ha1 with ⟨%v, %hv, Ha⟩
  have hc : t2.val - t3.val = 5 ∨ t2.val - t3.val = 6 ∨ t2.val - t3.val = 7 ∨ t2.val - t3.val = 8 ∨ t2.val - t3.val = 9 ∨ t2.val - t3.val = 10
      ∨ t2.val - t3.val = 11 ∨ t2.val - t3.val = 12 := by omega
  rcases hc with h | h | h | h | h | h | h | h
  · simp only [dif_pos (e2.mpr h), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off8_eq c t1) _ v) $$ Ha; iintro Ha
    iapply (wp_st c (slabOf c t1) _ (k0_off8_eq c t1) _ _ v) $$ Ha; iintro Ha
    iapply (wp_done c)
    iapply (aG_mk Gd _ c (slabOf c t1) _ (H.all _ _ _ _)); iexact Ha
  · simp only [dif_neg (show ¬ k0_cond2 t2 t3 = 1#1 from fun hh => by have := e2.mp hh; omega), dif_pos (e3.mpr h), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off9_eq c t1) _ v) $$ Ha; iintro Ha
    iapply (wp_st c (slabOf c t1) _ (k0_off9_eq c t1) _ _ v) $$ Ha; iintro Ha
    iapply (wp_done c)
    iapply (aG_mk Gd _ c (slabOf c t1) _ (H.all _ _ _ _)); iexact Ha
  · simp only [dif_neg (show ¬ k0_cond2 t2 t3 = 1#1 from fun hh => by have := e2.mp hh; omega), dif_neg (show ¬ k0_cond3 t2 t3 = 1#1 from fun hh => by have := e3.mp hh; omega), dif_pos (e4.mpr h), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off10_eq c t1) _ v) $$ Ha; iintro Ha
    iapply (wp_st c (slabOf c t1) _ (k0_off10_eq c t1) _ _ v) $$ Ha; iintro Ha
    iapply (wp_done c)
    iapply (aG_mk Gd _ c (slabOf c t1) _ (H.all _ _ _ _)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_pos (e5.mpr h), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off11_eq c t1) _ v) $$ Ha; iintro Ha
    iapply (wp_st c (slabOf c t1) _ (k0_off11_eq c t1) _ _ v) $$ Ha; iintro Ha
    iapply (wp_done c)
    iapply (aG_mk Gd _ c (slabOf c t1) _ (H.all _ _ _ _)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_pos (e6.mpr h), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off12_eq c t1) _ v) $$ Ha; iintro Ha
    iapply (wp_st c (slabOf c t1) _ (k0_off12_eq c t1) _ _ v) $$ Ha; iintro Ha
    iapply (wp_done c)
    iapply (aG_mk Gd _ c (slabOf c t1) _ (H.all _ _ _ _)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_pos (e7.mpr h), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off13_eq c t1) _ v) $$ Ha; iintro Ha
    iapply (wp_st c (slabOf c t1) _ (k0_off13_eq c t1) _ _ v) $$ Ha; iintro Ha
    iapply (wp_done c)
    iapply (aG_mk Gd _ c (slabOf c t1) _ (H.all _ _ _ _)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_pos (e8.mpr h), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off14_eq c t1) _ v) $$ Ha; iintro Ha
    iapply (wp_st c (slabOf c t1) _ (k0_off14_eq c t1) _ _ v) $$ Ha; iintro Ha
    iapply (wp_done c)
    iapply (aG_mk Gd _ c (slabOf c t1) _ (H.all _ _ _ _)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_pos (e9.mpr h)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off15_eq c t1) _ v) $$ Ha; iintro Ha
    iapply (wp_st c (slabOf c t1) _ (k0_off15_eq c t1) _ _ v) $$ Ha; iintro Ha
    iapply (wp_done c)
    iapply (aG_mk Gd _ c (slabOf c t1) _ (H.all _ _ _ _)); iexact Ha

/-- One trip of the loop over the levels inside a slab. -/
theorem t2_trip (c : Dev nD) (v112 c0 : BitVec 32) (t1 : Fin k0_t1_loop.trips) (t2 : Fin k0_t2_loop.trips) (acc : Unit) :
    aG Gd (tri t2) c (slabOf c t1) ⊢ WP c (k0_t2_body (F := F) xW (Memref.isWhole_whole _) oW (Memref.isWhole_whole _) aW (Memref.isWhole_whole _) cc0_scratch1 cc0_scratch2 cc0_scratch3 cc0_scratch4 cc0_scratch5 cc0_scoped0 c (v2w c) v112 c0 t1 (baseW c t1) t2 acc)
      (fun _ => aG Gd (tri (t2 + 1)) c (slabOf c t1)) := by
  unfold k0_t2_body
  iintro Ha
  have h18 := cond18_iff t2
  have h19 := cond19_iff t2
  iapply (Scf.wp_for_bind frame (wpE (defs₀ (F := F)) 𝒱₀ (c : Thread nD τ) none) Set.univ _ _ _ (k0_t3_ok t2) _ _
      (fun k _ => aG Gd (tri t2 + k) c (slabOf c t1)) (fun k acc => t3_trip m Gd H c v112 c0 t1 t2 k acc)) $$ [Ha]
  · iexact Ha
  iintro %_u Ha
  iapply (Scf.wp_for_bind frame (wpE (defs₀ (F := F)) 𝒱₀ (c : Thread nD τ) none) Set.univ _ _ _ (k0_t4_ok t2) _ _
      (fun k _ => aG Gd (tri t2 + (t2 - 4)) c (slabOf c t1)) (fun k acc => fin0 k (trips4 t2))) $$ [Ha]
  · rw [show Scf.trips _ _ _ = _ from trips3 t2]; iexact Ha
  iintro %_u Ha
  ihave Ha1 := (aG_elim Gd _ c (slabOf c t1)) $$ Ha
  icases Ha1 with ⟨%v, %hv, Ha⟩
  rcases Nat.lt_or_ge t2.val 4 with h | h
  · simp only [dif_neg (show ¬ k0_cond18 t2 = 1#1 from fun hh => by have := h18.mp hh; omega), dif_pos (h19.mpr h)]
    simp only [k0_part3_eq_skeleton, k0_part4_eq_skeleton]
    unfold k0_part3_skel k0_part4_skel
    simp only [Prog.lift, Prog.bind_op, Prog.bind_ret, Prog.pure_eq_ret]
    iapply (wp_ld c (slabOf c t1) _ (k0_off26_eq c t1) _ v) $$ Ha; iintro Ha
    iapply (wp_ld c (slabOf c t1) _ (k0_off26_eq c t1) _ v) $$ Ha; iintro Ha
    iapply (wp_st c (slabOf c t1) _ (k0_off26_eq c t1) _ _ v) $$ Ha; iintro Ha
    iapply (wp_done c)
    iapply (aG_mk Gd _ c (slabOf c t1) _ (H.all _ _ _ _)); iexact Ha
  · simp only [dif_neg (show ¬ k0_cond19 t2 = 1#1 from fun hh => by have := h19.mp hh; omega), dif_pos (h18.mpr h), k0_part1_eq_skeleton, k0_part2_eq_skeleton]
    unfold k0_part1_skel k0_part2_skel
    simp only [Prog.lift, Prog.bind_op, Prog.bind_ret, Prog.pure_eq_ret]
    iapply (wp_ld c (slabOf c t1) _ (k0_off25_eq c t1) _ v) $$ Ha; iintro Ha
    iapply (wp_ld c (slabOf c t1) _ (k0_off25_eq c t1) _ v) $$ Ha; iintro Ha
    iapply (wp_st c (slabOf c t1) _ (k0_off25_eq c t1) _ _ v) $$ Ha; iintro Ha
    iapply (wp_done c)
    iapply (aG_mk Gd _ c (slabOf c t1) _ (H.all _ _ _ _)); iexact Ha

/-- All the levels inside a slab. -/
theorem t2_loop (c : Dev nD) (v112 c0 : BitVec 32) (t1 : Fin k0_t1_loop.trips) {α : Type} {Q : α → sProp 𝕄}
    {kk : Unit → Prog (TpuEff nD τ sig (Elt F) Λ₀ .tc) α} :
    aG Gd 0 c (slabOf c t1) ⊢ iprop((aG Gd 91 c (slabOf c t1) -∗ WP c (kk ()) Q)
      -∗ WP c (Scf.Loop.for k0_t2_loop k0_t2_ok () (k0_t2_body (F := F) xW (Memref.isWhole_whole _) oW (Memref.isWhole_whole _) aW (Memref.isWhole_whole _) cc0_scratch1 cc0_scratch2 cc0_scratch3 cc0_scratch4 cc0_scratch5 cc0_scoped0 c (v2w c) v112 c0 t1 (baseW c t1)) >>= kk) Q) := by
  iintro Ha Hk
  iapply (Scf.wp_for_bind frame (wpE (defs₀ (F := F)) 𝒱₀ (c : Thread nD τ) none) Set.univ _ _ _ k0_t2_ok _ _
      (fun k _ => aG Gd (tri k) c (slabOf c t1)) (fun k acc => t2_trip m Gd H c v112 c0 t1 k acc)) $$ [Ha]
  · iexact Ha
  rw [show Scf.trips _ _ _ = _ from trips2]
  iintro %_u Ha
  iapply Hk; iexact Ha

/-! ## The stages between slabs -/

/-- The trip of the pairing loop that touches slab `s`. -/
def ix7 (p s : ℕ) : ℕ := s / 2 ^ (p + 1) * 2 ^ p + s % 2 ^ p

omit [BitOps F] H in
/-- Both slabs of a pair belong to its trip, and no other slab does. -/
theorem ix7_lo : ∀ (t5 : Fin k0_t5_loop.trips) (t6 : Fin (k0_t6_loop t5).trips) (t7 : Fin k0_t7_loop.trips) (h : k0_cond20 t5 t6 = 1#1),
    ix7 (t5 - t6) (slabL t5 t6 t7 h).val = t7 ∧ ix7 (t5 - t6) (slabH t5 t6 t7 h).val = t7 ∧ slabH t5 t6 t7 h ≠ slabL t5 t6 t7 h
      ∧ ∀ s : Dev nD, s ≠ slabL t5 t6 t7 h → s ≠ slabH t5 t6 t7 h → ix7 (t5 - t6) s.val ≠ t7 := by decide +kernel
omit [BitOps F] H in
/-- Every slab belongs to one of the four trips. -/
theorem ix7_lt : ∀ (t5 : Fin k0_t5_loop.trips) (t6 : Fin (k0_t6_loop t5).trips) (h : k0_cond20 t5 t6 = 1#1) (s : Dev nD), ix7 (t5 - t6) s.val < 4 := by decide +kernel

/-- One trip of the pairing loop. -/
theorem t7_trip (c : Dev nD) (v2 : BitVec 32) (t5 : Fin k0_t5_loop.trips) (t6 : Fin (k0_t6_loop t5).trips) (h : k0_cond20 t5 t6 = 1#1)
    (t7 : Fin k0_t7_loop.trips) (acc : Unit) :
    (bigSep Finset.univ fun s => aG Gd (if ix7 (t5 - t6) s.val < t7.val then tri (t5 + 13) + t6 + 1 else tri (t5 + 13) + t6) c s)
      ⊢ WP c (k0_t7_body (F := F) xW (Memref.isWhole_whole _) oW (Memref.isWhole_whole _) aW (Memref.isWhole_whole _) cc0_scratch1 cc0_scratch2 cc0_scratch3 cc0_scratch4 cc0_scratch5 cc0_scoped0 c v2 t5 t6 h t7 acc)
      (fun _ => bigSep Finset.univ fun s => aG Gd (if ix7 (t5 - t6) s.val < t7.val + 1 then tri (t5 + 13) + t6 + 1 else tri (t5 + 13) + t6) c s) := by
  obtain ⟨hl, hh, hne, ho⟩ := ix7_lo t5 t6 t7 h
  unfold k0_t7_body
  simp only [Prog.lift, Prog.bind_op, Prog.bind_ret, Prog.pure_eq_ret]
  iintro Hs
  ihave Hs' := (upd2 Gd c (fun s => if ix7 (t5 - t6) s.val < t7.val then tri (t5 + 13) + t6 + 1 else tri (t5 + 13) + t6)
    (fun s => if ix7 (t5 - t6) s.val < t7.val + 1 then tri (t5 + 13) + t6 + 1 else tri (t5 + 13) + t6) (slabL t5 t6 t7 h) (slabH t5 t6 t7 h) hne
    (fun s h1 h2 => by have := ho s h1 h2; simp only [show (ix7 (t5 - t6) s.val < t7.val) = (ix7 (t5 - t6) s.val < t7.val + 1) from propext ⟨fun _ => by omega, fun _ => by omega⟩])) $$ Hs
  simp only [hl, hh, if_neg (Nat.lt_irrefl _), if_pos (Nat.lt_succ_self _)]
  icases Hs' with ⟨Hl, Hh, Hk⟩
  ihave Hl1 := (aG_elim Gd _ c (slabL t5 t6 t7 h)) $$ Hl
  icases Hl1 with ⟨%v, %hv, Hl⟩
  ihave Hh1 := (aG_elim Gd _ c (slabH t5 t6 t7 h)) $$ Hh
  icases Hh1 with ⟨%w, %hw, Hh⟩
  iapply (wp_ld c (slabL t5 t6 t7 h) _ (off27_eq' t5 t6 t7 h) _ v) $$ Hl; iintro Hl
  iapply (wp_ld c (slabH t5 t6 t7 h) _ (off28_eq' t5 t6 t7 h) _ w) $$ Hh; iintro Hh
  iapply (wp_ld c (slabL t5 t6 t7 h) _ (off27_eq' t5 t6 t7 h) _ v) $$ Hl; iintro Hl
  iapply (wp_st c (slabL t5 t6 t7 h) _ (off27_eq' t5 t6 t7 h) _ _ v) $$ Hl; iintro Hl
  iapply (wp_ld c (slabH t5 t6 t7 h) _ (off28_eq' t5 t6 t7 h) _ w) $$ Hh; iintro Hh
  iapply (wp_st c (slabH t5 t6 t7 h) _ (off28_eq' t5 t6 t7 h) _ _ w) $$ Hh; iintro Hh
  iapply (wp_done c)
  iapply Hk
  isplitl [Hl]
  · iapply (aG_mk Gd _ c (slabL t5 t6 t7 h) _ (H.all _ _ _ _)); iexact Hl
  · iapply (aG_mk Gd _ c (slabH t5 t6 t7 h) _ (H.all _ _ _ _)); iexact Hh

/-- One trip of the loop that runs one stage on every slab. -/
theorem t8_trip (c : Dev nD) (v2 : BitVec 32) (t5 : Fin k0_t5_loop.trips) (t6 : Fin (k0_t6_loop t5).trips) (h21 : k0_cond21 t5 t6 = 1#1)
    (t8 : Fin k0_t8_loop.trips) (acc : Unit) :
    (bigSep Finset.univ fun s : Dev nD => aG Gd (if s.val < t8.val then tri (t5 + 13) + t6 + 1 else tri (t5 + 13) + t6) c s)
      ⊢ WP c (k0_t8_body (F := F) xW (Memref.isWhole_whole _) oW (Memref.isWhole_whole _) aW (Memref.isWhole_whole _) cc0_scratch1 cc0_scratch2 cc0_scratch3 cc0_scratch4 cc0_scratch5 cc0_scoped0 c v2 t5 t6 h21 t8 acc)
      (fun _ => bigSep Finset.univ fun s : Dev nD => aG Gd (if s.val < t8.val + 1 then tri (t5 + 13) + t6 + 1 else tri (t5 + 13) + t6) c s) := by
  have hq := q6 t5 t6 h21
  have e2 := cond22_iff t5 t6
  have e3 := cond23_iff t5 t6
  have e4 := cond24_iff t5 t6
  have e5 := cond25_iff t5 t6
  have e6 := cond26_iff t5 t6
  have e7 := cond27_iff t5 t6
  have e8 := cond28_iff t5 t6
  have e9 := cond29_iff t5 t6
  unfold k0_t8_body
  iintro Hs
  ihave Hs' := (upd1 Gd c (fun s => if s.val < t8.val then tri (t5 + 13) + t6 + 1 else tri (t5 + 13) + t6)
    (fun s => if s.val < t8.val + 1 then tri (t5 + 13) + t6 + 1 else tri (t5 + 13) + t6) (slab8 t8)
    (fun s h1 => by have : s.val ≠ t8.val := fun e => h1 (Fin.ext e)
                    simp only [show (s.val < t8.val) = (s.val < t8.val + 1) from propext ⟨fun _ => by omega, fun _ => by omega⟩])) $$ Hs
  simp only [if_neg (Nat.lt_irrefl _), if_pos (Nat.lt_succ_self _)]
  icases Hs' with ⟨Ha0, Hk⟩
  ihave Ha1 := (aG_elim Gd _ c (slab8 t8)) $$ Ha0
  icases Ha1 with ⟨%v, %hv, Ha⟩
  have hc : t5.val + 13 - t6.val = 5 ∨ t5.val + 13 - t6.val = 6 ∨ t5.val + 13 - t6.val = 7 ∨ t5.val + 13 - t6.val = 8 ∨ t5.val + 13 - t6.val = 9 ∨ t5.val + 13 - t6.val = 10
      ∨ t5.val + 13 - t6.val = 11 ∨ t5.val + 13 - t6.val = 12 := by omega
  rcases hc with h | h | h | h | h | h | h | h
  · simp only [dif_pos (e2.mpr h), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off30_eq t8) _ v) $$ Ha; iintro Ha
    iapply (wp_st c (slab8 t8) _ (k0_off30_eq t8) _ _ v) $$ Ha; iintro Ha
    iapply (wp_done c)
    iapply Hk
    iapply (aG_mk Gd _ c (slab8 t8) _ (H.all _ _ _ _)); iexact Ha
  · simp only [dif_neg (show ¬ k0_cond22 t5 t6 = 1#1 from fun hh => by have := e2.mp hh; omega), dif_pos (e3.mpr h), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off31_eq t8) _ v) $$ Ha; iintro Ha
    iapply (wp_st c (slab8 t8) _ (k0_off31_eq t8) _ _ v) $$ Ha; iintro Ha
    iapply (wp_done c)
    iapply Hk
    iapply (aG_mk Gd _ c (slab8 t8) _ (H.all _ _ _ _)); iexact Ha
  · simp only [dif_neg (show ¬ k0_cond22 t5 t6 = 1#1 from fun hh => by have := e2.mp hh; omega), dif_neg (show ¬ k0_cond23 t5 t6 = 1#1 from fun hh => by have := e3.mp hh; omega), dif_pos (e4.mpr h), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off32_eq t8) _ v) $$ Ha; iintro Ha
    iapply (wp_st c (slab8 t8) _ (k0_off32_eq t8) _ _ v) $$ Ha; iintro Ha
    iapply (wp_done c)
    iapply Hk
    iapply (aG_mk Gd _ c (slab8 t8) _ (H.all _ _ _ _)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_pos (e5.mpr h), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off33_eq t8) _ v) $$ Ha; iintro Ha
    iapply (wp_st c (slab8 t8) _ (k0_off33_eq t8) _ _ v) $$ Ha; iintro Ha
    iapply (wp_done c)
    iapply Hk
    iapply (aG_mk Gd _ c (slab8 t8) _ (H.all _ _ _ _)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_pos (e6.mpr h), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off34_eq t8) _ v) $$ Ha; iintro Ha
    iapply (wp_st c (slab8 t8) _ (k0_off34_eq t8) _ _ v) $$ Ha; iintro Ha
    iapply (wp_done c)
    iapply Hk
    iapply (aG_mk Gd _ c (slab8 t8) _ (H.all _ _ _ _)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_pos (e7.mpr h), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off35_eq t8) _ v) $$ Ha; iintro Ha
    iapply (wp_st c (slab8 t8) _ (k0_off35_eq t8) _ _ v) $$ Ha; iintro Ha
    iapply (wp_done c)
    iapply Hk
    iapply (aG_mk Gd _ c (slab8 t8) _ (H.all _ _ _ _)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_pos (e8.mpr h), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off36_eq t8) _ v) $$ Ha; iintro Ha
    iapply (wp_st c (slab8 t8) _ (k0_off36_eq t8) _ _ v) $$ Ha; iintro Ha
    iapply (wp_done c)
    iapply Hk
    iapply (aG_mk Gd _ c (slab8 t8) _ (H.all _ _ _ _)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_pos (e9.mpr h)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off37_eq t8) _ v) $$ Ha; iintro Ha
    iapply (wp_st c (slab8 t8) _ (k0_off37_eq t8) _ _ v) $$ Ha; iintro Ha
    iapply (wp_done c)
    iapply Hk
    iapply (aG_mk Gd _ c (slab8 t8) _ (H.all _ _ _ _)); iexact Ha

/-- One stage on all slabs, whichever loop runs it. -/
theorem t6_trip (c : Dev nD) (v2 : BitVec 32) (t5 : Fin k0_t5_loop.trips) (t6 : Fin (k0_t6_loop t5).trips) (acc : Unit) :
    (bigSep Finset.univ fun s : Dev nD => aG Gd (tri (t5 + 13) + t6) c s)
      ⊢ WP c (k0_t6_body (F := F) xW (Memref.isWhole_whole _) oW (Memref.isWhole_whole _) aW (Memref.isWhole_whole _) cc0_scratch1 cc0_scratch2 cc0_scratch3 cc0_scratch4 cc0_scratch5 cc0_scoped0 c v2 t5 t6 acc)
      (fun _ => bigSep Finset.univ fun s : Dev nD => aG Gd (tri (t5 + 13) + t6 + 1) c s) := by
  unfold k0_t6_body
  iintro Hs
  by_cases h : t6.val ≤ t5.val
  · have h20 := (cond20_iff t5 t6).mpr h
    simp only [dif_pos h20, dif_neg (show ¬ k0_cond21 t5 t6 = 1#1 from fun hh => (cond21_iff t5 t6).mp hh h)]
    iapply (Scf.wp_for_bind frame (wpE (defs₀ (F := F)) 𝒱₀ (c : Thread nD τ) none) Set.univ _ _ _ (k0_t7_ok t5 t6 h20) _ _
      (fun k _ => bigSep Finset.univ fun s : Dev nD => aG Gd (if ix7 (t5 - t6) s.val < k then tri (t5 + 13) + t6 + 1 else tri (t5 + 13) + t6) c s)
      (fun k acc => t7_trip m Gd H c v2 t5 t6 h20 k acc)) $$ [Hs]
    · simp only [if_neg (Nat.not_lt_zero _)]; iexact Hs
    rw [show Scf.trips _ _ _ = _ from trips7]
    simp only [if_pos (ix7_lt t5 t6 h20 _)]
    iintro %_u Hs
    simp only [Prog.lift, Prog.bind_op, Prog.bind_ret, Prog.pure_eq_ret]
    iapply (wp_done c); iexact Hs
  · have h21 := (cond21_iff t5 t6).mpr h
    simp only [dif_pos h21, dif_neg (show ¬ k0_cond20 t5 t6 = 1#1 from fun hh => h ((cond20_iff t5 t6).mp hh))]
    iapply (Scf.wp_for_bind frame (wpE (defs₀ (F := F)) 𝒱₀ (c : Thread nD τ) none) Set.univ _ _ _ (k0_t8_ok t5 t6 h21) _ _
      (fun k _ => bigSep Finset.univ fun s : Dev nD => aG Gd (if s.val < k then tri (t5 + 13) + t6 + 1 else tri (t5 + 13) + t6) c s)
      (fun k acc => t8_trip m Gd H c v2 t5 t6 h21 k acc)) $$ [Hs]
    · simp only [if_neg (Nat.not_lt_zero _)]; iexact Hs
    rw [show Scf.trips _ _ _ = _ from trips8]
    simp only [if_pos (show ∀ s : Dev nD, s.val < 8 from fun s => s.isLt)]
    iintro %_u Hs
    simp only [Prog.lift, Prog.bind_op, Prog.bind_ret, Prog.pure_eq_ret]
    iapply (wp_done c); iexact Hs

end Cert.Kernel.Net
-- ==== Proof.KI.Sched.lean ====
/-
The cross-device protocol of the sorting kernel, as a schedule of rounds.

Device `c` of eight. Its cells: the barrier semaphore, the semaphore of the closing handshake, the local copies' semaphore,
and four arrays of eight DMA semaphores — sends and landings of the first exchange, sends and landings of the second.

* barrier of `c`, one round: every other device `p` signals one unit, handing over slab `c` of `p`'s scratch and column
  block `c` of `p`'s result (what `c` will copy into); `c` waits for seven.
* local semaphore, two rounds: the copy of `c`'s own column block of the argument into its own slab, and at the end the
  copy of its own sorted slab into its own column block of the result.
* first exchange, distance `d = 1..7`: the send cell gives the argument's column block `c + d` back; the landing cell of
  `c` at `d` hands slab `c - d` of `c`'s scratch, holding what `c - d` sent.
* second exchange: the send cell at `r` gives slab `r` back; the landing cell of `c` at `s` hands column block `s` of `c`'s
  result, holding the sorted slab `c` of device `s`.
* closing handshake, one round: one unit from every other device, nothing handed over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The names of a device's cells: barrier; closing handshake, local copies; the four arrays of eight. -/
abbrev CK : Type := Option (Fin 2 ⊕ Fin 4 × Fin 8)

abbrev kBar : CK := none
abbrev kSco : CK := some (.inl 0)
abbrev kLoc : CK := some (.inl 1)
abbrev kS1 (d : Dev nD) : CK := some (.inr (0, d))
abbrev kR1 (d : Dev nD) : CK := some (.inr (1, d))
abbrev kS2 (d : Dev nD) : CK := some (.inr (2, d))
abbrev kR2 (d : Dev nD) : CK := some (.inr (3, d))

abbrev barS : Sem sig := (SemArray.scalar (sig.barrier 0 rfl) : Sems sig S_).sem
abbrev scoS : Sem sig := (cc0_scoped0 : Sems sig S_).sem

/-- The kernel's own semaphores; -/
def osem : Fin 2 ⊕ Fin 4 × Fin 8 → SemLoc sig
  | .inl ⟨0, _⟩ => .reg scoS
  | .inl ⟨_ + 1, _⟩ => .dma (cc0_scratch5 : DmaSems sig S_).sem
  | .inr (a, i) => .dma (⟨8 * a.val + i.val, by have := a.isLt; have := i.isLt; show _ < 33; omega⟩ : Fin 33)

/-- with the barrier, all. -/
def csem : CK → SemLoc sig
  | none => .reg barS
  | some k => osem k

/-- Which cell a semaphore is. -/
def kindOf : SemLoc sig → CK
  | .reg s => if s = barS then kBar else kSco
  | .dma s => if h : s.val < 32 then some (.inr (⟨s.val / 8, by omega⟩, ⟨s.val % 8, Nat.mod_lt _ (by decide)⟩)) else kLoc

/-- The cell of a cell's semaphore is that cell. -/
theorem kindOf_csem (k : CK) : kindOf (csem k) = k := by revert k; decide

/-- Different cells have different semaphores. -/
theorem csem_injective : Function.Injective csem := fun a b h => by rw [← kindOf_csem a, h, kindOf_csem]

abbrev cell (c : Dev nD) (k : CK) : GSem nD τ sig := ((c : Thread nD τ), csem k)
abbrev kcell (ck : Dev nD × CK) : GSem nD τ sig := cell ck.1 ck.2

/-- Different cells of different devices have different semaphores. -/
theorem kcell_injective : Function.Injective kcell := by
  rintro ⟨c, k⟩ ⟨c', k'⟩ h
  have h1 : c = c' := congrArg (fun g : GSem nD τ sig => g.1.1) h
  subst h1
  exact congrArg _ (csem_injective (congrArg Prod.snd h))

/-- Two cells are the same when the devices and the names are. -/
theorem cell_eq_iff {c c' : Dev nD} {k k' : CK} : cell c k = cell c' k' ↔ c = c' ∧ k = k' :=
  ⟨fun h => by have := kcell_injective (a₁ := (c, k)) (a₂ := (c', k')) h; exact ⟨congrArg Prod.fst this, congrArg Prod.snd this⟩,
    fun ⟨h, h'⟩ => by rw [h, h']⟩

/-! ## The memrefs -/

abbrev xW : Memref sig .tc .hbm S8192x1024 .bf16 := Memref.whole main_arg0
abbrev oW : Memref sig .tc .hbm S8192x1024 .bf16 := Memref.whole main_v1
abbrev aW : Memref sig .tc .vmem S65536x128 .bf16 := Memref.whole cc0_scratch0

/-- A column block lies within the array. -/
theorem colInb (r : Dev nD) : ∀ a, (![0, 128 * r.val] : Fin 2 → ℕ) a + S8192x128.size a ≤ S8192x1024.size a := by
  revert r; decide
/-- A slab lies within the scratch. -/
theorem slabInb (s : Dev nD) : ∀ a, (![8192 * s.val, 0] : Fin 2 → ℕ) a + S8192x128.size a ≤ S65536x128.size a := by
  revert s; decide

/-- Column block `r` of a device's block of the array; slab `s` of the scratch. -/
abbrev colR (r : Dev nD) : Rect S8192x1024 := Rect.unit (s := S8192x1024) ![0, 128 * r.val] S8192x128.size (colInb r)
abbrev slabR (s : Dev nD) : Rect S65536x128 := Rect.unit (s := S65536x128) ![8192 * s.val, 0] S8192x128.size (slabInb s)

abbrev xM (r : Dev nD) : Memref sig .tc .hbm S8192x128 .bf16 := xW.slice (colR r) (fun _ => rfl)
abbrev oM (r : Dev nD) : Memref sig .tc .hbm S8192x128 .bf16 := oW.slice (colR r) (fun _ => rfl)
abbrev aM (s : Dev nD) : Memref sig .tc .vmem S8192x128 .bf16 := aW.slice (slabR s) (fun _ => rfl)

abbrev Blk (F : FTy → Type) : Type := S8192x128.Idx → Elt F .bf16

def N : ℕ := (aM 0).view.dmaCredit
/-- A block's credit is positive. -/
theorem N_pos : 0 < N := View.dmaCredit_pos _ (by decide)

/-- The credit of a slab of the scratch. -/
theorem N_aM (s : Dev nD) : (aM s).view.dmaCredit = N := rfl
/-- The credit of a block of the result. -/
theorem N_oM (s : Dev nD) : (oM s).view.dmaCredit = N := rfl
/-- The credit of a block of the argument. -/
theorem N_xM (s : Dev nD) : (xM s).view.dmaCredit = N := rfl

variable (m : (ℓ : Loc nD τ sig) → Buf (Elt F) ℓ)

/-- What is known of the contents of slab `s` of device `c`'s scratch once `n` comparator stages have run on it. -/
abbrev Know (F : FTy → Type) : Type := ℕ → Dev nD → Dev nD → Blk F → Prop

variable (Gd : Know F)

/-- The number of comparator stages of the whole network. -/
abbrev nAll : ℕ := 136

/-- Column block `r` of device `c`'s argument. -/
def xblk (c r : Dev nD) : Blk F := fun j => m ((c : Thread nD τ).loc main_arg0) ((colR r).emb j)

def xO (c r : Dev nD) (v : Blk F) : sProp 𝕄 := owns (c : Thread nD τ) (xM r) fullShare v
def oO (c r : Dev nD) (v : Blk F) : sProp 𝕄 := owns (c : Thread nD τ) (oM r) fullShare v
def aO (c s : Dev nD) (v : Blk F) : sProp 𝕄 := owns (c : Thread nD τ) (aM s) fullShare v

/-- Slab `s` of device `c`'s scratch after `n` stages. -/
def aG (n : ℕ) (c s : Dev nD) : sProp 𝕄 := iprop(∃ v, ⌜Gd n c s v⌝ ∗ aO c s v)
/-- Column block `r` of device `c`'s result, holding slab `c` of device `r`, sorted. -/
def oG (c r : Dev nD) : sProp 𝕄 := iprop(∃ v, ⌜Gd nAll r c v⌝ ∗ oO c r v)
def aAny (c s : Dev nD) : sProp 𝕄 := iprop(∃ v : Blk F, aO c s v)
def oAny (c s : Dev nD) : sProp 𝕄 := iprop(∃ v : Blk F, oO c s v)

omit [FloatOps F] in
instance xO_storable (c r : Dev nD) (v : Blk F) : BI.Storable (upEmb : UEmb _ 𝕄) (xO c r v) := by unfold xO; infer_instance
omit [FloatOps F] in
instance oO_storable (c r : Dev nD) (v : Blk F) : BI.Storable (upEmb : UEmb _ 𝕄) (oO c r v) := by unfold oO; infer_instance
omit [FloatOps F] in
instance aO_storable (c r : Dev nD) (v : Blk F) : BI.Storable (upEmb : UEmb _ 𝕄) (aO c r v) := by unfold aO; infer_instance
omit [FloatOps F] in
instance oG_storable (c r : Dev nD) : BI.Storable (upEmb : UEmb _ 𝕄) (oG Gd c r) := by unfold oG; infer_instance
omit [FloatOps F] in
instance aAny_storable (c r : Dev nD) : BI.Storable (upEmb : UEmb _ 𝕄) (aAny (F := F) c r) := by unfold aAny; infer_instance
omit [FloatOps F] in
instance oAny_storable (c r : Dev nD) : BI.Storable (upEmb : UEmb _ 𝕄) (oAny (F := F) c r) := by unfold oAny; infer_instance

/-! ## The schedule -/

/-- The duties of a device's cell: their names are the paying devices', or `0` where one party pays. -/
def dut (c : Dev nD) (r : ℕ) : CK → Finset (Dev nD)
  | none => if r = 0 then Finset.univ.erase c else ∅
  | some (.inl ⟨0, _⟩) => if r = 0 then Finset.univ.erase c else ∅
  | some (.inl ⟨_ + 1, _⟩) => if r < 2 then {0} else ∅
  | some (.inr (⟨0, _⟩, d)) => if r = 0 ∧ d ≠ 0 then {0} else ∅
  | some (.inr (⟨1, _⟩, d)) => if r = 0 ∧ d ≠ 0 then {0} else ∅
  | some (.inr (⟨_ + 2, _⟩, s)) => if r = 0 ∧ s ≠ c then {0} else ∅

/-- What a duty hands over. -/
def pay (c : Dev nD) (r : ℕ) (p : Dev nD) : CK → sProp 𝕄
  | none => iprop(aAny p c ∗ oAny p c)
  | some (.inl ⟨0, _⟩) => iprop(emp)
  | some (.inl ⟨_ + 1, _⟩) => if r = 0 then iprop(aO c c (xblk m c c) ∗ xO c c (xblk m c c)) else iprop(oG Gd c c ∗ aAny c c)
  | some (.inr (⟨0, _⟩, d)) => xO c (c + d) (xblk m c (c + d))
  | some (.inr (⟨1, _⟩, d)) => aO c (c - d) (xblk m (c - d) c)
  | some (.inr (⟨2, _⟩, s)) => aAny c s
  | some (.inr (⟨_ + 3, _⟩, s)) => oG Gd c s

/-- The units of one duty. -/
def amt : CK → ℕ
  | none => 1
  | some (.inl ⟨0, _⟩) => 1
  | _ => N

/-- Every duty has units. -/
theorem amt_pos (k : CK) : 0 < amt k := by
  unfold amt; split <;> first | exact Nat.one_pos | exact N_pos

instance pay_storable (c : Dev nD) (r : ℕ) (p : Dev nD) (k : CK) : BI.Storable (upEmb : UEmb _ 𝕄) (pay m Gd c r p k) := by
  unfold pay; split <;> (try split) <;> infer_instance

def Rd : Rounds.Schedule (GSem nD τ sig) (Dev nD) 𝕄 where
  duties g r := if g.1.2 = .tc then dut g.1.1 r (kindOf g.2) else ∅
  unitless _ := False
  amount g _ _ := amt (kindOf g.2)
  payload g r d := pay m Gd g.1.1 r d (kindOf g.2)
  amount_pos g _ _ _ := amt_pos _

instance Rd_payload_storable (g : GSem nD τ sig) (r : ℕ) (d : Dev nD) :
    BI.Storable (upEmb : UEmb _ 𝕄) ((Rd (F := F) m Gd).payload g r d) := by
  show BI.Storable upEmb (pay m Gd g.1.1 r d (kindOf g.2)); infer_instance

section Facts
variable (c : Dev nD) (k : CK) (r : ℕ) (d : Dev nD)

omit [FloatOps F] in
/-- The duties of a cell. -/
theorem duties_cell : (Rd (F := F) m Gd).duties (cell c k) r = dut c r k := by
  dsimp only [Rd]; rw [if_pos rfl, kindOf_csem]
omit [FloatOps F] in
/-- The units of a cell's duty. -/
theorem amount_cell : (Rd (F := F) m Gd).amount (cell c k) r d = amt k := by
  dsimp only [Rd]; rw [kindOf_csem]
omit [FloatOps F] in
/-- What a cell's duty hands over. -/
theorem payload_cell : (Rd (F := F) m Gd).payload (cell c k) r d = pay m Gd c r d k := by
  dsimp only [Rd]; rw [kindOf_csem]
omit [FloatOps F] in
/-- What a round of a cell expects. -/
theorem expect_cell : (Rd (F := F) m Gd).expect (cell c k) r = (dut c r k).card * amt k := by
  unfold Schedule.expect Schedule.amountOf
  rw [duties_cell, Finset.sum_congr rfl fun d _ => amount_cell m Gd c k r d, Finset.sum_const, smul_eq_mul]
omit [FloatOps F] in
/-- What a round of a cell hands over when no duty of it has been taken. -/
theorem rest_cell : bigSep ((Rd (F := F) m Gd).duties (cell c k) r \ ∅) (fun d => (Rd (F := F) m Gd).payload (cell c k) r d)
    = bigSep (dut c r k) fun d => pay m Gd c r d k := by
  rw [Finset.sdiff_empty, duties_cell]; exact bigSep_congr fun d _ => payload_cell m Gd c k r d

/-- A cell's last round is behind it. -/
def lastR : CK → ℕ
  | some (.inl ⟨_ + 1, _⟩) => 2
  | _ => 1

/-- After its last round a cell has no duties. -/
theorem dut_later (h : lastR k ≤ r) : dut c r k = ∅ := by
  unfold lastR at h; unfold dut
  split at h
  · dsimp only; rw [if_neg (by omega)]
  · split <;> first | rw [if_neg (by omega)] | (rename_i h'; exact absurd rfl (h' _ _))

end Facts

/-! ## Sets of devices by distance -/

/-- The devices `c + d` with `a ≤ d < b`; -/
def Up (c : Dev nD) (a b : ℕ) : Finset (Dev nD) := Finset.univ.filter fun p => a ≤ (p - c).val ∧ (p - c).val < b
/-- the devices `c - d` with `a ≤ d < b`; -/
def Dn (c : Dev nD) (a b : ℕ) : Finset (Dev nD) := Finset.univ.filter fun p => a ≤ (c - p).val ∧ (c - p).val < b
/-- the numbers `d` with `a ≤ d < b`. -/
def Bt (a b : ℕ) : Finset (Dev nD) := Finset.univ.filter fun p => a ≤ p.val ∧ p.val < b

section Split
variable {M : Type} [URA M]

/-- Out of a family over `S`, the member at `x`. -/
theorem take {S T : Finset (Dev nD)} (x : Dev nD) (hx : x ∈ S) (hT : S.erase x = T) (Φ : Dev nD → sProp M) :
    bigSep S Φ = iprop(Φ x ∗ bigSep T Φ) := by rw [← hT]; exact bigSep_erase hx

end Split

/-! ## Levels -/

def L (g : GSem nD τ sig) : Finset Unit := if g.1.2 = .tc then {()} else ∅
def lvK : CK → ℕ
  | none => 1
  | some (.inl ⟨0, _⟩) => 4
  | some (.inr (⟨1, _⟩, _)) => 2
  | some (.inr (⟨3, _⟩, _)) => 3
  | _ => 0
def lv (g : GSem nD τ sig) (_ : Unit) : ℕ := lvK (kindOf g.2)

/-- Only the core's cells have levels. -/
theorem L_of_ne (g : GSem nD τ sig) (h : g.1.2 ≠ .tc) : L g = ∅ := if_neg h
/-- A cell has one level. -/
theorem L_cell (c : Dev nD) (k : CK) : L (cell c k) = {()} := if_pos rfl
/-- The level of a cell. -/
theorem lv_cell (c : Dev nD) (k : CK) (u : Unit) : lv (cell c k) u = lvK k := by unfold lv; rw [kindOf_csem]

/-- A tally that sits on cells above level `n` only. -/
def Above (n : ℕ) (O : CellTallies nD τ sig Unit) : Prop := ∀ g u, 0 < O g u → ∃ c k, g = cell c k ∧ n < lvK k

/-- A sum of two tallies above a level. -/
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
/-- Nothing is above every level. -/
theorem Above.zero (n : ℕ) : Above n 0 := fun g u hg => absurd hg (Nat.lt_irrefl 0)
/-- A tally at one cell is above every level below the cell's. -/
theorem Above.tally {n : ℕ} {c : Dev nD} {k : CK} {x : ℕ} (h : n < lvK k) : Above n (tallyAt (cell c k) () x) := fun g u hg => by
  rw [tallyAt_apply] at hg
  by_cases hc : g = cell c k ∧ u = ()
  · exact ⟨c, k, hc.1, h⟩
  · rw [if_neg hc] at hg; exact absurd hg (Nat.lt_irrefl 0)
/-- A sum of tallies above a level. -/
theorem Above.sum {n : ℕ} {S : Finset (Dev nD)} {f : Dev nD → CellTallies nD τ sig Unit} (h : ∀ i ∈ S, Above n (f i)) :
    Above n (∑ i ∈ S, f i) := by
  classical
  induction S using Finset.induction_on with
  | empty => rw [Finset.sum_empty]; exact Above.zero n
  | insert i S hi ih =>
    rw [Finset.sum_insert hi]
    exact (h i (Finset.mem_insert_self _ _)).add (ih fun j hj => h j (Finset.mem_insert_of_mem hj))
/-- A tally above a level is above every lower one. -/
theorem Above.mono {n n' : ℕ} (hn : n ≤ n') {O : CellTallies nD τ sig Unit} (h : Above n' O) : Above n O := fun g u hg => by
  obtain ⟨c, k, e, hk⟩ := h g u hg; exact ⟨c, k, e, by omega⟩

omit [FloatOps F] in
/-- A device may wait on a cell at level `n` or below while it owes only above `n`. -/
theorem mayWait_cell (c : Dev nD) (k : CK) {O : CellTallies nD τ sig Unit} (h : Above (lvK k) O) :
    (levAts L lv : sProp 𝕄) ⊢ MayWait (c : Thread nD τ) (csem k) () O :=
  MayOwe.of_cut (L := L) (lev := lv) (lvK k) (fun p hp => by rw [Finset.mem_singleton.mp hp, L_cell]; exact Finset.mem_singleton_self _)
    (fun g u hg => by obtain ⟨c', k', e, -⟩ := h g u hg; rw [e, L_cell]; exact Finset.mem_singleton_self _)
    (fun p hp => by rw [Finset.mem_singleton.mp hp, lv_cell])
    (fun g u hg => by obtain ⟨c', k', e, hk⟩ := h g u hg; rw [e, lv_cell]; exact hk)

/-! ## What a device owes -/

/-- The closing handshake's signals from distance `t` on; -/
def OD (c : Dev nD) (t : ℕ) : CellTallies nD τ sig Unit := ∑ p ∈ Up c t 8, tallyAt (cell p kSco) () 1
/-- with the second exchange's landings from device `t` on; -/
def OC (c : Dev nD) (t : ℕ) : CellTallies nD τ sig Unit := (∑ s ∈ (Bt t 8).erase c, tallyAt (cell s (kR2 c)) () N) + OD c 1
/-- with the first exchange's landings from distance `t` on; -/
def OB (c : Dev nD) (t : ℕ) : CellTallies nD τ sig Unit := (∑ p ∈ Up c t 8, tallyAt (cell p (kR1 (p - c))) () N) + OC c 0
/-- with the barrier's signals from distance `t` on. -/
def OA (c : Dev nD) (t : ℕ) : CellTallies nD τ sig Unit := (∑ p ∈ Up c t 8, tallyAt (cell p kBar) () 1) + OB c 1

/-- What is owed to the closing handshake is above level three. -/
theorem above_OD (c : Dev nD) (t : ℕ) : Above 3 (OD c t) := Above.sum fun p _ => Above.tally (by decide)
/-- What is owed from the second exchange on is above level two. -/
theorem above_OC (c : Dev nD) (t : ℕ) : Above 2 (OC c t) :=
  (Above.sum fun p _ => Above.tally (show 2 < 3 by decide)).add ((above_OD c 1).mono (by decide))
/-- What is owed from the first exchange on is above level one. -/
theorem above_OB (c : Dev nD) (t : ℕ) : Above 1 (OB c t) :=
  (Above.sum fun p _ => Above.tally (show 1 < 2 by decide)).add ((above_OC c 0).mono (by decide))
/-- All that is owed is above level zero. -/
theorem above_OA (c : Dev nD) (t : ℕ) : Above 0 (OA c t) :=
  (Above.sum fun p _ => Above.tally (show 0 < 1 by decide)).add ((above_OB c 1).mono (by decide))

/-- The next distance upwards is still to do. -/
theorem up_mem (c : Dev nD) (t : Dev nD) : c + t ∈ Up c t.val 8 := by revert c t; decide
/-- The distances upwards still to do, one less. -/
theorem up_erase (c : Dev nD) (t : Dev nD) : (Up c t.val 8).erase (c + t) = Up c (t.val + 1) 8 := by revert c t; decide
/-- The distances upwards done so far, one more taken out. -/
theorem up_grow (c : Dev nD) (t : Dev nD) : (Up c 1 (t.val + 1)).erase (c + t) = Up c 1 t.val := by revert c t; decide
/-- The next distance downwards is still to do. -/
theorem dn_mem (c : Dev nD) (t : Dev nD) : c - t ∈ Dn c t.val 8 := by revert c t; decide
/-- The distances downwards still to do, one less. -/
theorem dn_erase (c : Dev nD) (t : Dev nD) : (Dn c t.val 8).erase (c - t) = Dn c (t.val + 1) 8 := by revert c t; decide
/-- The next number is still to do. -/
theorem bt_mem (t : Dev nD) : t ∈ Bt t.val 8 := by revert t; decide
/-- The numbers still to do, one less. -/
theorem bt_erase (t : Dev nD) : (Bt t.val 8).erase t = Bt (t.val + 1) 8 := by revert t; decide

end Cert.KernelIdeal.Net
-- ==== Proof.KI.Steps.lean ====
/-
The rules of the sorting kernel's steps, at the cells of its protocol: a signal, a wait, a local copy, a copy to another
device, a load and a store of a slab. Each takes what the step needs and gives what it leaves.
-/
module

public import proofs.«01_k».proof.Proof.KI.Sched

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (Gd : Know F) (K : Dev nD × CK → ℕ)

abbrev 𝒱₀ : Variants := Variants.none

/-- Every cell's invariant, that every cell has reached its first round, and the levels. -/
def records : sProp 𝕄 :=
  iprop((bigSep Finset.univ fun ck : Dev nD × CK => cellInv ER (Rd m Gd) (K ck) (kcell ck))
    ∗ (bigSep Finset.univ fun ck : Dev nD × CK => reached ER (kcell ck) 0))
def Pers : sProp 𝕄 := iprop(records m Gd K ∗ levAts L lv)

instance records_persistent : BI.Persistent (records m Gd K) := by unfold records; infer_instance
instance Pers_persistent : BI.Persistent (Pers m Gd K) := by unfold Pers; infer_instance

omit [FloatOps F] in
/-- The invariant of one cell, among the records. -/
theorem inv_at (ck : Dev nD × CK) :
    (bigSep Finset.univ fun ck : Dev nD × CK => (cellInv ER (Rd m Gd) (K ck) (kcell ck) : sProp 𝕄)) ⊢ cellInv ER (Rd m Gd) (K ck) (kcell ck) :=
  bigSep_elim (Finset.mem_univ ck)
omit [FloatOps F] in
/-- That one cell has reached its first round, among the records. -/
theorem reached_at (ck : Dev nD × CK) :
    (bigSep Finset.univ fun ck : Dev nD × CK => (reached ER (kcell ck) 0 : sProp 𝕄)) ⊢ reached ER (kcell ck) 0 :=
  bigSep_elim (Finset.mem_univ ck)
omit [FloatOps F] in
/-- A cell's invariant. -/
theorem Pers_inv (c : Dev nD) (k : CK) : Pers m Gd K ⊢ cellInv ER (Rd m Gd) (K (c, k)) (cell c k) := by
  unfold Pers records
  iintro ⟨⟨H, -⟩, -⟩
  iapply (inv_at m Gd K (c, k))
  iexact H
omit [FloatOps F] in
/-- That a cell has reached its first round. -/
theorem Pers_reached (c : Dev nD) (k : CK) : Pers m Gd K ⊢ reached ER (cell c k) 0 := by
  unfold Pers records
  iintro ⟨⟨-, H⟩, -⟩
  iapply (reached_at (F := F) (c, k))
  iexact H
omit [FloatOps F] in
/-- The levels. -/
theorem Pers_lev : Pers m Gd K ⊢ (levAts L lv : sProp 𝕄) := by
  unfold Pers
  iintro ⟨-, H⟩
  iexact H

/-- What a device owes, whatever it has waited for. -/
def oweE (c : Dev nD) (O : CellTallies nD τ sig Unit) : sProp 𝕄 := iprop(∃ W, owes (c : Thread nD τ) O W)

abbrev tok (c : Dev nD) (k : CK) (r : ℕ) (d : Dev nD) : sProp 𝕄 := dutyTok ER (cell c k) r d
abbrev pos (c : Dev nD) (k : CK) (r : ℕ) : sProp 𝕄 := atPos ER (cell c k) r ∅ 0
abbrev crd (c : Dev nD) (k : CK) (x : ℕ) : sProp 𝕄 := cred (tallyAt (cell c k) () x)

variable {α : Type} {kk : PUnit → Prog (TpuEff nD τ sig (Elt F) Λ₀ .tc) α}

/-- The weakest precondition of a program on device `c`'s core. -/
abbrev WP (c : Dev nD) (p : Prog (TpuEff nD τ sig (Elt F) Λ₀ .tc) α) (Q : α → sProp 𝕄) : sProp 𝕄 :=
  wp frame (wpE (defs₀ (F := F)) 𝒱₀ (Dev.tc c : Thread nD τ) none) Set.univ p Q

/-- A program that has ended. -/
theorem wp_done {Q : α → sProp 𝕄} (c : Dev nD) {a : α} : Q a ⊢ WP c (Prog.ret a) Q := by
  unfold WP
  rw [wp_ret]
  iintro H
  imodintro
  iexact H

/-- A signal of one unit to device `p`. -/
theorem wp_sig {Q : α → sProp 𝕄} (c n p : Dev nD) (hn : n = p) (k : CK) (s : Sem sig) (hs : csem k = .reg s) (hk : amt k = 1) (x : ℕ) (hx : x = 1)
    (hd : c ∈ dut p 0 k) {O₀ : CellTallies nD τ sig Unit} (O : CellTallies nD τ sig Unit) (hO : O₀ = O + tallyAt (cell p k) () 1) :
    iprop(Pers m Gd K ∗ oweE c O₀ ∗ tok p k 0 c ∗ pay m Gd p 0 c k)
      ⊢ iprop((oweE c O -∗ WP c (kk ⟨⟩) Q) -∗ WP c (.op (.semSignal (n : Thread nD τ) s x) kk) Q) := by
  subst hn hx
  have hc : cell n k = ((n : Thread nD τ), SemLoc.reg s) := by unfold cell; rw [hs]
  have hI := Pers_inv m Gd K n k
  have hR := Pers_reached m Gd K n k
  have hd' : c ∈ (Rd (F := F) m Gd).duties (cell n k) 0 := by rw [duties_cell]; exact hd
  have hk' : (Rd (F := F) m Gd).amount (cell n k) 0 c = 1 := by rw [amount_cell]; exact hk
  have hp' := payload_cell m Gd n k 0 c
  rw [hc] at hI hR hd' hk' hp' hO
  unfold oweE tok
  rw [hc]
  iintro ⟨#HP, ⟨%W, HO⟩, Ht, Hpay⟩ Hk
  iapply (Rounds.wp_signal 𝒱₀ ER (Rd m Gd) (c : Thread nD τ) none (dst := (n : Thread nD τ)) (κ := K (n, k))
      (d := c) hd' hk' () O hO) $$ [HO Ht Hpay]
  · isplitr; · iapply hI; iexact HP
    isplitl [HO]; · iexact HO
    isplitl [Ht]; · iexact Ht
    isplitl [Hpay]; · iapply (Entails.of_eq hp'.symm); iexact Hpay
    iapply hR; iexact HP
  iintro HO
  iapply Hk
  iexists W; iexact HO

/-- A wait for a whole round of one of the device's cells. -/
theorem wp_wait {Q : α → sProp 𝕄} (c : Dev nD) (k : CK) (R : ℕ) {w : TpuEff nD τ sig (Elt F) Λ₀ .tc PUnit} (x : ℕ)
    (hw : ∀ Kt : PUnit → sProp 𝕄, wpE' (defs₀ (F := F)) 𝒱₀ (c : Thread nD τ) none [] Set.univ w Kt = waitSpec (c : Thread nD τ) Set.univ (csem k) x Kt)
    (hx : x = (dut c R k).card * amt k) {O : CellTallies nD τ sig Unit} (hO : Above (lvK k) O) :
    iprop(Pers m Gd K ∗ oweE c O ∗ crd c k x ∗ pos c k R)
      ⊢ iprop((iprop(oweE c O ∗ pos c k (R + 1) ∗ reached ER (cell c k) (R + 1) ∗ bigSep (dut c R k) fun d => pay m Gd c R d k) -∗ WP c (kk ⟨⟩) Q)
          -∗ WP c (.op w kk) Q) := by
  unfold oweE
  iintro ⟨#HP, ⟨%W, HO⟩, Hc, Hp⟩ Hk
  iapply (Rounds.wp_wait_rest_token 𝒱₀ ER (Rd m Gd) (c : Thread nD τ) none (κ := K (c, k))
      hw (Set.mem_univ _) () (O := O) (W := W) (R := R) (m := 0) (T := ∅)
      (by rw [expect_cell, Nat.zero_add, hx])) $$ [Hc HO Hp]
  · isplitr; · iapply (Pers_inv m Gd K c k); iexact HP
    isplitl [Hc]; · iexact Hc
    isplitl [HO]; · iexact HO
    isplitr; · iapply (mayWait_cell c k hO); iapply (Pers_lev m Gd K); iexact HP
    iexact Hp
  iintro ⟨HO, Hp, Hr, Hpay⟩
  iapply Hk
  isplitl [HO]; · iexists _; iexact HO
  isplitl [Hp]; · iexact Hp
  isplitl [Hr]; · iexact Hr
  iapply (Entails.of_eq (rest_cell m Gd c k R)); iexact Hpay

omit [FloatOps F] in
/-- A block that is owned is a piece of memory that reads as its contents. -/
theorem owns_elim (c : Dev nD) {sp : Space} (M : Memref sig .tc sp S8192x128 .bf16) (v : Blk F) :
    (owns (c : Thread nD τ) M fullShare v : sProp 𝕄) ⊢ iprop(∃ f, ⌜M.view.read (Elt F) f = v⌝ ∗ M.view.loc (c : Thread nD τ) ↦[M.view.set]{fullShare} f) := by
  unfold owns; exact Entails.refl _
omit [FloatOps F] in
/-- A piece of memory that reads as the contents is an owned block. -/
theorem owns_mk (c : Dev nD) {sp : Space} (M : Memref sig .tc sp S8192x128 .bf16) (v : Blk F) (f : M.view.ty.Contents (Elt F)) (h : M.view.read (Elt F) f = v) :
    (M.view.loc (c : Thread nD τ) ↦[M.view.set]{fullShare} f : sProp 𝕄) ⊢ owns (c : Thread nD τ) M fullShare v := by
  rw [← h]; exact owns_intro (c : Thread nD τ) M fullShare f

omit [FloatOps F] in
/-- What has been written over a whole block is read back. -/
theorem read_landed {sp : Space} (M : Memref sig .tc sp S8192x128 .bf16) (f : M.view.ty.Contents (Elt F)) (v : Blk F) :
    M.view.read (Elt F) (M.view.write (Elt F) f v Finset.univ) = v := by
  funext j
  exact View.read_write_of_mem _ _ (Finset.mem_univ _)

/-- The device's own copy of one block into another, on its local semaphore. -/
theorem wp_loc {Q : α → sProp 𝕄} (c : Dev nD) (r : ℕ) (hr : r < 2) {sp sp' : Space} (src : Memref sig .tc sp S8192x128 .bf16) (dst : Memref sig .tc sp' S8192x128 .bf16)
    (sem : SemLoc sig) (hs : csem kLoc = sem) (hN : dst.view.amount sem = N)
    {hsrc : src.view.WordExact} {hdst : dst.view.WordExact} {hsem : DmaTarget.Typed (nD := nD) (p := (c : Thread nD τ).2) sp sem (.here dst)} (v : Blk F)
    (hpay : iprop(owns (c : Thread nD τ) dst fullShare v ∗ owns (c : Thread nD τ) src fullShare v) ⊢ pay m Gd c r 0 kLoc) :
    iprop(Pers m Gd K ∗ reached ER (cell c kLoc) r ∗ tok c kLoc r 0 ∗ owns (c : Thread nD τ) src fullShare v ∗ (∃ v', owns (c : Thread nD τ) dst fullShare v'))
      ⊢ iprop((crd c kLoc N -∗ WP c (kk ⟨⟩) Q) -∗ WP c (.op (.enqueueDma src (.here dst) sem hsrc hdst hsem) kk) Q) := by
  subst hs
  iintro ⟨#HP, #Hr, Ht, Hs, ⟨%v', Hd⟩⟩ Hk
  ihave Hs' := (owns_elim c src v) $$ Hs
  icases Hs' with ⟨%fs, %hfs, Hs⟩
  ihave Hd' := (owns_elim c dst v') $$ Hd
  icases Hd' with ⟨%fd, %hfd, Hd⟩
  iapply (Rounds.wp_copy_pointsTo 𝒱₀ ER (Rd m Gd) (c : Thread nD τ) none (κ := K (c, kLoc)) (r := r) (d := (0 : Dev nD)) (q := fullShare) (fs := fs) (fd := fd)
      (by rw [duties_cell, show dut c r kLoc = {0} from if_pos hr]; exact Finset.mem_singleton_self _) () N hN
      (by rw [amount_cell]; rfl)
      (by
        rw [payload_cell]
        exact (BI.sep_mono (owns_mk c dst v _ (by rw [hfs]; exact read_landed dst fd v)) (owns_mk c src v _ hfs)).trans hpay)) $$ [Ht Hs Hd]
  · isplitr; · iapply (Pers_inv m Gd K c kLoc); iexact HP
    isplitl [Hs]; · iexact Hs
    isplitl [Hd]; · iexact Hd
    isplitl [Ht]; · iexact Ht
    iexact Hr
  iintro Hc
  iapply Hk; iexact Hc

/-- A copy of one block to device `p`. -/
theorem wp_snd {Q : α → sProp 𝕄} (c n p : Dev nD) (hn : n = p) {sp sp' : Space} (src : Memref sig .tc sp S8192x128 .bf16) (dst : Memref sig .tc sp' S8192x128 .bf16)
    (kS kR : CK) (hdS : (0 : Dev nD) ∈ dut c 0 kS) (hdR : (0 : Dev nD) ∈ dut p 0 kR) (haS : amt kS = N) (haR : amt kR = N)
    (sS sR : SemLoc sig) (hS : csem kS = sS) (hR : csem kR = sR) (hN : dst.view.amount sR = N)
    {hsc : dst.view.ref.isScScratch = false}
    {hsrc : src.view.WordExact} {hdst : dst.view.WordExact} {hsem : DmaTarget.Typed (nD := nD) (p := (c : Thread nD τ).2) sp sR (.remote (Dev.tc n : Thread nD τ) dst sS hsc)}
    (v : Blk F)
    (hpay₁ : owns (c : Thread nD τ) src fullShare v ⊢ pay m Gd c 0 0 kS) (hpay₂ : owns (p : Thread nD τ) dst fullShare v ⊢ pay m Gd p 0 0 kR)
    {O₀ : CellTallies nD τ sig Unit} (O : CellTallies nD τ sig Unit) (hO : O₀ = O + tallyAt (cell p kR) () N) :
    iprop(Pers m Gd K ∗ oweE c O₀ ∗ tok c kS 0 0 ∗ tok p kR 0 0 ∗ owns (c : Thread nD τ) src fullShare v ∗ (∃ v', owns (p : Thread nD τ) dst fullShare v'))
      ⊢ iprop((iprop(oweE c O ∗ crd c kS N) -∗ WP c (kk ⟨⟩) Q)
          -∗ WP c (.op (.enqueueDma src (.remote (Dev.tc n : Thread nD τ) dst sS hsc) sR hsrc hdst hsem) kk) Q) := by
  subst hn hS hR
  unfold oweE
  iintro ⟨#HP, ⟨%W, HO⟩, Ht, Ht', Hs, ⟨%v', Hd⟩⟩ Hk
  ihave Hs' := (owns_elim c src v) $$ Hs
  icases Hs' with ⟨%fs, %hfs, Hs⟩
  ihave Hd' := (owns_elim n dst v') $$ Hd
  icases Hd' with ⟨%fd, %hfd, Hd⟩
  iapply (Rounds.wp_send_pointsTo 𝒱₀ ER (Rd m Gd) (c : Thread nD τ) none (κ₁ := K (c, kS)) (κ₂ := K (n, kR)) (r₁ := 0) (r₂ := 0) (d₁ := (0 : Dev nD)) (d₂ := (0 : Dev nD))
      (c' := (Dev.tc n : Thread nD τ)) (q := fullShare) (fs := fs) (fd := fd)
      (by rw [duties_cell]; exact hdS) (by rw [duties_cell]; exact hdR) () () N hN
      (by rw [amount_cell]; exact haS) (by rw [amount_cell]; exact haR) O hO (W := W)
      (by
        rw [payload_cell]
        exact (owns_mk c src v _ hfs).trans hpay₁)
      (by
        rw [payload_cell]
        exact (owns_mk n dst v _ (by rw [hfs]; exact read_landed dst fd v)).trans hpay₂)) $$ [HO Ht Ht' Hs Hd]
  · isplitr; · iapply (Pers_inv m Gd K c kS); iexact HP
    isplitr; · iapply (Pers_inv m Gd K n kR); iexact HP
    isplitl [Hs]; · iexact Hs
    isplitl [Hd]; · iexact Hd
    isplitl [HO]; · iexact HO
    isplitl [Ht]; · iexact Ht
    isplitr; · iapply (Pers_reached m Gd K c kS); iexact HP
    isplitl [Ht']; · iexact Ht'
    iapply (Pers_reached m Gd K n kR); iexact HP
  iintro ⟨Hc, HO⟩
  iapply Hk
  isplitl [HO]; · iexists W; iexact HO
  iexact Hc

variable {kb : Blk F → Prog (TpuEff nD τ sig (Elt F) Λ₀ .tc) α}

/-- A load of a slab. -/
theorem wp_ld {Q : α → sProp 𝕄} (c s : Dev nD) (off : Fin 2 → ℕ) (hoff : off = ![8192 * s.val, 0]) (inb : ∀ a, off a + S8192x128.size a ≤ S65536x128.size a)
    {hl : (aW : Memref sig .tc .vmem S65536x128 .bf16).view.LoadsAt (Rect.unit (s := S65536x128) off S8192x128.size inb).toLoadRect} (v : Blk F) :
    (aO c s v) ⊢ iprop((aO c s v -∗ WP c (kb v) Q)
      -∗ WP c (.op (.load (cs := .vmem) aW (Rect.unit (s := S65536x128) off S8192x128.size inb).toLoadRect hl) kb) Q) := by
  subst hoff
  unfold aO
  iintro H Hk
  ihave H' := (owns_elim c (aM s) v) $$ H
  icases H' with ⟨%f, %hf, H⟩
  iapply (wp_load_rect 𝒱₀ (c : Thread nD τ) none Set.univ (m := aW) (r := slabR s) (Finset.Subset.refl _)) $$ H
  iintro H
  rw [show (aW.access (slabR s)).read (Elt F) f = v from hf]
  iapply Hk
  iapply (owns_mk c (aM s) v f hf); iexact H

/-- A store of a whole slab. -/
theorem wp_st {Q : α → sProp 𝕄} (c s : Dev nD) (off : Fin 2 → ℕ) (hoff : off = ![8192 * s.val, 0]) (inb : ∀ a, off a + S8192x128.size a ≤ S65536x128.size a)
    (w : Blk F)
    {hx : ((aW : Memref sig .tc .vmem S65536x128 .bf16).access (Rect.unit (s := S65536x128) off S8192x128.size inb)).Stores Finset.univ}
    {hm : (Finset.univ : Finset (Rect.unit (s := S65536x128) off S8192x128.size inb).shape.Idx) = Finset.univ ∨ ∀ a, (Rect.unit (s := S65536x128) off S8192x128.size inb).stride a = 1} (v : Blk F) :
    (aO c s v) ⊢ iprop((aO c s w -∗ WP c (kk ⟨⟩) Q)
      -∗ WP c (.op (.store (cs := .vmem) aW (Rect.unit (s := S65536x128) off S8192x128.size inb) w Finset.univ hx hm) kk) Q) := by
  subst hoff
  unfold aO
  iintro H Hk
  ihave H' := (owns_elim c (aM s) v) $$ H
  icases H' with ⟨%f, %hf, H⟩
  iapply (wp_store 𝒱₀ (c : Thread nD τ) none Set.univ (m := aW) (r := slabR s) (Mk := Finset.univ) (by rw [View.setOn_univ])) $$ H
  iintro H
  iapply Hk
  iapply (owns_mk c (aM s) w _ (read_landed (aM s) f w)); iexact H

end Cert.KernelIdeal.Net
-- ==== Proof.KI.Loops.lean ====
/-
The sorting loops on the device's own slabs: what each trip takes a slab from and to, given the laws of the payloads; the
loop invariants over them.
-/
module

public import proofs.«01_k».proof.Proof.KI.Steps

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (Gd : Know F)

/-! ## The loops' trips -/

/-- The slab of trip `t` of the first sorting loop. -/
abbrev slabOf (c : Dev nD) (t : Fin k0_t1_loop.trips) : Dev nD := ⟨(c.val + 8 - t.val) % 8, Nat.mod_lt _ (by decide)⟩
/-- The slab of a trip of the loops over all slabs. -/
abbrev slab8 (t : Fin k0_t8_loop.trips) : Dev nD := ⟨t.val, lt_of_lt_of_eq t.isLt (by decide)⟩
abbrev slab12 (t : Fin k0_t12_loop.trips) : Dev nD := ⟨t.val, lt_of_lt_of_eq t.isLt (by decide)⟩

/-- A device's number as the kernel computes it. -/
abbrev v2w (c : Dev nD) : BitVec 32 := Scalar.remsi (Scalar.divsi (Dev.word c) 1#32) 8#32

/-- The stages of the first `t` levels. -/
def tri (t : ℕ) : ℕ := t * (t + 1) / 2

/-- The first loop runs over the eight slabs. -/
theorem trips1 : k0_t1_loop.trips = 8 := by decide
/-- Thirteen levels lie within a slab. -/
theorem trips2 : k0_t2_loop.trips = 13 := by decide
/-- A level of the first loop has so many stages before its last five. -/
theorem trips3 : ∀ t2 : Fin k0_t2_loop.trips, (k0_t3_loop t2).trips = t2.val - 4 := by decide +kernel
/-- The other half of that loop never runs. -/
theorem trips4 : ∀ t2 : Fin k0_t2_loop.trips, (k0_t4_loop t2).trips = 0 := by decide +kernel
/-- Three levels lie between slabs. -/
theorem trips5 : k0_t5_loop.trips = 3 := by decide
/-- A level of the second loop has so many stages before its last five. -/
theorem trips6 : ∀ t5 : Fin k0_t5_loop.trips, (k0_t6_loop t5).trips = t5.val + 9 := by decide +kernel
/-- A stage between slabs works on four pairs. -/
theorem trips7 : k0_t7_loop.trips = 4 := by decide
/-- A stage within the slabs works on all eight. -/
theorem trips8 : k0_t8_loop.trips = 8 := by decide
/-- The other half of that loop never runs. -/
theorem trips9 : ∀ t5 : Fin k0_t5_loop.trips, (k0_t9_loop t5).trips = 0 := by decide +kernel
/-- The last five stages work on all eight slabs. -/
theorem trips12 : k0_t12_loop.trips = 8 := by decide

/-- Which stage of the first loop runs the case of distance 32. -/
theorem cond2_iff : ∀ (t2 : Fin k0_t2_loop.trips) (t3 : Fin (k0_t3_loop t2).trips), k0_cond2 t2 t3 = 1#1 ↔ t2.val - t3.val = 5 := by decide +kernel
/-- Which stage of the first loop runs the case of distance 64. -/
theorem cond3_iff : ∀ (t2 : Fin k0_t2_loop.trips) (t3 : Fin (k0_t3_loop t2).trips), k0_cond3 t2 t3 = 1#1 ↔ t2.val - t3.val = 6 := by decide +kernel
/-- Which stage of the first loop runs the case of distance 128. -/
theorem cond4_iff : ∀ (t2 : Fin k0_t2_loop.trips) (t3 : Fin (k0_t3_loop t2).trips), k0_cond4 t2 t3 = 1#1 ↔ t2.val - t3.val = 7 := by decide +kernel
/-- Which stage of the first loop runs the case of distance 256. -/
theorem cond5_iff : ∀ (t2 : Fin k0_t2_loop.trips) (t3 : Fin (k0_t3_loop t2).trips), k0_cond5 t2 t3 = 1#1 ↔ t2.val - t3.val = 8 := by decide +kernel
/-- Which stage of the first loop runs the case of distance 512. -/
theorem cond6_iff : ∀ (t2 : Fin k0_t2_loop.trips) (t3 : Fin (k0_t3_loop t2).trips), k0_cond6 t2 t3 = 1#1 ↔ t2.val - t3.val = 9 := by decide +kernel
/-- Which stage of the first loop runs the case of distance 1024. -/
theorem cond7_iff : ∀ (t2 : Fin k0_t2_loop.trips) (t3 : Fin (k0_t3_loop t2).trips), k0_cond7 t2 t3 = 1#1 ↔ t2.val - t3.val = 10 := by decide +kernel
/-- Which stage of the first loop runs the case of distance 2048. -/
theorem cond8_iff : ∀ (t2 : Fin k0_t2_loop.trips) (t3 : Fin (k0_t3_loop t2).trips), k0_cond8 t2 t3 = 1#1 ↔ t2.val - t3.val = 11 := by decide +kernel
/-- Which stage of the first loop runs the case of distance 4096. -/
theorem cond9_iff : ∀ (t2 : Fin k0_t2_loop.trips) (t3 : Fin (k0_t3_loop t2).trips), k0_cond9 t2 t3 = 1#1 ↔ t2.val - t3.val = 12 := by decide +kernel
/-- The distances of the stages of the first loop before the last five. -/
theorem q3 : ∀ (t2 : Fin k0_t2_loop.trips) (t3 : Fin (k0_t3_loop t2).trips), 5 ≤ t2.val - t3.val ∧ t2.val - t3.val ≤ 12 := by decide +kernel
/-- The last five stages run without gates from the fifth level on. -/
theorem cond18_iff : ∀ t2 : Fin k0_t2_loop.trips, k0_cond18 t2 = 1#1 ↔ 4 ≤ t2.val := by decide +kernel
/-- The last five stages run with gates in the first four levels. -/
theorem cond19_iff : ∀ t2 : Fin k0_t2_loop.trips, k0_cond19 t2 = 1#1 ↔ t2.val < 4 := by decide +kernel
/-- The first loop waits for a landing except at its own slab. -/
theorem cond1_iff : ∀ t1 : Fin k0_t1_loop.trips, k0_cond1 t1 = 1#1 ↔ t1.val ≠ 0 := by decide +kernel
/-- The first stages of a level of the second loop are between slabs. -/
theorem cond20_iff : ∀ (t5 : Fin k0_t5_loop.trips) (t6 : Fin (k0_t6_loop t5).trips), k0_cond20 t5 t6 = 1#1 ↔ t6.val ≤ t5.val := by decide +kernel
/-- The others are within the slabs. -/
theorem cond21_iff : ∀ (t5 : Fin k0_t5_loop.trips) (t6 : Fin (k0_t6_loop t5).trips), k0_cond21 t5 t6 = 1#1 ↔ ¬ t6.val ≤ t5.val := by decide +kernel
/-- Which stage of the second loop runs the case of distance 32. -/
theorem cond22_iff : ∀ (t5 : Fin k0_t5_loop.trips) (t6 : Fin (k0_t6_loop t5).trips), k0_cond22 t5 t6 = 1#1 ↔ t5.val + 13 - t6.val = 5 := by decide +kernel
/-- Which stage of the second loop runs the case of distance 64. -/
theorem cond23_iff : ∀ (t5 : Fin k0_t5_loop.trips) (t6 : Fin (k0_t6_loop t5).trips), k0_cond23 t5 t6 = 1#1 ↔ t5.val + 13 - t6.val = 6 := by decide +kernel
/-- Which stage of the second loop runs the case of distance 128. -/
theorem cond24_iff : ∀ (t5 : Fin k0_t5_loop.trips) (t6 : Fin (k0_t6_loop t5).trips), k0_cond24 t5 t6 = 1#1 ↔ t5.val + 13 - t6.val = 7 := by decide +kernel
/-- Which stage of the second loop runs the case of distance 256. -/
theorem cond25_iff : ∀ (t5 : Fin k0_t5_loop.trips) (t6 : Fin (k0_t6_loop t5).trips), k0_cond25 t5 t6 = 1#1 ↔ t5.val + 13 - t6.val = 8 := by decide +kernel
/-- Which stage of the second loop runs the case of distance 512. -/
theorem cond26_iff : ∀ (t5 : Fin k0_t5_loop.trips) (t6 : Fin (k0_t6_loop t5).trips), k0_cond26 t5 t6 = 1#1 ↔ t5.val + 13 - t6.val = 9 := by decide +kernel
/-- Which stage of the second loop runs the case of distance 1024. -/
theorem cond27_iff : ∀ (t5 : Fin k0_t5_loop.trips) (t6 : Fin (k0_t6_loop t5).trips), k0_cond27 t5 t6 = 1#1 ↔ t5.val + 13 - t6.val = 10 := by decide +kernel
/-- Which stage of the second loop runs the case of distance 2048. -/
theorem cond28_iff : ∀ (t5 : Fin k0_t5_loop.trips) (t6 : Fin (k0_t6_loop t5).trips), k0_cond28 t5 t6 = 1#1 ↔ t5.val + 13 - t6.val = 11 := by decide +kernel
/-- Which stage of the second loop runs the case of distance 4096. -/
theorem cond29_iff : ∀ (t5 : Fin k0_t5_loop.trips) (t6 : Fin (k0_t6_loop t5).trips), k0_cond29 t5 t6 = 1#1 ↔ t5.val + 13 - t6.val = 12 := by decide +kernel
/-- The distances of the stages of the second loop within the slabs before the last five. -/
theorem q6 : ∀ (t5 : Fin k0_t5_loop.trips) (t6 : Fin (k0_t6_loop t5).trips), k0_cond21 t5 t6 = 1#1 → 5 ≤ t5.val + 13 - t6.val ∧ t5.val + 13 - t6.val ≤ 12 := by decide +kernel
/-- The last level is the one that sends. -/
theorem cond40_iff : ∀ t5 : Fin k0_t5_loop.trips, k0_cond40 t5 = 1#1 ↔ t5.val = 2 := by decide +kernel
/-- The own slab is copied. -/
theorem cond41_iff : ∀ (c : Dev nD) (t : Fin k0_t12_loop.trips), k0_cond41 c t = 1#1 ↔ slab12 t = c := by decide +kernel
/-- The other slabs are sent. -/
theorem cond42_iff : ∀ (c : Dev nD) (t : Fin k0_t12_loop.trips), k0_cond42 c t = 1#1 ↔ slab12 t ≠ c := by decide +kernel

/-- The two slabs of a trip of the pairing loop: the lower at `t7` with a zero put in at bit `t5 - t6`, the upper at a one. -/
def lo7 (t5 t6 t7 : ℕ) : ℕ := t7 / 2 ^ (t5 - t6) * 2 ^ (t5 - t6 + 1) + t7 % 2 ^ (t5 - t6)
def hi7 (t5 t6 t7 : ℕ) : ℕ := lo7 t5 t6 t7 + 2 ^ (t5 - t6)
/-- The lower slab of a pair is one of the eight. -/
theorem lo7_lt : ∀ (t5 : Fin k0_t5_loop.trips) (t6 : Fin (k0_t6_loop t5).trips) (t7 : Fin k0_t7_loop.trips), k0_cond20 t5 t6 = 1#1 → lo7 t5 t6 t7 < 8 := by decide +kernel
/-- The upper slab of a pair is one of the eight. -/
theorem hi7_lt : ∀ (t5 : Fin k0_t5_loop.trips) (t6 : Fin (k0_t6_loop t5).trips) (t7 : Fin k0_t7_loop.trips), k0_cond20 t5 t6 = 1#1 → hi7 t5 t6 t7 < 8 := by decide +kernel
/-- Where the lower slab of a pair begins. -/
theorem off27_eq' : ∀ (t5 : Fin k0_t5_loop.trips) (t6 : Fin (k0_t6_loop t5).trips) (t7 : Fin k0_t7_loop.trips), k0_cond20 t5 t6 = 1#1 → k0_off27 t5 t6 t7 = ![8192 * lo7 t5 t6 t7, 0] := by decide +kernel
/-- Where the upper slab of a pair begins. -/
theorem off28_eq' : ∀ (t5 : Fin k0_t5_loop.trips) (t6 : Fin (k0_t6_loop t5).trips) (t7 : Fin k0_t7_loop.trips), k0_cond20 t5 t6 = 1#1 → k0_off28 t5 t6 t7 = ![8192 * hi7 t5 t6 t7, 0] := by decide +kernel
abbrev slabL (t5 : Fin k0_t5_loop.trips) (t6 : Fin (k0_t6_loop t5).trips) (t7 : Fin k0_t7_loop.trips) (h : k0_cond20 t5 t6 = 1#1) : Dev nD := ⟨lo7 t5 t6 t7, lo7_lt t5 t6 t7 h⟩
abbrev slabH (t5 : Fin k0_t5_loop.trips) (t6 : Fin (k0_t6_loop t5).trips) (t7 : Fin k0_t7_loop.trips) (h : k0_cond20 t5 t6 = 1#1) : Dev nD := ⟨hi7 t5 t6 t7, hi7_lt t5 t6 t7 h⟩

/-! ## The laws of the payloads -/

/-- What the loops leave where five or fewer stages run inside one slab, as printed. -/
abbrev tailA (c : Dev nD) (t1 : Fin k0_t1_loop.trips) (t2 : Fin k0_t2_loop.trips) (v321 v326 : BitVec 32) (v : Blk F) : Blk F :=
  k0_pay54 (v2w c) t1 t2 (k0_pay3 v321 v326 (k0_pay1 v321 v326 v) (k0_pay2 v321 v326 v)) (k0_pay5 v321)
    (k0_pay6 v321 v326 (k0_pay1 v321 v326 v) (k0_pay2 v321 v326 v)) (k0_pay7 v321 v326) k0_pay8
abbrev tailB (v321 v326 : BitVec 32) (v : Blk F) : Blk F :=
  k0_pay25 v321 v326 (k0_pay18 v321 v326 (k0_pay9 v321 v326 v) (k0_pay16 v321 v326 v) (k0_pay17 v321 v326 v))
    (k0_pay20 v321 v326 (k0_pay9 v321 v326 v) (k0_pay16 v321 v326 v) (k0_pay17 v321 v326 v)) (k0_pay21 v321) (k0_pay22 v321)
    (k0_pay23 v321 v326 (k0_pay9 v321 v326 v) (k0_pay16 v321 v326 v) (k0_pay17 v321 v326 v)) 1#32
    (k0_pay24 v321 v326 (k0_pay9 v321 v326 v) (k0_pay16 v321 v326 v) (k0_pay17 v321 v326 v))
abbrev tailC (t5 : Fin k0_t5_loop.trips) (t12 : Fin k0_t12_loop.trips) (v317 v326 : BitVec 32) (v : Blk F) : Blk F :=
  k0_pay79 t5 v326
    (k0_pay34 v317 v326 (k0_pay32 v317 0#32 1#32 t12 v) (k0_pay33 v317 0#32 1#32 t12 v)) (k0_pay35 v326) (k0_pay36 v326)
    (k0_pay37 v317 v326 (k0_pay32 v317 0#32 1#32 t12 v) (k0_pay33 v317 0#32 1#32 t12 v))

/-- The row of the slab's first element and the level's block size, as the kernel's words. -/
abbrev baseW (c : Dev nD) (t1 : Fin k0_t1_loop.trips) : BitVec 32 :=
  Scalar.muli (Scalar.remsi (Scalar.addi (Scalar.subi (v2w c) (Scf.iv 0#32 1#32 t1)) 8#32) 8#32) 8192#32
abbrev kW1 (t2 : Fin k0_t2_loop.trips) : BitVec 32 := Scalar.shli 1#32 (Scf.iv 1#32 1#32 t2)
abbrev kW5 (t5 : Fin k0_t5_loop.trips) : BitVec 32 := Scalar.shli 1#32 (Scf.iv 14#32 1#32 t5)
abbrev baseW12 (t : Fin k0_t12_loop.trips) : BitVec 32 := Scalar.muli (Scf.iv 0#32 1#32 t) 8192#32

/-- What a run needs to know of the payloads: each takes a slab's contents at one stage to its contents at a later one. -/
structure Laws : Prop where
  land : ∀ c s, Gd 0 c s (xblk m s c)
  a0 : ∀ (c : Dev nD) (t1 : Fin k0_t1_loop.trips) (t2 : Fin k0_t2_loop.trips) (t3 : Fin (k0_t3_loop t2).trips), t2.val - t3.val = 5 →
    ∀ v, Gd (tri t2 + t3) c (slabOf c t1) v → Gd (tri t2 + t3 + 1) c (slabOf c t1) (k0_pay38 (v2w c) t1 t2 v)
  a1 : ∀ (c : Dev nD) (t1 : Fin k0_t1_loop.trips) (t2 : Fin k0_t2_loop.trips) (t3 : Fin (k0_t3_loop t2).trips), t2.val - t3.val = 6 →
    ∀ v, Gd (tri t2 + t3) c (slabOf c t1) v → Gd (tri t2 + t3 + 1) c (slabOf c t1) (k0_pay39 (v2w c) t1 t2 v)
  a2 : ∀ (c : Dev nD) (t1 : Fin k0_t1_loop.trips) (t2 : Fin k0_t2_loop.trips) (t3 : Fin (k0_t3_loop t2).trips), t2.val - t3.val = 7 →
    ∀ v, Gd (tri t2 + t3) c (slabOf c t1) v → Gd (tri t2 + t3 + 1) c (slabOf c t1) (k0_pay40 (v2w c) t1 t2 v)
  a3 : ∀ (c : Dev nD) (t1 : Fin k0_t1_loop.trips) (t2 : Fin k0_t2_loop.trips) (t3 : Fin (k0_t3_loop t2).trips), t2.val - t3.val = 8 →
    ∀ v, Gd (tri t2 + t3) c (slabOf c t1) v → Gd (tri t2 + t3 + 1) c (slabOf c t1) (k0_pay41 (v2w c) t1 t2 v)
  a4 : ∀ (c : Dev nD) (t1 : Fin k0_t1_loop.trips) (t2 : Fin k0_t2_loop.trips) (t3 : Fin (k0_t3_loop t2).trips), t2.val - t3.val = 9 →
    ∀ v, Gd (tri t2 + t3) c (slabOf c t1) v → Gd (tri t2 + t3 + 1) c (slabOf c t1) (k0_pay42 (v2w c) t1 t2 v)
  a5 : ∀ (c : Dev nD) (t1 : Fin k0_t1_loop.trips) (t2 : Fin k0_t2_loop.trips) (t3 : Fin (k0_t3_loop t2).trips), t2.val - t3.val = 10 →
    ∀ v, Gd (tri t2 + t3) c (slabOf c t1) v → Gd (tri t2 + t3 + 1) c (slabOf c t1) (k0_pay43 (v2w c) t1 t2 v)
  a6 : ∀ (c : Dev nD) (t1 : Fin k0_t1_loop.trips) (t2 : Fin k0_t2_loop.trips) (t3 : Fin (k0_t3_loop t2).trips), t2.val - t3.val = 11 →
    ∀ v, Gd (tri t2 + t3) c (slabOf c t1) v → Gd (tri t2 + t3 + 1) c (slabOf c t1) (k0_pay44 (v2w c) t1 t2 v)
  a7 : ∀ (c : Dev nD) (t1 : Fin k0_t1_loop.trips) (t2 : Fin k0_t2_loop.trips) (t3 : Fin (k0_t3_loop t2).trips), t2.val - t3.val = 12 →
    ∀ v, Gd (tri t2 + t3) c (slabOf c t1) v → Gd (tri t2 + t3 + 1) c (slabOf c t1) (k0_pay45 (v2w c) t1 t2 v)
  tA : ∀ (c : Dev nD) (t1 : Fin k0_t1_loop.trips) (t2 : Fin k0_t2_loop.trips), 4 ≤ t2.val →
    ∀ v, Gd (tri t2 + (t2 - 4)) c (slabOf c t1) v → Gd (tri (t2 + 1)) c (slabOf c t1) (tailA c t1 t2 (baseW c t1) (kW1 t2) v)
  tB : ∀ (c : Dev nD) (t1 : Fin k0_t1_loop.trips) (t2 : Fin k0_t2_loop.trips), t2.val < 4 →
    ∀ v, Gd (tri t2 + (t2 - 4)) c (slabOf c t1) v → Gd (tri (t2 + 1)) c (slabOf c t1) (tailB (baseW c t1) (kW1 t2) v)
  pr : ∀ (c : Dev nD) (t5 : Fin k0_t5_loop.trips) (t6 : Fin (k0_t6_loop t5).trips) (t7 : Fin k0_t7_loop.trips) (h : k0_cond20 t5 t6 = 1#1),
    ∀ v w, Gd (tri (t5 + 13) + t6) c (slabL t5 t6 t7 h) v → Gd (tri (t5 + 13) + t6) c (slabH t5 t6 t7 h) w →
      Gd (tri (t5 + 13) + t6 + 1) c (slabL t5 t6 t7 h) (k0_pay57 t5 t6 t7 v w) ∧ Gd (tri (t5 + 13) + t6 + 1) c (slabH t5 t6 t7 h) (k0_pay58 t5 t6 t7 v w)
  g0 : ∀ (c : Dev nD) (t5 : Fin k0_t5_loop.trips) (t6 : Fin (k0_t6_loop t5).trips) (t8 : Fin k0_t8_loop.trips), t5.val + 13 - t6.val = 5 →
    ∀ v, Gd (tri (t5 + 13) + t6) c (slab8 t8) v → Gd (tri (t5 + 13) + t6 + 1) c (slab8 t8) (k0_pay59 t5 t8 v)
  g1 : ∀ (c : Dev nD) (t5 : Fin k0_t5_loop.trips) (t6 : Fin (k0_t6_loop t5).trips) (t8 : Fin k0_t8_loop.trips), t5.val + 13 - t6.val = 6 →
    ∀ v, Gd (tri (t5 + 13) + t6) c (slab8 t8) v → Gd (tri (t5 + 13) + t6 + 1) c (slab8 t8) (k0_pay60 t5 t8 v)
  g2 : ∀ (c : Dev nD) (t5 : Fin k0_t5_loop.trips) (t6 : Fin (k0_t6_loop t5).trips) (t8 : Fin k0_t8_loop.trips), t5.val + 13 - t6.val = 7 →
    ∀ v, Gd (tri (t5 + 13) + t6) c (slab8 t8) v → Gd (tri (t5 + 13) + t6 + 1) c (slab8 t8) (k0_pay61 t5 t8 v)
  g3 : ∀ (c : Dev nD) (t5 : Fin k0_t5_loop.trips) (t6 : Fin (k0_t6_loop t5).trips) (t8 : Fin k0_t8_loop.trips), t5.val + 13 - t6.val = 8 →
    ∀ v, Gd (tri (t5 + 13) + t6) c (slab8 t8) v → Gd (tri (t5 + 13) + t6 + 1) c (slab8 t8) (k0_pay62 t5 t8 v)
  g4 : ∀ (c : Dev nD) (t5 : Fin k0_t5_loop.trips) (t6 : Fin (k0_t6_loop t5).trips) (t8 : Fin k0_t8_loop.trips), t5.val + 13 - t6.val = 9 →
    ∀ v, Gd (tri (t5 + 13) + t6) c (slab8 t8) v → Gd (tri (t5 + 13) + t6 + 1) c (slab8 t8) (k0_pay63 t5 t8 v)
  g5 : ∀ (c : Dev nD) (t5 : Fin k0_t5_loop.trips) (t6 : Fin (k0_t6_loop t5).trips) (t8 : Fin k0_t8_loop.trips), t5.val + 13 - t6.val = 10 →
    ∀ v, Gd (tri (t5 + 13) + t6) c (slab8 t8) v → Gd (tri (t5 + 13) + t6 + 1) c (slab8 t8) (k0_pay64 t5 t8 v)
  g6 : ∀ (c : Dev nD) (t5 : Fin k0_t5_loop.trips) (t6 : Fin (k0_t6_loop t5).trips) (t8 : Fin k0_t8_loop.trips), t5.val + 13 - t6.val = 11 →
    ∀ v, Gd (tri (t5 + 13) + t6) c (slab8 t8) v → Gd (tri (t5 + 13) + t6 + 1) c (slab8 t8) (k0_pay65 t5 t8 v)
  g7 : ∀ (c : Dev nD) (t5 : Fin k0_t5_loop.trips) (t6 : Fin (k0_t6_loop t5).trips) (t8 : Fin k0_t8_loop.trips), t5.val + 13 - t6.val = 12 →
    ∀ v, Gd (tri (t5 + 13) + t6) c (slab8 t8) v → Gd (tri (t5 + 13) + t6 + 1) c (slab8 t8) (k0_pay66 t5 t8 v)
  tC : ∀ (c : Dev nD) (t5 : Fin k0_t5_loop.trips) (t12 : Fin k0_t12_loop.trips),
    ∀ v, Gd (tri (t5 + 13) + (t5 + 9)) c (slab12 t12) v → Gd (tri (t5 + 14)) c (slab12 t12) (tailC t5 t12 (kW5 t5) (baseW12 t12) v)

variable (H : Laws m Gd)

/-! ## The loops -/

omit [FloatOps F] in
/-- A slab with known contents has had its stages. -/
theorem aG_mk (n : ℕ) (c s : Dev nD) (v : Blk F) (h : Gd n c s v) : (aO c s v : sProp 𝕄) ⊢ aG Gd n c s := by
  unfold aG
  iintro H
  iexists v
  isplitr
  · ipureintro; exact h
  iexact H

omit [FloatOps F] in
/-- A slab that has had its stages has contents of which that is known. -/
theorem aG_elim (n : ℕ) (c s : Dev nD) : (aG Gd n c s : sProp 𝕄) ⊢ iprop(∃ v, ⌜Gd n c s v⌝ ∗ aO c s v) := by
  unfold aG; exact Entails.refl _

omit [FloatOps F] in
/-- Of all slabs one or two, for what they come to; the others stay. -/
theorem upd1 (c : Dev nD) (f g : Dev nD → ℕ) (s : Dev nD) (h : ∀ s', s' ≠ s → f s' = g s') :
    (bigSep Finset.univ fun s => aG Gd (f s) c s : sProp 𝕄) ⊢ iprop(aG Gd (f s) c s ∗ (aG Gd (g s) c s -∗ bigSep Finset.univ fun s => aG Gd (g s) c s)) := by
  rw [take s (Finset.mem_univ s) rfl (fun s => aG Gd (f s) c s), take s (Finset.mem_univ s) rfl (fun s => aG Gd (g s) c s),
    bigSep_congr (s := Finset.univ.erase s) (Φ := fun s => aG Gd (f s) c s) (Ψ := fun s => aG Gd (g s) c s)
      (fun s' hs => by rw [h s' (Finset.ne_of_mem_erase hs)])]
  iintro ⟨H, Hr⟩
  isplitl [H]; · iexact H
  iintro H
  isplitl [H]; · iexact H
  iexact Hr

omit [FloatOps F] in
/-- Two slabs may be taken out and put back changed. -/
theorem upd2 (c : Dev nD) (f g : Dev nD → ℕ) (s t : Dev nD) (hst : t ≠ s) (h : ∀ s', s' ≠ s → s' ≠ t → f s' = g s') :
    (bigSep Finset.univ fun s => aG Gd (f s) c s : sProp 𝕄)
      ⊢ iprop(aG Gd (f s) c s ∗ aG Gd (f t) c t ∗ (iprop(aG Gd (g s) c s ∗ aG Gd (g t) c t) -∗ bigSep Finset.univ fun s => aG Gd (g s) c s)) := by
  have ht : t ∈ Finset.univ.erase s := Finset.mem_erase.mpr ⟨hst, Finset.mem_univ t⟩
  rw [take s (Finset.mem_univ s) rfl (fun s => aG Gd (f s) c s), take s (Finset.mem_univ s) rfl (fun s => aG Gd (g s) c s),
    take t ht rfl (fun s => aG Gd (f s) c s), take t ht rfl (fun s => aG Gd (g s) c s),
    bigSep_congr (s := (Finset.univ.erase s).erase t) (Φ := fun s => aG Gd (f s) c s) (Ψ := fun s => aG Gd (g s) c s)
      (fun s' hs => by rw [h s' (Finset.ne_of_mem_erase (Finset.mem_of_mem_erase hs)) (Finset.ne_of_mem_erase hs)])]
  iintro ⟨H, H', Hr⟩
  isplitl [H]; · iexact H
  isplitl [H']; · iexact H'
  iintro ⟨H, H'⟩
  isplitl [H]; · iexact H
  isplitl [H']; · iexact H'
  iexact Hr

omit [FloatOps F] in
/-- Nothing has an index among none. -/
theorem fin0 {n : ℕ} (k : Fin n) (h : n = 0) {P : Prop} : P := by subst h; exact k.elim0

include H

/-- One trip of the loop over the stages between rows 32 or more apart. -/
theorem t3_trip (c : Dev nD) (v112 c0 : BitVec 32) (t1 : Fin k0_t1_loop.trips) (t2 : Fin k0_t2_loop.trips) (t3 : Fin (k0_t3_loop t2).trips) (acc : Unit) :
    aG Gd (tri t2 + t3) c (slabOf c t1) ⊢ WP c (k0_t3_body (F := F) xW (Memref.isWhole_whole _) oW (Memref.isWhole_whole _) aW (Memref.isWhole_whole _) cc0_scratch1 cc0_scratch2 cc0_scratch3 cc0_scratch4 cc0_scratch5 cc0_scoped0 c (v2w c) v112 c0 t1 t2 t3 acc)
      (fun _ => aG Gd (tri t2 + t3 + 1) c (slabOf c t1)) := by
  have hq := q3 t2 t3
  have e2 := cond2_iff t2 t3
  have e3 := cond3_iff t2 t3
  have e4 := cond4_iff t2 t3
  have e5 := cond5_iff t2 t3
  have e6 := cond6_iff t2 t3
  have e7 := cond7_iff t2 t3
  have e8 := cond8_iff t2 t3
  have e9 := cond9_iff t2 t3
  unfold k0_t3_body
  iintro Ha0
  ihave Ha1 := (aG_elim Gd _ c (slabOf c t1)) $$ Ha0
  icases Ha1 with ⟨%v, %hv, Ha⟩
  have hc : t2.val - t3.val = 5 ∨ t2.val - t3.val = 6 ∨ t2.val - t3.val = 7 ∨ t2.val - t3.val = 8 ∨ t2.val - t3.val = 9 ∨ t2.val - t3.val = 10
      ∨ t2.val - t3.val = 11 ∨ t2.val - t3.val = 12 := by omega
  rcases hc with h | h | h | h | h | h | h | h
  · simp only [dif_pos (e2.mpr h), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off8_eq c t1) _ v) $$ Ha; iintro Ha
    iapply (wp_st c (slabOf c t1) _ (k0_off8_eq c t1) _ _ v) $$ Ha; iintro Ha
    iapply (wp_done c)
    iapply (aG_mk Gd _ c (slabOf c t1) _ (H.a0 c t1 t2 t3 h v hv)); iexact Ha
  · simp only [dif_neg (show ¬ k0_cond2 t2 t3 = 1#1 from fun hh => by have := e2.mp hh; omega), dif_pos (e3.mpr h), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off9_eq c t1) _ v) $$ Ha; iintro Ha
    iapply (wp_st c (slabOf c t1) _ (k0_off9_eq c t1) _ _ v) $$ Ha; iintro Ha
    iapply (wp_done c)
    iapply (aG_mk Gd _ c (slabOf c t1) _ (H.a1 c t1 t2 t3 h v hv)); iexact Ha
  · simp only [dif_neg (show ¬ k0_cond2 t2 t3 = 1#1 from fun hh => by have := e2.mp hh; omega), dif_neg (show ¬ k0_cond3 t2 t3 = 1#1 from fun hh => by have := e3.mp hh; omega), dif_pos (e4.mpr h), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off10_eq c t1) _ v) $$ Ha; iintro Ha
    iapply (wp_st c (slabOf c t1) _ (k0_off10_eq c t1) _ _ v) $$ Ha; iintro Ha
    iapply (wp_done c)
    iapply (aG_mk Gd _ c (slabOf c t1) _ (H.a2 c t1 t2 t3 h v hv)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_pos (e5.mpr h), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off11_eq c t1) _ v) $$ Ha; iintro Ha
    iapply (wp_st c (slabOf c t1) _ (k0_off11_eq c t1) _ _ v) $$ Ha; iintro Ha
    iapply (wp_done c)
    iapply (aG_mk Gd _ c (slabOf c t1) _ (H.a3 c t1 t2 t3 h v hv)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_pos (e6.mpr h), dif_neg (show ¬ k0_cond7 t2 t3 = 1#1 from fun hh => by have := e7.mp hh; omega), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off12_eq c t1) _ v) $$ Ha; iintro Ha
    iapply (wp_st c (slabOf c t1) _ (k0_off12_eq c t1) _ _ v) $$ Ha; iintro Ha
    iapply (wp_done c)
    iapply (aG_mk Gd _ c (slabOf c t1) _ (H.a4 c t1 t2 t3 h v hv)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_pos (e7.mpr h), dif_neg (show ¬ k0_cond8 t2 t3 = 1#1 from fun hh => by have := e8.mp hh; omega), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off13_eq c t1) _ v) $$ Ha; iintro Ha
    iapply (wp_st c (slabOf c t1) _ (k0_off13_eq c t1) _ _ v) $$ Ha; iintro Ha
    iapply (wp_done c)
    iapply (aG_mk Gd _ c (slabOf c t1) _ (H.a5 c t1 t2 t3 h v hv)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_pos (e8.mpr h), dif_neg (show ¬ k0_cond9 t2 t3 = 1#1 from fun hh => by have := e9.mp hh; omega)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off14_eq c t1) _ v) $$ Ha; iintro Ha
    iapply (wp_st c (slabOf c t1) _ (k0_off14_eq c t1) _ _ v) $$ Ha; iintro Ha
    iapply (wp_done c)
    iapply (aG_mk Gd _ c (slabOf c t1) _ (H.a6 c t1 t2 t3 h v hv)); iexact Ha
  · simp only [dif_neg (show ¬ k0_cond2 t2 t3 = 1#1 from fun hh => by have := e2.mp hh; omega), dif_neg (show ¬ k0_cond3 t2 t3 = 1#1 from fun hh => by have := e3.mp hh; omega), dif_neg (show ¬ k0_cond4 t2 t3 = 1#1 from fun hh => by have := e4.mp hh; omega), dif_neg (show ¬ k0_cond5 t2 t3 = 1#1 from fun hh => by have := e5.mp hh; omega), dif_neg (show ¬ k0_cond6 t2 t3 = 1#1 from fun hh => by have := e6.mp hh; omega), dif_neg (show ¬ k0_cond7 t2 t3 = 1#1 from fun hh => by have := e7.mp hh; omega), dif_neg (show ¬ k0_cond8 t2 t3 = 1#1 from fun hh => by have := e8.mp hh; omega), dif_pos (e9.mpr h)]
    simp only [Prog.lift, Prog.bind_op, Prog.bind_ret, Prog.pure_eq_ret]
    iapply (wp_ld c (slabOf c t1) _ (k0_off7_eq c t1) _ v) $$ Ha; iintro Ha
    iapply (wp_ld c (slabOf c t1) _ (k0_off15_eq c t1) _ v) $$ Ha; iintro Ha
    iapply (wp_st c (slabOf c t1) _ (k0_off15_eq c t1) _ _ v) $$ Ha; iintro Ha
    iapply (wp_done c)
    iapply (aG_mk Gd _ c (slabOf c t1) _ (H.a7 c t1 t2 t3 h v hv)); iexact Ha

/-- One trip of the loop over the levels inside a slab. -/
theorem t2_trip (c : Dev nD) (v112 c0 : BitVec 32) (t1 : Fin k0_t1_loop.trips) (t2 : Fin k0_t2_loop.trips) (acc : Unit) :
    aG Gd (tri t2) c (slabOf c t1) ⊢ WP c (k0_t2_body (F := F) xW (Memref.isWhole_whole _) oW (Memref.isWhole_whole _) aW (Memref.isWhole_whole _) cc0_scratch1 cc0_scratch2 cc0_scratch3 cc0_scratch4 cc0_scratch5 cc0_scoped0 c (v2w c) v112 c0 t1 (baseW c t1) t2 acc)
      (fun _ => aG Gd (tri (t2 + 1)) c (slabOf c t1)) := by
  unfold k0_t2_body
  iintro Ha
  have h18 := cond18_iff t2
  have h19 := cond19_iff t2
  iapply (Scf.wp_for_bind frame (wpE (defs₀ (F := F)) 𝒱₀ (c : Thread nD τ) none) Set.univ _ _ _ (k0_t3_ok t2) _ _
      (fun k _ => aG Gd (tri t2 + k) c (slabOf c t1)) (fun k acc => t3_trip m Gd H c v112 c0 t1 t2 k acc)) $$ [Ha]
  · iexact Ha
  iintro %_u Ha
  iapply (Scf.wp_for_bind frame (wpE (defs₀ (F := F)) 𝒱₀ (c : Thread nD τ) none) Set.univ _ _ _ (k0_t4_ok t2) _ _
      (fun k _ => aG Gd (tri t2 + (t2 - 4)) c (slabOf c t1)) (fun k acc => fin0 k (trips4 t2))) $$ [Ha]
  · rw [show Scf.trips _ _ _ = _ from trips3 t2]; iexact Ha
  iintro %_u Ha
  ihave Ha1 := (aG_elim Gd _ c (slabOf c t1)) $$ Ha
  icases Ha1 with ⟨%v, %hv, Ha⟩
  rcases Nat.lt_or_ge t2.val 4 with h | h
  · simp only [dif_neg (show ¬ k0_cond18 t2 = 1#1 from fun hh => by have := h18.mp hh; omega), dif_pos (h19.mpr h), k0_part5_eq_skeleton]
    unfold k0_part5_skel
    simp only [k0_part3_eq_skeleton, k0_part4_eq_skeleton]
    unfold k0_part3_skel k0_part4_skel
    simp only [Prog.lift, Prog.bind_op, Prog.bind_ret, Prog.pure_eq_ret]
    iapply (wp_ld c (slabOf c t1) _ (k0_off26_eq c t1) _ v) $$ Ha; iintro Ha
    iapply (wp_ld c (slabOf c t1) _ (k0_off26_eq c t1) _ v) $$ Ha; iintro Ha
    iapply (wp_st c (slabOf c t1) _ (k0_off26_eq c t1) _ _ v) $$ Ha; iintro Ha
    iapply (wp_done c)
    iapply (aG_mk Gd _ c (slabOf c t1) _ (H.tB c t1 t2 h v hv)); iexact Ha
  · simp only [dif_neg (show ¬ k0_cond19 t2 = 1#1 from fun hh => by have := h19.mp hh; omega), dif_pos (h18.mpr h), k0_part1_eq_skeleton, k0_part2_eq_skeleton]
    unfold k0_part1_skel k0_part2_skel
    simp only [Prog.lift, Prog.bind_op, Prog.bind_ret, Prog.pure_eq_ret]
    iapply (wp_ld c (slabOf c t1) _ (k0_off25_eq c t1) _ v) $$ Ha; iintro Ha
    iapply (wp_ld c (slabOf c t1) _ (k0_off25_eq c t1) _ v) $$ Ha; iintro Ha
    iapply (wp_st c (slabOf c t1) _ (k0_off25_eq c t1) _ _ v) $$ Ha; iintro Ha
    iapply (wp_done c)
    iapply (aG_mk Gd _ c (slabOf c t1) _ (H.tA c t1 t2 h v hv)); iexact Ha

/-- All the levels inside a slab. -/
theorem t2_loop (c : Dev nD) (v112 c0 : BitVec 32) (t1 : Fin k0_t1_loop.trips) {α : Type} {Q : α → sProp 𝕄}
    {kk : Unit → Prog (TpuEff nD τ sig (Elt F) Λ₀ .tc) α} :
    aG Gd 0 c (slabOf c t1) ⊢ iprop((aG Gd 91 c (slabOf c t1) -∗ WP c (kk ()) Q)
      -∗ WP c (Scf.Loop.for k0_t2_loop k0_t2_ok () (k0_t2_body (F := F) xW (Memref.isWhole_whole _) oW (Memref.isWhole_whole _) aW (Memref.isWhole_whole _) cc0_scratch1 cc0_scratch2 cc0_scratch3 cc0_scratch4 cc0_scratch5 cc0_scoped0 c (v2w c) v112 c0 t1 (baseW c t1)) >>= kk) Q) := by
  iintro Ha Hk
  iapply (Scf.wp_for_bind frame (wpE (defs₀ (F := F)) 𝒱₀ (c : Thread nD τ) none) Set.univ _ _ _ k0_t2_ok _ _
      (fun k _ => aG Gd (tri k) c (slabOf c t1)) (fun k acc => t2_trip m Gd H c v112 c0 t1 k acc)) $$ [Ha]
  · iexact Ha
  rw [show Scf.trips _ _ _ = _ from trips2]
  iintro %_u Ha
  iapply Hk; iexact Ha

/-! ## The stages between slabs -/

/-- The trip of the pairing loop that touches slab `s`. -/
def ix7 (p s : ℕ) : ℕ := s / 2 ^ (p + 1) * 2 ^ p + s % 2 ^ p

omit [FloatOps F] H in
/-- Both slabs of a pair belong to its trip, and no other slab does. -/
theorem ix7_lo : ∀ (t5 : Fin k0_t5_loop.trips) (t6 : Fin (k0_t6_loop t5).trips) (t7 : Fin k0_t7_loop.trips) (h : k0_cond20 t5 t6 = 1#1),
    ix7 (t5 - t6) (slabL t5 t6 t7 h).val = t7 ∧ ix7 (t5 - t6) (slabH t5 t6 t7 h).val = t7 ∧ slabH t5 t6 t7 h ≠ slabL t5 t6 t7 h
      ∧ ∀ s : Dev nD, s ≠ slabL t5 t6 t7 h → s ≠ slabH t5 t6 t7 h → ix7 (t5 - t6) s.val ≠ t7 := by decide +kernel
omit [FloatOps F] H in
/-- Every slab belongs to one of the four trips. -/
theorem ix7_lt : ∀ (t5 : Fin k0_t5_loop.trips) (t6 : Fin (k0_t6_loop t5).trips) (h : k0_cond20 t5 t6 = 1#1) (s : Dev nD), ix7 (t5 - t6) s.val < 4 := by decide +kernel

/-- One trip of the pairing loop. -/
theorem t7_trip (c : Dev nD) (v2 : BitVec 32) (t5 : Fin k0_t5_loop.trips) (t6 : Fin (k0_t6_loop t5).trips) (h : k0_cond20 t5 t6 = 1#1)
    (t7 : Fin k0_t7_loop.trips) (acc : Unit) :
    (bigSep Finset.univ fun s => aG Gd (if ix7 (t5 - t6) s.val < t7.val then tri (t5 + 13) + t6 + 1 else tri (t5 + 13) + t6) c s)
      ⊢ WP c (k0_t7_body (F := F) xW (Memref.isWhole_whole _) oW (Memref.isWhole_whole _) aW (Memref.isWhole_whole _) cc0_scratch1 cc0_scratch2 cc0_scratch3 cc0_scratch4 cc0_scratch5 cc0_scoped0 c v2 t5 t6 h t7 acc)
      (fun _ => bigSep Finset.univ fun s => aG Gd (if ix7 (t5 - t6) s.val < t7.val + 1 then tri (t5 + 13) + t6 + 1 else tri (t5 + 13) + t6) c s) := by
  obtain ⟨hl, hh, hne, ho⟩ := ix7_lo t5 t6 t7 h
  unfold k0_t7_body
  simp only [Prog.lift, Prog.bind_op, Prog.bind_ret, Prog.pure_eq_ret]
  iintro Hs
  ihave Hs' := (upd2 Gd c (fun s => if ix7 (t5 - t6) s.val < t7.val then tri (t5 + 13) + t6 + 1 else tri (t5 + 13) + t6)
    (fun s => if ix7 (t5 - t6) s.val < t7.val + 1 then tri (t5 + 13) + t6 + 1 else tri (t5 + 13) + t6) (slabL t5 t6 t7 h) (slabH t5 t6 t7 h) hne
    (fun s h1 h2 => by have := ho s h1 h2; simp only [show (ix7 (t5 - t6) s.val < t7.val) = (ix7 (t5 - t6) s.val < t7.val + 1) from propext ⟨fun _ => by omega, fun _ => by omega⟩])) $$ Hs
  simp only [hl, hh, if_neg (Nat.lt_irrefl _), if_pos (Nat.lt_succ_self _)]
  icases Hs' with ⟨Hl, Hh, Hk⟩
  ihave Hl1 := (aG_elim Gd _ c (slabL t5 t6 t7 h)) $$ Hl
  icases Hl1 with ⟨%v, %hv, Hl⟩
  ihave Hh1 := (aG_elim Gd _ c (slabH t5 t6 t7 h)) $$ Hh
  icases Hh1 with ⟨%w, %hw, Hh⟩
  iapply (wp_ld c (slabL t5 t6 t7 h) _ (off27_eq' t5 t6 t7 h) _ v) $$ Hl; iintro Hl
  iapply (wp_ld c (slabH t5 t6 t7 h) _ (off28_eq' t5 t6 t7 h) _ w) $$ Hh; iintro Hh
  iapply (wp_ld c (slabL t5 t6 t7 h) _ (off27_eq' t5 t6 t7 h) _ v) $$ Hl; iintro Hl
  iapply (wp_st c (slabL t5 t6 t7 h) _ (off27_eq' t5 t6 t7 h) _ _ v) $$ Hl; iintro Hl
  iapply (wp_ld c (slabH t5 t6 t7 h) _ (off28_eq' t5 t6 t7 h) _ w) $$ Hh; iintro Hh
  iapply (wp_st c (slabH t5 t6 t7 h) _ (off28_eq' t5 t6 t7 h) _ _ w) $$ Hh; iintro Hh
  iapply (wp_done c)
  iapply Hk
  isplitl [Hl]
  · iapply (aG_mk Gd _ c (slabL t5 t6 t7 h) _ (H.pr c t5 t6 t7 h v w hv hw).1); iexact Hl
  · iapply (aG_mk Gd _ c (slabH t5 t6 t7 h) _ (H.pr c t5 t6 t7 h v w hv hw).2); iexact Hh

/-- One trip of the loop that runs one stage on every slab. -/
theorem t8_trip (c : Dev nD) (v2 : BitVec 32) (t5 : Fin k0_t5_loop.trips) (t6 : Fin (k0_t6_loop t5).trips) (h21 : k0_cond21 t5 t6 = 1#1)
    (t8 : Fin k0_t8_loop.trips) (acc : Unit) :
    (bigSep Finset.univ fun s : Dev nD => aG Gd (if s.val < t8.val then tri (t5 + 13) + t6 + 1 else tri (t5 + 13) + t6) c s)
      ⊢ WP c (k0_t8_body (F := F) xW (Memref.isWhole_whole _) oW (Memref.isWhole_whole _) aW (Memref.isWhole_whole _) cc0_scratch1 cc0_scratch2 cc0_scratch3 cc0_scratch4 cc0_scratch5 cc0_scoped0 c v2 t5 t6 h21 t8 acc)
      (fun _ => bigSep Finset.univ fun s : Dev nD => aG Gd (if s.val < t8.val + 1 then tri (t5 + 13) + t6 + 1 else tri (t5 + 13) + t6) c s) := by
  have hq := q6 t5 t6 h21
  have e2 := cond22_iff t5 t6
  have e3 := cond23_iff t5 t6
  have e4 := cond24_iff t5 t6
  have e5 := cond25_iff t5 t6
  have e6 := cond26_iff t5 t6
  have e7 := cond27_iff t5 t6
  have e8 := cond28_iff t5 t6
  have e9 := cond29_iff t5 t6
  unfold k0_t8_body
  iintro Hs
  ihave Hs' := (upd1 Gd c (fun s => if s.val < t8.val then tri (t5 + 13) + t6 + 1 else tri (t5 + 13) + t6)
    (fun s => if s.val < t8.val + 1 then tri (t5 + 13) + t6 + 1 else tri (t5 + 13) + t6) (slab8 t8)
    (fun s h1 => by have : s.val ≠ t8.val := fun e => h1 (Fin.ext e)
                    simp only [show (s.val < t8.val) = (s.val < t8.val + 1) from propext ⟨fun _ => by omega, fun _ => by omega⟩])) $$ Hs
  simp only [if_neg (Nat.lt_irrefl _), if_pos (Nat.lt_succ_self _)]
  icases Hs' with ⟨Ha0, Hk⟩
  ihave Ha1 := (aG_elim Gd _ c (slab8 t8)) $$ Ha0
  icases Ha1 with ⟨%v, %hv, Ha⟩
  have hc : t5.val + 13 - t6.val = 5 ∨ t5.val + 13 - t6.val = 6 ∨ t5.val + 13 - t6.val = 7 ∨ t5.val + 13 - t6.val = 8 ∨ t5.val + 13 - t6.val = 9 ∨ t5.val + 13 - t6.val = 10
      ∨ t5.val + 13 - t6.val = 11 ∨ t5.val + 13 - t6.val = 12 := by omega
  rcases hc with h | h | h | h | h | h | h | h
  · simp only [dif_pos (e2.mpr h), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off30_eq t8) _ v) $$ Ha; iintro Ha
    iapply (wp_st c (slab8 t8) _ (k0_off30_eq t8) _ _ v) $$ Ha; iintro Ha
    iapply (wp_done c)
    iapply Hk
    iapply (aG_mk Gd _ c (slab8 t8) _ (H.g0 c t5 t6 t8 h v hv)); iexact Ha
  · simp only [dif_neg (show ¬ k0_cond22 t5 t6 = 1#1 from fun hh => by have := e2.mp hh; omega), dif_pos (e3.mpr h), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off31_eq t8) _ v) $$ Ha; iintro Ha
    iapply (wp_st c (slab8 t8) _ (k0_off31_eq t8) _ _ v) $$ Ha; iintro Ha
    iapply (wp_done c)
    iapply Hk
    iapply (aG_mk Gd _ c (slab8 t8) _ (H.g1 c t5 t6 t8 h v hv)); iexact Ha
  · simp only [dif_neg (show ¬ k0_cond22 t5 t6 = 1#1 from fun hh => by have := e2.mp hh; omega), dif_neg (show ¬ k0_cond23 t5 t6 = 1#1 from fun hh => by have := e3.mp hh; omega), dif_pos (e4.mpr h), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off32_eq t8) _ v) $$ Ha; iintro Ha
    iapply (wp_st c (slab8 t8) _ (k0_off32_eq t8) _ _ v) $$ Ha; iintro Ha
    iapply (wp_done c)
    iapply Hk
    iapply (aG_mk Gd _ c (slab8 t8) _ (H.g2 c t5 t6 t8 h v hv)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_pos (e5.mpr h), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off33_eq t8) _ v) $$ Ha; iintro Ha
    iapply (wp_st c (slab8 t8) _ (k0_off33_eq t8) _ _ v) $$ Ha; iintro Ha
    iapply (wp_done c)
    iapply Hk
    iapply (aG_mk Gd _ c (slab8 t8) _ (H.g3 c t5 t6 t8 h v hv)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_pos (e6.mpr h), dif_neg (show ¬ k0_cond27 t5 t6 = 1#1 from fun hh => by have := e7.mp hh; omega), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off34_eq t8) _ v) $$ Ha; iintro Ha
    iapply (wp_st c (slab8 t8) _ (k0_off34_eq t8) _ _ v) $$ Ha; iintro Ha
    iapply (wp_done c)
    iapply Hk
    iapply (aG_mk Gd _ c (slab8 t8) _ (H.g4 c t5 t6 t8 h v hv)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_pos (e7.mpr h), dif_neg (show ¬ k0_cond28 t5 t6 = 1#1 from fun hh => by have := e8.mp hh; omega), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off35_eq t8) _ v) $$ Ha; iintro Ha
    iapply (wp_st c (slab8 t8) _ (k0_off35_eq t8) _ _ v) $$ Ha; iintro Ha
    iapply (wp_done c)
    iapply Hk
    iapply (aG_mk Gd _ c (slab8 t8) _ (H.g5 c t5 t6 t8 h v hv)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_pos (e8.mpr h), dif_neg (show ¬ k0_cond29 t5 t6 = 1#1 from fun hh => by have := e9.mp hh; omega)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off36_eq t8) _ v) $$ Ha; iintro Ha
    iapply (wp_st c (slab8 t8) _ (k0_off36_eq t8) _ _ v) $$ Ha; iintro Ha
    iapply (wp_done c)
    iapply Hk
    iapply (aG_mk Gd _ c (slab8 t8) _ (H.g6 c t5 t6 t8 h v hv)); iexact Ha
  · simp only [dif_neg (show ¬ k0_cond22 t5 t6 = 1#1 from fun hh => by have := e2.mp hh; omega), dif_neg (show ¬ k0_cond23 t5 t6 = 1#1 from fun hh => by have := e3.mp hh; omega), dif_neg (show ¬ k0_cond24 t5 t6 = 1#1 from fun hh => by have := e4.mp hh; omega), dif_neg (show ¬ k0_cond25 t5 t6 = 1#1 from fun hh => by have := e5.mp hh; omega), dif_neg (show ¬ k0_cond26 t5 t6 = 1#1 from fun hh => by have := e6.mp hh; omega), dif_neg (show ¬ k0_cond27 t5 t6 = 1#1 from fun hh => by have := e7.mp hh; omega), dif_neg (show ¬ k0_cond28 t5 t6 = 1#1 from fun hh => by have := e8.mp hh; omega), dif_pos (e9.mpr h)]
    simp only [Prog.lift, Prog.bind_op, Prog.bind_ret, Prog.pure_eq_ret]
    iapply (wp_ld c (slab8 t8) _ (k0_off29_eq t8) _ v) $$ Ha; iintro Ha
    iapply (wp_ld c (slab8 t8) _ (k0_off37_eq t8) _ v) $$ Ha; iintro Ha
    iapply (wp_st c (slab8 t8) _ (k0_off37_eq t8) _ _ v) $$ Ha; iintro Ha
    iapply (wp_done c)
    iapply Hk
    iapply (aG_mk Gd _ c (slab8 t8) _ (H.g7 c t5 t6 t8 h v hv)); iexact Ha

/-- One stage on all slabs, whichever loop runs it. -/
theorem t6_trip (c : Dev nD) (v2 : BitVec 32) (t5 : Fin k0_t5_loop.trips) (t6 : Fin (k0_t6_loop t5).trips) (acc : Unit) :
    (bigSep Finset.univ fun s : Dev nD => aG Gd (tri (t5 + 13) + t6) c s)
      ⊢ WP c (k0_t6_body (F := F) xW (Memref.isWhole_whole _) oW (Memref.isWhole_whole _) aW (Memref.isWhole_whole _) cc0_scratch1 cc0_scratch2 cc0_scratch3 cc0_scratch4 cc0_scratch5 cc0_scoped0 c v2 t5 t6 acc)
      (fun _ => bigSep Finset.univ fun s : Dev nD => aG Gd (tri (t5 + 13) + t6 + 1) c s) := by
  unfold k0_t6_body
  iintro Hs
  by_cases h : t6.val ≤ t5.val
  · have h20 := (cond20_iff t5 t6).mpr h
    simp only [dif_pos h20, dif_neg (show ¬ k0_cond21 t5 t6 = 1#1 from fun hh => (cond21_iff t5 t6).mp hh h)]
    iapply (Scf.wp_for_bind frame (wpE (defs₀ (F := F)) 𝒱₀ (c : Thread nD τ) none) Set.univ _ _ _ (k0_t7_ok t5 t6 h20) _ _
      (fun k _ => bigSep Finset.univ fun s : Dev nD => aG Gd (if ix7 (t5 - t6) s.val < k then tri (t5 + 13) + t6 + 1 else tri (t5 + 13) + t6) c s)
      (fun k acc => t7_trip m Gd H c v2 t5 t6 h20 k acc)) $$ [Hs]
    · simp only [if_neg (Nat.not_lt_zero _)]; iexact Hs
    rw [show Scf.trips _ _ _ = _ from trips7]
    simp only [if_pos (ix7_lt t5 t6 h20 _)]
    iintro %_u Hs
    simp only [Prog.lift, Prog.bind_op, Prog.bind_ret, Prog.pure_eq_ret]
    iapply (wp_done c); iexact Hs
  · have h21 := (cond21_iff t5 t6).mpr h
    simp only [dif_pos h21, dif_neg (show ¬ k0_cond20 t5 t6 = 1#1 from fun hh => h ((cond20_iff t5 t6).mp hh))]
    iapply (Scf.wp_for_bind frame (wpE (defs₀ (F := F)) 𝒱₀ (c : Thread nD τ) none) Set.univ _ _ _ (k0_t8_ok t5 t6 h21) _ _
      (fun k _ => bigSep Finset.univ fun s : Dev nD => aG Gd (if s.val < k then tri (t5 + 13) + t6 + 1 else tri (t5 + 13) + t6) c s)
      (fun k acc => t8_trip m Gd H c v2 t5 t6 h21 k acc)) $$ [Hs]
    · simp only [if_neg (Nat.not_lt_zero _)]; iexact Hs
    rw [show Scf.trips _ _ _ = _ from trips8]
    simp only [if_pos (show ∀ s : Dev nD, s.val < 8 from fun s => s.isLt)]
    iintro %_u Hs
    simp only [Prog.lift, Prog.bind_op, Prog.bind_ret, Prog.pure_eq_ret]
    iapply (wp_done c); iexact Hs

end Cert.KernelIdeal.Net
-- ==== Proof.KI.Moves.lean ====
/-
The moves of the protocol in its own terms: the copies of the two exchanges and the waits for them.
-/
module

public import proofs.«01_k».proof.Proof.KI.Steps

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (Gd : Know F) (K : Dev nD × CK → ℕ)

/-! ## Semaphores and blocks at the offsets the kernel computes -/

/-- The semaphore of a send of the first exchange. -/
theorem sem1_at (d : Dev nD) (off : Fin 1 → ℕ) (h : off = ![d.val]) (inb : ∀ a, off a + S1.size a ≤ S8.size a) :
    csem (kS1 d) = .dma ((cc0_scratch1.slice (Rect.unit (s := S8) off S1.size inb)).squeeze S_ squeezes_S1_S_).sem := by
  subst h; revert d; decide
/-- The semaphore of a landing of the first exchange. -/
theorem sem2_at (d : Dev nD) (off : Fin 1 → ℕ) (h : off = ![d.val]) (inb : ∀ a, off a + S1.size a ≤ S8.size a) :
    csem (kR1 d) = .dma ((cc0_scratch2.slice (Rect.unit (s := S8) off S1.size inb)).squeeze S_ squeezes_S1_S_).sem := by
  subst h; revert d; decide
/-- The semaphore of a send of the second exchange. -/
theorem sem3_at (d : Dev nD) (off : Fin 1 → ℕ) (h : off = ![d.val]) (inb : ∀ a, off a + S1.size a ≤ S8.size a) :
    csem (kS2 d) = .dma ((cc0_scratch3.slice (Rect.unit (s := S8) off S1.size inb)).squeeze S_ squeezes_S1_S_).sem := by
  subst h; revert d; decide
/-- The semaphore of a landing of the second exchange. -/
theorem sem4_at (d : Dev nD) (off : Fin 1 → ℕ) (h : off = ![d.val]) (inb : ∀ a, off a + S1.size a ≤ S8.size a) :
    csem (kR2 d) = .dma ((cc0_scratch4.slice (Rect.unit (s := S8) off S1.size inb)).squeeze S_ squeezes_S1_S_).sem := by
  subst h; revert d; decide
/-- The semaphore of the local copies. -/
theorem semL_at : csem kLoc = .dma cc0_scratch5.sem := by decide

variable {α : Type} {kk : PUnit → Prog (TpuEff nD τ sig (Elt F) Λ₀ .tc) α}

omit [FloatOps F] in
/-- A slab with any contents. -/
theorem aAny_of (c s : Dev nD) (v : Blk F) : owns (c : Thread nD τ) (aM s) fullShare v ⊢ (aAny c s : sProp 𝕄) := by
  unfold aAny aO
  iintro H; iexists v; iexact H
omit [FloatOps F] in
/-- A block of the result with sorted contents. -/
theorem oG_of (c r : Dev nD) (v : Blk F) (h : Gd nAll r c v) : owns (c : Thread nD τ) (oM r) fullShare v ⊢ (oG Gd c r : sProp 𝕄) := by
  unfold oG oO
  iintro H; iexists v; isplitr; · ipureintro; exact h
  iexact H
/-- The second local copy brings the own block of the result and gives back the own slab. -/
theorem pay_loc1 (c : Dev nD) : pay m Gd c 1 0 kLoc = iprop(oG Gd c c ∗ aAny c c) := by
  show (if 1 = 0 then iprop(aO c c (xblk m c c) ∗ xO c c (xblk m c c)) else iprop(oG Gd c c ∗ aAny c c)) = _
  exact if_neg Nat.one_ne_zero
/-- The first local copy brings the own slab and gives back the argument's own block. -/
theorem pay_loc0 (c : Dev nD) : pay m Gd c 0 0 kLoc = iprop(aO c c (xblk m c c) ∗ xO c c (xblk m c c)) := by
  show (if 0 = 0 then iprop(aO c c (xblk m c c) ∗ xO c c (xblk m c c)) else iprop(oG Gd c c ∗ aAny c c)) = _
  exact if_pos rfl
/-- A send of the first exchange gives back the argument's block. -/
theorem pay_S1 (c : Dev nD) (r : ℕ) (p d : Dev nD) : pay m Gd c r p (kS1 d) = xO c (c + d) (xblk m c (c + d)) := rfl
/-- A landing of the first exchange brings the sender's block. -/
theorem pay_R1 (c : Dev nD) (r : ℕ) (p d : Dev nD) : pay m Gd c r p (kR1 d) = aO c (c - d) (xblk m (c - d) c) := rfl
/-- A send of the second exchange gives back the slab. -/
theorem pay_S2 (c : Dev nD) (r : ℕ) (p s : Dev nD) : pay m Gd c r p (kS2 s) = aAny c s := rfl
/-- A landing of the second exchange brings the sorted block. -/
theorem pay_R2 (c : Dev nD) (r : ℕ) (p s : Dev nD) : pay m Gd c r p (kR2 s) = oG Gd c s := rfl
/-- The barrier brings the places of the signalling device that this one will write. -/
theorem pay_bar (c : Dev nD) (r : ℕ) (p : Dev nD) : pay m Gd c r p kBar = iprop(aAny p c ∗ oAny p c) := rfl
/-- The closing handshake brings nothing. -/
theorem pay_sco (c : Dev nD) (r : ℕ) (p : Dev nD) : pay m Gd c r p kSco = iprop(emp) := rfl
/-- A distance added and taken off. -/
theorem add_sub' (c d : Dev nD) : c + d - d = c := by revert c d; decide

/-- The device's own block of the first exchange: out of its argument into its scratch. -/
theorem mv_loc0 {Q : α → sProp 𝕄} (c : Dev nD) (offx : Fin 2 → ℕ) (hx : offx = ![0, 128 * c.val]) (ix : ∀ a, offx a + S8192x128.size a ≤ S8192x1024.size a)
    (offa : Fin 2 → ℕ) (ha : offa = ![8192 * c.val, 0]) (ia : ∀ a, offa a + S8192x128.size a ≤ S65536x128.size a)
    {hsrc hdst hsem} :
    iprop(Pers m Gd K ∗ tok c kLoc 0 0 ∗ xO c c (xblk m c c) ∗ aAny c c)
      ⊢ iprop((crd c kLoc N -∗ WP c (kk ⟨⟩) Q)
          -∗ WP c (.op (.enqueueDma (xW.slice (Rect.unit (s := S8192x1024) offx S8192x128.size ix) (fun _ => rfl))
                (.here (aW.slice (Rect.unit (s := S65536x128) offa S8192x128.size ia) (fun _ => rfl))) (.dma cc0_scratch5.sem) hsrc hdst hsem) kk) Q) := by
  subst hx ha
  unfold xO aAny aO
  iintro ⟨#HP, Ht, Hx, Ha⟩
  iapply (wp_loc m Gd K c 0 (by decide) (xM c) (aM c) _ semL_at rfl (xblk m c c) (Entails.of_eq rfl))
  isplitr; · iexact HP
  isplitr; · iapply (Pers_reached m Gd K c kLoc); iexact HP
  isplitl [Ht]; · iexact Ht
  isplitl [Hx]; · iexact Hx
  iexact Ha

/-- The device's own block of the second exchange: out of its scratch into its result. -/
theorem mv_loc1 {Q : α → sProp 𝕄} (c : Dev nD) (offa : Fin 2 → ℕ) (ha : offa = ![8192 * c.val, 0]) (ia : ∀ a, offa a + S8192x128.size a ≤ S65536x128.size a)
    (offo : Fin 2 → ℕ) (ho : offo = ![0, 128 * c.val]) (io : ∀ a, offo a + S8192x128.size a ≤ S8192x1024.size a)
    {hsrc hdst hsem} :
    iprop(Pers m Gd K ∗ reached ER (cell c kLoc) 1 ∗ tok c kLoc 1 0 ∗ aG Gd nAll c c ∗ oAny c c)
      ⊢ iprop((crd c kLoc N -∗ WP c (kk ⟨⟩) Q)
          -∗ WP c (.op (.enqueueDma (aW.slice (Rect.unit (s := S65536x128) offa S8192x128.size ia) (fun _ => rfl))
                (.here (oW.slice (Rect.unit (s := S8192x1024) offo S8192x128.size io) (fun _ => rfl))) (.dma cc0_scratch5.sem) hsrc hdst hsem) kk) Q) := by
  subst ho ha
  unfold aG oAny aO oO
  iintro ⟨#HP, #Hr, Ht, ⟨%v, %hv, Ha⟩, Ho⟩
  iapply (wp_loc m Gd K c 1 (by decide) (aM c) (oM c) _ semL_at rfl v
    ((BI.sep_mono (oG_of Gd c c v hv) (aAny_of c c v)).trans (Entails.of_eq (pay_loc1 m Gd c).symm)))
  isplitr; · iexact HP
  isplitr; · iexact Hr
  isplitl [Ht]; · iexact Ht
  isplitl [Ha]; · iexact Ha
  iexact Ho

/-- A send of the first exchange pays its landing. -/
theorem OB_step (c d : Dev nD) : OB c d.val = OB c (d.val + 1) + tallyAt (cell (c + d) (kR1 d)) () N := by
  unfold OB
  rw [← Finset.add_sum_erase _ _ (up_mem c d), up_erase, show c + d - c = d by revert c d; decide, add_assoc, add_comm]
/-- A send of the second exchange pays its landing. -/
theorem OC_step (c s : Dev nD) (h : s ≠ c) : OC c s.val = OC c (s.val + 1) + tallyAt (cell s (kR2 c)) () N := by
  unfold OC
  rw [← Finset.add_sum_erase _ _ (Finset.mem_erase.mpr ⟨h, bt_mem s⟩), Finset.erase_right_comm, bt_erase, add_assoc, add_comm]
/-- The own slab owes nothing. -/
theorem OC_same (c : Dev nD) : OC c c.val = OC c (c.val + 1) := by
  unfold OC
  rw [← bt_erase c, Finset.erase_idem]
/-- A signal of the barrier pays its unit. -/
theorem OA_step (c d : Dev nD) : OA c d.val = OA c (d.val + 1) + tallyAt (cell (c + d) kBar) () 1 := by
  unfold OA
  rw [← Finset.add_sum_erase _ _ (up_mem c d), up_erase, add_assoc, add_comm]
/-- A signal of the closing handshake pays its unit. -/
theorem OD_step (c d : Dev nD) : OD c d.val = OD c (d.val + 1) + tallyAt (cell (c + d) kSco) () 1 := by
  unfold OD
  rw [← Finset.add_sum_erase _ _ (up_mem c d), up_erase, add_comm]
/-- No device is at distance eight. -/
theorem up_empty (c : Dev nD) : Up c 8 8 = ∅ := by revert c; decide
/-- No number is left from eight on. -/
theorem bt_empty : Bt 8 8 = ∅ := by decide
/-- After the barrier's signals the first exchange is owed. -/
theorem OA_end (c : Dev nD) : OA c 8 = OB c 1 := by unfold OA; rw [up_empty, Finset.sum_empty, zero_add]
/-- After the first exchange the second is owed. -/
theorem OB_end (c : Dev nD) : OB c 8 = OC c 0 := by unfold OB; rw [up_empty, Finset.sum_empty, zero_add]
/-- After the second exchange the closing handshake is owed. -/
theorem OC_end (c : Dev nD) : OC c 8 = OD c 1 := by unfold OC; rw [bt_empty, Finset.erase_empty, Finset.sum_empty, zero_add]
/-- After the closing handshake nothing is owed. -/
theorem OD_end (c : Dev nD) : OD c 8 = 0 := by unfold OD; rw [up_empty, Finset.sum_empty]

/-- A block of the first exchange: column block `c + d` of the argument, to device `c + d`'s slab `c`. -/
theorem mv_snd1 {Q : α → sProp 𝕄} (c d n : Dev nD) (hd : d ≠ 0) (hn : n = c + d)
    (offx : Fin 2 → ℕ) (hx : offx = ![0, 128 * (c + d).val]) (ix : ∀ a, offx a + S8192x128.size a ≤ S8192x1024.size a)
    (offa : Fin 2 → ℕ) (ha : offa = ![8192 * c.val, 0]) (ia : ∀ a, offa a + S8192x128.size a ≤ S65536x128.size a)
    (offs : Fin 1 → ℕ) (hs : offs = ![d.val]) (is : ∀ a, offs a + S1.size a ≤ S8.size a)
    {hsc hsrc hdst hsem} :
    iprop(Pers m Gd K ∗ oweE c (OB c d.val) ∗ tok c (kS1 d) 0 0 ∗ tok (c + d) (kR1 d) 0 0 ∗ xO c (c + d) (xblk m c (c + d)) ∗ aAny (c + d) c)
      ⊢ iprop((iprop(oweE c (OB c (d.val + 1)) ∗ crd c (kS1 d) N) -∗ WP c (kk ⟨⟩) Q)
          -∗ WP c (.op (.enqueueDma (xW.slice (Rect.unit (s := S8192x1024) offx S8192x128.size ix) (fun _ => rfl))
                (.remote (Dev.tc n : Thread nD τ) (aW.slice (Rect.unit (s := S65536x128) offa S8192x128.size ia) (fun _ => rfl))
                  (.dma ((cc0_scratch1.slice (Rect.unit (s := S8) offs S1.size is)).squeeze S_ squeezes_S1_S_).sem) hsc)
                (.dma ((cc0_scratch2.slice (Rect.unit (s := S8) offs S1.size is)).squeeze S_ squeezes_S1_S_).sem) hsrc hdst hsem) kk) Q) := by
  subst hx ha
  unfold xO aAny aO
  refine wp_snd m Gd K c n (c + d) hn (xM (c + d)) (aM c) (kS1 d) (kR1 d)
    (by rw [show dut c 0 (kS1 d) = {0} from if_pos ⟨rfl, hd⟩]; exact Finset.mem_singleton_self _)
    (by rw [show dut (c + d) 0 (kR1 d) = {0} from if_pos ⟨rfl, hd⟩]; exact Finset.mem_singleton_self _) rfl rfl _ _
    (sem1_at d offs hs is) (sem2_at d offs hs is) rfl (xblk m c (c + d)) (Entails.of_eq rfl) (Entails.of_eq ?_) _ (OB_step c d)
  show aO (c + d) c (xblk m c (c + d)) = aO (c + d) (c + d - d) (xblk m (c + d - d) (c + d))
  rw [add_sub']

/-- A block of the second exchange: slab `s` of the scratch, to device `s`'s result, column block `c`. -/
theorem mv_snd2 {Q : α → sProp 𝕄} (c s n : Dev nD) (hd : s ≠ c) (hn : n = s)
    (offa : Fin 2 → ℕ) (ha : offa = ![8192 * s.val, 0]) (ia : ∀ a, offa a + S8192x128.size a ≤ S65536x128.size a)
    (offo : Fin 2 → ℕ) (ho : offo = ![0, 128 * c.val]) (io : ∀ a, offo a + S8192x128.size a ≤ S8192x1024.size a)
    (offs : Fin 1 → ℕ) (hs : offs = ![s.val]) (is : ∀ a, offs a + S1.size a ≤ S8.size a)
    (offr : Fin 1 → ℕ) (hr : offr = ![c.val]) (ir : ∀ a, offr a + S1.size a ≤ S8.size a)
    {hsc hsrc hdst hsem} :
    iprop(Pers m Gd K ∗ oweE c (OC c s.val) ∗ tok c (kS2 s) 0 0 ∗ tok s (kR2 c) 0 0 ∗ aG Gd nAll c s ∗ oAny s c)
      ⊢ iprop((iprop(oweE c (OC c (s.val + 1)) ∗ crd c (kS2 s) N) -∗ WP c (kk ⟨⟩) Q)
          -∗ WP c (.op (.enqueueDma (aW.slice (Rect.unit (s := S65536x128) offa S8192x128.size ia) (fun _ => rfl))
                (.remote (Dev.tc n : Thread nD τ) (oW.slice (Rect.unit (s := S8192x1024) offo S8192x128.size io) (fun _ => rfl))
                  (.dma ((cc0_scratch3.slice (Rect.unit (s := S8) offs S1.size is)).squeeze S_ squeezes_S1_S_).sem) hsc)
                (.dma ((cc0_scratch4.slice (Rect.unit (s := S8) offr S1.size ir)).squeeze S_ squeezes_S1_S_).sem) hsrc hdst hsem) kk) Q) := by
  subst ha ho
  unfold aG oAny aO oO
  iintro ⟨HP, HO, Ht, Ht', ⟨%v, %hv, Ha⟩, Ho⟩
  iapply (wp_snd m Gd K c n s hn (aM s) (oM c) (kS2 s) (kR2 c)
    (by rw [show dut c 0 (kS2 s) = {0} from if_pos ⟨rfl, hd⟩]; exact Finset.mem_singleton_self _)
    (by rw [show dut s 0 (kR2 c) = {0} from if_pos ⟨rfl, Ne.symm hd⟩]; exact Finset.mem_singleton_self _) rfl rfl _ _
    (sem3_at s offs hs is) (sem4_at c offr hr ir) rfl v (aAny_of c s v) (oG_of Gd s c v hv) _ (OC_step c s hd))
  isplitl [HP]; · iexact HP
  isplitl [HO]; · iexact HO
  isplitl [Ht]; · iexact Ht
  isplitl [Ht']; · iexact Ht'
  isplitl [Ha]; · iexact Ha
  iexact Ho

/-- The credit of a slab of the scratch. -/
theorem dmaA (off : Fin 2 → ℕ) (ia : ∀ a, off a + S8192x128.size a ≤ S65536x128.size a) : (aW.slice (Rect.unit (s := S65536x128) off S8192x128.size ia) (fun _ => rfl)).view.dmaCredit = N := rfl
/-- The credit of a block of the result. -/
theorem dmaO (off : Fin 2 → ℕ) (ia : ∀ a, off a + S8192x128.size a ≤ S8192x1024.size a) : (oW.slice (Rect.unit (s := S8192x1024) off S8192x128.size ia) (fun _ => rfl)).view.dmaCredit = N := rfl
/-- The credit of a block of the argument. -/
theorem dmaX (off : Fin 2 → ℕ) (ia : ∀ a, off a + S8192x128.size a ≤ S8192x1024.size a) : (xW.slice (Rect.unit (s := S8192x1024) off S8192x128.size ia) (fun _ => rfl)).view.dmaCredit = N := rfl

/-- A wait for one block on one of the copies' cells. -/
theorem mv_wait {Q : α → sProp 𝕄} (c : Dev nD) (k : CK) (R : ℕ) (hd : dut c R k = {0}) (ha : amt k = N)
    {sp sp' : Space} {s s' : Shape} {e e' : EltTy} {sem : DmaSem sig} {src : Memref sig .tc sp' s' e'} {dst : Memref sig .tc sp s e}
    {hsrc : src.view.WordExact} {hdst : dst.view.WordExact}
    (hs : csem k = .dma sem) (hN : dst.view.dmaCredit = N) {O : CellTallies nD τ sig Unit} (hO : Above (lvK k) O) :
    iprop(Pers m Gd K ∗ oweE c O ∗ crd c k N ∗ pos c k R)
      ⊢ iprop((iprop(oweE c O ∗ pos c k (R + 1) ∗ reached ER (cell c k) (R + 1) ∗ pay m Gd c R 0 k) -∗ WP c (kk ⟨⟩) Q)
          -∗ WP c (.op (.waitDma2 sem src dst hsrc hdst) kk) Q) := by
  have h := wp_wait m Gd K (kk := kk) (Q := Q) (w := .waitDma2 sem src dst hsrc hdst) c k R N
    (by rw [hs, ← hN]; exact wpE_waitDma2_eq 𝒱₀ (c : Thread nD τ) none Set.univ)
    (by rw [hd, ha]; exact (Nat.one_mul _).symm) hO
  rw [hd, bigSep_singleton] at h
  exact h

end Cert.KernelIdeal.Net
-- ==== Proof.KI.Phase.lean ====
/-
The two big loops with the protocol: waiting for slabs and sorting them; the last levels and the sending back.
-/
module

public import proofs.«01_k».proof.Proof.KI.Loops
public import proofs.«01_k».proof.Proof.KI.Moves

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (Gd : Know F) (K : Dev nD × CK → ℕ) (H : Laws m Gd)

/-! ## The first sorting loop: the slabs are waited for and sorted one after the other -/

/-- The cell that brings slab `p`, or the slab itself where it is the device's own. -/
def pend1 (c p : Dev nD) : sProp 𝕄 := if p = c then aG Gd 0 c c else iprop(pos c (kR1 (c - p)) 0 ∗ crd c (kR1 (c - p)) N)
/-- The cell that brought slab `p`. -/
def was1 (c p : Dev nD) : sProp 𝕄 := if p = c then iprop(emp) else pos c (kR1 (c - p)) 1
def done1 (c p : Dev nD) : sProp 𝕄 := iprop(was1 c p ∗ aG Gd 91 c p)

/-- The devices done so far, one more taken out. -/
theorem dn_grow (c : Dev nD) (t : Dev nD) : (Dn c 0 (t.val + 1)).erase (c - t) = Dn c 0 t.val := by revert c t; decide
/-- The newest of the devices done so far. -/
theorem dn_mem' (c : Dev nD) (t : Dev nD) : c - t ∈ Dn c 0 (t.val + 1) := by revert c t; decide
/-- The numbers done so far, one more taken out. -/
theorem bt_grow (t : Dev nD) : (Bt 0 (t.val + 1)).erase t = Bt 0 t.val := by revert t; decide
/-- The newest of the numbers done so far. -/
theorem bt_mem' (t : Dev nD) : t ∈ Bt 0 (t.val + 1) := by revert t; decide
/-- The distance to the device at a distance. -/
theorem sub_sub' (c d : Dev nD) : c - (c - d) = d := by revert c d; decide

/-- A trip's distance as a device number. -/
abbrev dist1 (t : Fin k0_t1_loop.trips) : Dev nD := ⟨t.val, lt_of_lt_of_eq t.isLt trips1⟩
/-- The slab of a trip is that of the device at the trip's distance downwards. -/
theorem slabOf_eq : ∀ (c : Dev nD) (t : Fin k0_t1_loop.trips), c - dist1 t = slabOf c t := by decide +kernel
/-- It is the own slab exactly at the trip that does not wait. -/
theorem slabOf_zero : ∀ (c : Dev nD) (t : Fin k0_t1_loop.trips), slabOf c t = c ↔ ¬ k0_cond1 t = 1#1 := by decide +kernel
/-- A trip that waits has a distance. -/
theorem dist_ne : ∀ (t : Fin k0_t1_loop.trips), k0_cond1 t = 1#1 → dist1 t ≠ 0 := by decide +kernel

omit [FloatOps F] in
/-- The own slab is there. -/
theorem pend1_self (c p : Dev nD) (h : p = c) : pend1 Gd c p = aG Gd 0 c p := by subst h; exact if_pos rfl
omit [FloatOps F] in
/-- Another slab is still to land. -/
theorem pend1_ne (c p : Dev nD) (h : ¬ p = c) : pend1 Gd c p = iprop(pos c (kR1 (c - p)) 0 ∗ crd c (kR1 (c - p)) N) := if_neg h
omit [FloatOps F] in
/-- The own slab left no cell behind. -/
theorem was1_self (c p : Dev nD) (h : p = c) : (was1 c p : sProp 𝕄) = iprop(emp) := if_pos h
omit [FloatOps F] in
/-- Another slab left its cell at the next round. -/
theorem was1_ne (c p : Dev nD) (h : ¬ p = c) : (was1 c p : sProp 𝕄) = pos c (kR1 (c - p)) 1 := if_neg h

/-- What the first loop holds before trip `k`. -/
def St1 (c : Dev nD) (k : ℕ) : sProp 𝕄 :=
  iprop(Pers m Gd K ∗ oweE c (OC c 0) ∗ bigSep (Dn c k 8) (pend1 Gd c) ∗ bigSep (Dn c 0 k) (done1 Gd c))

/-- One slab taken out of what the first loop holds. -/
theorem St1_take (c : Dev nD) (d : Dev nD) :
    St1 m Gd K c d.val = iprop(Pers m Gd K ∗ oweE c (OC c 0) ∗ (pend1 Gd c (c - d) ∗ bigSep (Dn c (d.val + 1) 8) (pend1 Gd c)) ∗ bigSep (Dn c 0 d.val) (done1 Gd c)) := by
  unfold St1; rw [take (c - d) (dn_mem c d) (dn_erase c d)]
/-- One slab put back into what the first loop holds. -/
theorem St1_put (c : Dev nD) (d : Dev nD) :
    St1 m Gd K c (d.val + 1) = iprop(Pers m Gd K ∗ oweE c (OC c 0) ∗ bigSep (Dn c (d.val + 1) 8) (pend1 Gd c) ∗ ((was1 c (c - d) ∗ aG Gd 91 c (c - d)) ∗ bigSep (Dn c 0 d.val) (done1 Gd c))) := by
  unfold St1; rw [take (S := Dn c 0 (d.val + 1)) (c - d) (dn_mem' c d) (dn_grow c d)]; rfl

include H in
/-- One trip of the first loop: a slab is awaited and put through the levels within it. -/
theorem t1_trip (c : Dev nD) (v112 c0 : BitVec 32) (t1 : Fin k0_t1_loop.trips) (acc : Unit) :
    St1 m Gd K c t1 ⊢ WP c (k0_t1_body (F := F) xW (Memref.isWhole_whole _) oW (Memref.isWhole_whole _) aW (Memref.isWhole_whole _) cc0_scratch1 cc0_scratch2 cc0_scratch3 cc0_scratch4 cc0_scratch5 cc0_scoped0 c (v2w c) v112 c0 t1 acc) (fun _ => St1 m Gd K c (t1 + 1)) := by
  rw [show St1 m Gd K c t1 = _ from St1_take m Gd K c (dist1 t1), show St1 m Gd K c (t1 + 1) = _ from St1_put m Gd K c (dist1 t1), slabOf_eq]
  unfold k0_t1_body
  iintro ⟨#HP, HO, ⟨Hp, Hps⟩, Hds⟩
  by_cases h : k0_cond1 t1 = 1#1
  · have hne : ¬ slabOf c t1 = c := fun hh => (slabOf_zero c t1).mp hh h
    have hd : c - slabOf c t1 = dist1 t1 := by rw [← slabOf_eq, sub_sub']
    have e1 := pend1_ne Gd c _ hne
    have e2 : (was1 c _ : sProp 𝕄) = _ := was1_ne c _ hne
    rw [hd] at e1 e2
    ihave Hp := (Entails.of_eq e1) $$ Hp
    simp only [dif_pos h, Prog.lift, Prog.bind_op, Prog.bind_ret, Prog.pure_eq_ret]
    icases Hp with ⟨Hat, Hc⟩
    iapply (mv_wait m Gd K c (kR1 (dist1 t1)) 0 (if_pos ⟨rfl, dist_ne t1 h⟩) rfl (sem2_at (dist1 t1) _ (k0_off4_eq t1) _) (dmaA _ _) (above_OC c 0)) $$ [HO Hc Hat]
    · isplitr; · iexact HP
      isplitl [HO]; · iexact HO
      isplitl [Hc]; · iexact Hc
      iexact Hat
    iintro ⟨HO, Hat, -, Hpay⟩
    iapply (t2_loop m Gd H c v112 c0 t1) $$ [Hpay]
    · iapply (aG_mk Gd 0 c (slabOf c t1) (xblk m (slabOf c t1) c) (H.land c (slabOf c t1)))
      rw [← slabOf_eq]
      iapply (Entails.of_eq (pay_R1 m Gd c 0 0 (dist1 t1))); iexact Hpay
    iintro Ha
    iapply (wp_done c)
    isplitr; · iexact HP
    isplitl [HO]; · iexact HO
    isplitl [Hps]; · iexact Hps
    isplitr [Hds]
    · isplitl [Hat]; · iapply (Entails.of_eq e2.symm); iexact Hat
      iexact Ha
    iexact Hds
  · have hc : slabOf c t1 = c := (slabOf_zero c t1).mpr h
    ihave Hp := (Entails.of_eq (pend1_self Gd c _ hc)) $$ Hp
    simp only [dif_neg h, Prog.lift, Prog.bind_op, Prog.bind_ret, Prog.pure_eq_ret]
    iapply (t2_loop m Gd H c v112 c0 t1) $$ Hp
    iintro Ha
    iapply (wp_done c)
    isplitr; · iexact HP
    isplitl [HO]; · iexact HO
    isplitl [Hps]; · iexact Hps
    isplitr [Hds]
    · isplitr; · iapply (Entails.of_eq (was1_self c _ hc).symm); iempintro
      iexact Ha
    iexact Hds

include H in
/-- The first sorting loop. -/
theorem t1_loop (c : Dev nD) (v112 c0 : BitVec 32) {α : Type} {Q : α → sProp 𝕄}
    {kk : Unit → Prog (TpuEff nD τ sig (Elt F) Λ₀ .tc) α} :
    St1 m Gd K c 0 ⊢ iprop((St1 m Gd K c 8 -∗ WP c (kk ()) Q)
      -∗ WP c (Scf.Loop.for k0_t1_loop k0_t1_ok () (k0_t1_body (F := F) xW (Memref.isWhole_whole _) oW (Memref.isWhole_whole _) aW (Memref.isWhole_whole _) cc0_scratch1 cc0_scratch2 cc0_scratch3 cc0_scratch4 cc0_scratch5 cc0_scoped0 c (v2w c) v112 c0) >>= kk) Q) := by
  iintro Ha Hk
  iapply (Scf.wp_for_bind frame (wpE (defs₀ (F := F)) 𝒱₀ (c : Thread nD τ) none) Set.univ _ _ _ k0_t1_ok _ _
      (fun k _ => St1 m Gd K c k) (fun k acc => t1_trip m Gd K H c v112 c0 k acc)) $$ [Ha]
  · iexact Ha
  rw [show Scf.trips _ _ _ = _ from trips1]
  iintro %_u Ha
  iapply Hk; iexact Ha

/-! ## The last levels and the second exchange -/

include H in
/-- The last stages of a level, inside one slab. -/
theorem t12_trip (c : Dev nD) (v2 : BitVec 32) (t5 : Fin k0_t5_loop.trips) (h40 : ¬ k0_cond40 t5 = 1#1) (t12 : Fin k0_t12_loop.trips) (acc : Unit) :
    (bigSep Finset.univ fun s : Dev nD => aG Gd (if s.val < t12.val then tri (t5 + 14) else tri (t5 + 13) + (t5 + 9)) c s)
      ⊢ WP c (k0_t12_body (F := F) xW (Memref.isWhole_whole _) oW (Memref.isWhole_whole _) aW (Memref.isWhole_whole _) cc0_scratch1 cc0_scratch2 cc0_scratch3 cc0_scratch4 cc0_scratch5 cc0_scoped0 c v2 t5 (kW5 t5) t12 acc)
      (fun _ => bigSep Finset.univ fun s : Dev nD => aG Gd (if s.val < t12.val + 1 then tri (t5 + 14) else tri (t5 + 13) + (t5 + 9)) c s) := by
  unfold k0_t12_body
  simp only [dif_neg h40, k0_part6_eq_skeleton, k0_part7_eq_skeleton]
  unfold k0_part6_skel k0_part7_skel
  simp only [Prog.lift, Prog.bind_op, Prog.bind_ret, Prog.pure_eq_ret]
  iintro Hs
  ihave Hs1 := (upd1 Gd c (fun s => if s.val < t12.val then tri (t5 + 14) else tri (t5 + 13) + (t5 + 9))
    (fun s => if s.val < t12.val + 1 then tri (t5 + 14) else tri (t5 + 13) + (t5 + 9)) (slab12 t12)
    (fun s' hs => by
      have : s'.val ≠ t12.val := fun hh => hs (Fin.ext hh)
      exact if_congr (by omega) rfl rfl)) $$ Hs
  simp only [if_neg (Nat.lt_irrefl _), if_pos (Nat.lt_succ_self _)]
  icases Hs1 with ⟨Ha, Hk⟩
  ihave Ha1 := (aG_elim Gd _ c (slab12 t12)) $$ Ha
  icases Ha1 with ⟨%v, %hv, Ha⟩
  iapply (wp_ld c (slab12 t12) _ (k0_off49_eq t12) _ v) $$ Ha; iintro Ha
  iapply (wp_ld c (slab12 t12) _ (k0_off49_eq t12) _ v) $$ Ha; iintro Ha
  iapply (wp_st c (slab12 t12) _ (k0_off49_eq t12) _ _ v) $$ Ha; iintro Ha
  iapply (wp_done c)
  iapply Hk
  iapply (aG_mk Gd _ c (slab12 t12) _ (H.tC c t5 t12 v hv)); iexact Ha

/-- What sending slab `s` needs beside it: the tokens and the block it goes to. -/
def pend2 (c s : Dev nD) : sProp 𝕄 :=
  if s = c then iprop(reached ER (cell c kLoc) 1 ∗ tok c kLoc 1 0 ∗ oAny c c) else iprop(tok c (kS2 s) 0 0 ∗ tok s (kR2 c) 0 0 ∗ oAny s c)
/-- What the sending leaves: the credit to wait with. -/
def sent2 (c s : Dev nD) : sProp 𝕄 := if s = c then crd c kLoc N else crd c (kS2 s) N

omit [FloatOps F] in
/-- The own slab needs the local copy's token and the own block of the result. -/
theorem pend2_self (c s : Dev nD) (h : s = c) : (pend2 c s : sProp 𝕄) = iprop(reached ER (cell c kLoc) 1 ∗ tok c kLoc 1 0 ∗ oAny c c) := if_pos h
omit [FloatOps F] in
/-- Another slab needs both tokens and its block of the result. -/
theorem pend2_ne (c s : Dev nD) (h : ¬ s = c) : (pend2 c s : sProp 𝕄) = iprop(tok c (kS2 s) 0 0 ∗ tok s (kR2 c) 0 0 ∗ oAny s c) := if_neg h
omit [FloatOps F] in
/-- The own slab leaves the local copy's credit. -/
theorem sent2_self (c s : Dev nD) (h : s = c) : (sent2 c s : sProp 𝕄) = crd c kLoc N := if_pos h
omit [FloatOps F] in
/-- Another slab leaves its send's credit. -/
theorem sent2_ne (c s : Dev nD) (h : ¬ s = c) : (sent2 c s : sProp 𝕄) = crd c (kS2 s) N := if_neg h

/-- What the last loop holds before trip `k`. -/
def St2 (n : ℕ) (c : Dev nD) (k : ℕ) : sProp 𝕄 :=
  iprop(Pers m Gd K ∗ oweE c (OC c k) ∗ bigSep (Bt k 8) (fun s => iprop(aG Gd n c s ∗ pend2 c s)) ∗ bigSep (Bt 0 k) (sent2 c))

/-- One slab taken out of what the last loop holds. -/
theorem St2_take (n : ℕ) (c : Dev nD) (d : Dev nD) :
    St2 m Gd K n c d.val = iprop(Pers m Gd K ∗ oweE c (OC c d.val) ∗ ((aG Gd n c d ∗ pend2 c d) ∗ bigSep (Bt (d.val + 1) 8) (fun s => iprop(aG Gd n c s ∗ pend2 c s))) ∗ bigSep (Bt 0 d.val) (sent2 c)) := by
  unfold St2; rw [take d (bt_mem d) (bt_erase d)]
/-- One slab put back into what the last loop holds. -/
theorem St2_put (n : ℕ) (c : Dev nD) (d : Dev nD) :
    St2 m Gd K n c (d.val + 1) = iprop(Pers m Gd K ∗ oweE c (OC c (d.val + 1)) ∗ bigSep (Bt (d.val + 1) 8) (fun s => iprop(aG Gd n c s ∗ pend2 c s)) ∗ (sent2 c d ∗ bigSep (Bt 0 d.val) (sent2 c))) := by
  unfold St2; rw [take (S := Bt 0 (d.val + 1)) d (bt_mem' d) (bt_grow d)]

/-- After the last level all the stages have run. -/
theorem tri_last : ∀ t5 : Fin k0_t5_loop.trips, k0_cond40 t5 = 1#1 → tri (t5 + 14) = nAll := by decide +kernel
/-- A slab that is copied is not sent. -/
theorem cond41_not : ∀ (c : Dev nD) (t : Fin k0_t12_loop.trips), k0_cond41 c t = 1#1 → ¬ k0_cond42 c t = 1#1 := by decide +kernel

include H in
/-- One trip of the last level's last loop: the last five stages, then the slab is copied or sent. -/
theorem t12_send (c : Dev nD) (v2 : BitVec 32) (t5 : Fin k0_t5_loop.trips) (h40 : k0_cond40 t5 = 1#1) (t12 : Fin k0_t12_loop.trips) (acc : Unit) :
    St2 m Gd K (tri (t5 + 13) + (t5 + 9)) c t12
      ⊢ WP c (k0_t12_body (F := F) xW (Memref.isWhole_whole _) oW (Memref.isWhole_whole _) aW (Memref.isWhole_whole _) cc0_scratch1 cc0_scratch2 cc0_scratch3 cc0_scratch4 cc0_scratch5 cc0_scoped0 c v2 t5 (kW5 t5) t12 acc)
      (fun _ => St2 m Gd K (tri (t5 + 13) + (t5 + 9)) c (t12 + 1)) := by
  rw [show St2 m Gd K (tri (t5 + 13) + (t5 + 9)) c t12 = _ from St2_take m Gd K _ c (slab12 t12), show St2 m Gd K (tri (t5 + 13) + (t5 + 9)) c (t12 + 1) = _ from St2_put m Gd K _ c (slab12 t12)]
  unfold k0_t12_body
  iintro ⟨#HP, HO, ⟨⟨Ha, Hp⟩, Hps⟩, Hds⟩
  ihave Ha1 := (aG_elim Gd _ c (slab12 t12)) $$ Ha
  icases Ha1 with ⟨%v, %hv, Ha⟩
  by_cases h : slab12 t12 = c
  · have h41 := (cond41_iff c t12).mpr h
    have hOC : OC c t12.val = OC c (t12.val + 1) := by
      have e : t12.val = c.val := congrArg Fin.val h
      rw [e]; exact OC_same c
    ihave Hp := (Entails.of_eq (pend2_self c (slab12 t12) h)) $$ Hp
    simp only [dif_pos h40, dif_pos h41, dif_neg (cond41_not c t12 h41), k0_part6_eq_skeleton, k0_part7_eq_skeleton]
    unfold k0_part6_skel k0_part7_skel
    simp only [Prog.lift, Prog.bind_op, Prog.bind_ret, Prog.pure_eq_ret]
    icases Hp with ⟨Hr, Ht, Ho⟩
    iapply (wp_ld c (slab12 t12) _ (k0_off49_eq t12) _ v) $$ Ha; iintro Ha
    iapply (wp_ld c (slab12 t12) _ (k0_off49_eq t12) _ v) $$ Ha; iintro Ha
    iapply (wp_st c (slab12 t12) _ (k0_off49_eq t12) _ _ v) $$ Ha; iintro Ha
    iapply (mv_loc1 m Gd K c _ (k0_off51_eq c) _ _ (k0_off50_eq c) _) $$ [Hr Ht Ha Ho]
    · isplitr; · iexact HP
      isplitl [Hr]; · iexact Hr
      isplitl [Ht]; · iexact Ht
      isplitl [Ha]
      · rw [← tri_last t5 h40]
        iapply (aG_mk Gd _ c c _ (h ▸ H.tC c t5 t12 v hv))
        rw [← h]; iexact Ha
      iexact Ho
    iintro Hc
    iapply (wp_done c)
    isplitr; · iexact HP
    isplitl [HO]; · iapply (Entails.of_eq (congrArg (oweE (F := F) c) hOC)); iexact HO
    isplitl [Hps]; · iexact Hps
    isplitl [Hc]; · iapply (Entails.of_eq (sent2_self c (slab12 t12) h).symm); iexact Hc
    iexact Hds
  · have h42 := (cond42_iff c t12).mpr h
    ihave Hp := (Entails.of_eq (pend2_ne c (slab12 t12) h)) $$ Hp
    simp only [dif_pos h40, dif_neg (show ¬ k0_cond41 c t12 = 1#1 from fun hh => h ((cond41_iff c t12).mp hh)), dif_pos h42, k0_part6_eq_skeleton, k0_part7_eq_skeleton]
    unfold k0_part6_skel k0_part7_skel
    simp only [Prog.lift, Prog.bind_op, Prog.bind_ret, Prog.pure_eq_ret]
    icases Hp with ⟨Ht, Ht', Ho⟩
    iapply (wp_ld c (slab12 t12) _ (k0_off49_eq t12) _ v) $$ Ha; iintro Ha
    iapply (wp_ld c (slab12 t12) _ (k0_off49_eq t12) _ v) $$ Ha; iintro Ha
    iapply (wp_st c (slab12 t12) _ (k0_off49_eq t12) _ _ v) $$ Ha; iintro Ha
    iapply (mv_snd2 m Gd K c (slab12 t12) _ h (Fin.ext (k0_dev15_eq t12)) _ (k0_off55_eq t12) _ _ (k0_off54_eq c) _ _ (k0_off52_eq t12) _ _ (k0_off53_eq c) _) $$ [HO Ht Ht' Ha Ho]
    · isplitr; · iexact HP
      isplitl [HO]; · iexact HO
      isplitl [Ht]; · iexact Ht
      isplitl [Ht']; · iexact Ht'
      isplitl [Ha]
      · rw [← tri_last t5 h40]
        iapply (aG_mk Gd _ c (slab12 t12) _ (H.tC c t5 t12 v hv)); iexact Ha
      iexact Ho
    iintro ⟨HO, Hc⟩
    iapply (wp_done c)
    isplitr; · iexact HP
    isplitl [HO]; · iexact HO
    isplitl [Hps]; · iexact Hps
    isplitl [Hc]; · iapply (Entails.of_eq (sent2_ne c (slab12 t12) h).symm); iexact Hc
    iexact Hds

/-- What the loop over the last levels holds before trip `k`: the slabs and what their sending needs; after the last, what the
    sendings left. -/
def St5 (c : Dev nD) (k : ℕ) : sProp 𝕄 :=
  if k < 3 then iprop(Pers m Gd K ∗ oweE c (OC c 0) ∗ (bigSep Finset.univ fun s : Dev nD => aG Gd (tri (k + 13)) c s) ∗ bigSep Finset.univ (pend2 c))
  else iprop(Pers m Gd K ∗ oweE c (OD c 1) ∗ bigSep Finset.univ (sent2 c))

/-- Before the last level is over, all the slabs and what the sends need. -/
theorem St5_lt (c : Dev nD) (k : ℕ) (h : k < 3) : St5 m Gd K c k
    = iprop(Pers m Gd K ∗ oweE c (OC c 0) ∗ (bigSep Finset.univ fun s : Dev nD => aG Gd (tri (k + 13)) c s) ∗ bigSep Finset.univ (pend2 c)) := by
  unfold St5; exact if_pos h
/-- After the last level, the credits of the sends. -/
theorem St5_ge (c : Dev nD) (k : ℕ) (h : ¬ k < 3) : St5 m Gd K c k
    = iprop(Pers m Gd K ∗ oweE c (OD c 1) ∗ bigSep Finset.univ (sent2 c)) := by
  unfold St5; exact if_neg h

/-- All the numbers below eight. -/
theorem bt_all : Bt 0 8 = Finset.univ := by decide

set_option maxHeartbeats 4000000 in
include H in
/-- The stages of a last level between rows far apart. -/
theorem t6_loop (c : Dev nD) (v2 : BitVec 32) (t5 : Fin k0_t5_loop.trips) {α : Type} {Q : α → sProp 𝕄}
    {kk : Unit → Prog (TpuEff nD τ sig (Elt F) Λ₀ .tc) α} :
    (bigSep Finset.univ fun s : Dev nD => aG Gd (tri (t5 + 13)) c s)
      ⊢ iprop(((bigSep Finset.univ fun s : Dev nD => aG Gd (tri (t5 + 13) + (t5 + 9)) c s) -∗ WP c (kk ()) Q)
      -∗ WP c (Scf.Loop.for (k0_t6_loop t5) (k0_t6_ok t5) () (k0_t6_body (F := F) xW (Memref.isWhole_whole _) oW (Memref.isWhole_whole _) aW (Memref.isWhole_whole _) cc0_scratch1 cc0_scratch2 cc0_scratch3 cc0_scratch4 cc0_scratch5 cc0_scoped0 c v2 t5) >>= kk) Q) := by
  iintro Ha Hk
  iapply (Scf.wp_for_bind frame (wpE (defs₀ (F := F)) 𝒱₀ (c : Thread nD τ) none) Set.univ _ _ _ (k0_t6_ok t5) _ _
      (fun k _ => bigSep Finset.univ fun s : Dev nD => aG Gd (tri (t5 + 13) + k) c s)
      (fun k acc => by have h := t6_trip m Gd H c v2 t5 k acc; rw [Nat.add_assoc (tri _)] at h; exact h)) $$ [Ha]
  · iexact Ha
  rw [show Scf.trips _ _ _ = _ from trips6 t5]
  iintro %_u Ha
  iapply Hk; iexact Ha

/-- The loop that never runs. -/
theorem t9_loop (c : Dev nD) (v2 : BitVec 32) (t5 : Fin k0_t5_loop.trips) {α : Type} {Q : α → sProp 𝕄}
    {kk : Unit → Prog (TpuEff nD τ sig (Elt F) Λ₀ .tc) α} :
    iprop(emp) ⊢ iprop(WP c (kk ()) Q
      -∗ WP c (Scf.Loop.for (k0_t9_loop t5) (k0_t9_ok t5) () (k0_t9_body (F := F) xW (Memref.isWhole_whole _) oW (Memref.isWhole_whole _) aW (Memref.isWhole_whole _) cc0_scratch1 cc0_scratch2 cc0_scratch3 cc0_scratch4 cc0_scratch5 cc0_scoped0 c v2 t5) >>= kk) Q) := by
  iintro Ha Hk
  iapply (Scf.wp_for_bind frame (wpE (defs₀ (F := F)) 𝒱₀ (c : Thread nD τ) none) Set.univ _ _ _ (k0_t9_ok t5) _ _
      (fun k _ => iprop(emp)) (fun k acc => fin0 k (trips9 t5))) $$ [Ha]
  · iexact Ha
  iintro %_u -
  iexact Hk

include H in
/-- The last level's last loop. -/
theorem t12_loop_send (c : Dev nD) (v2 : BitVec 32) (t5 : Fin k0_t5_loop.trips) (h40 : k0_cond40 t5 = 1#1) {α : Type} {Q : α → sProp 𝕄}
    {kk : Unit → Prog (TpuEff nD τ sig (Elt F) Λ₀ .tc) α} :
    St2 m Gd K (tri (t5 + 13) + (t5 + 9)) c 0
      ⊢ iprop((St2 m Gd K (tri (t5 + 13) + (t5 + 9)) c 8 -∗ WP c (kk ()) Q)
      -∗ WP c (Scf.Loop.for k0_t12_loop k0_t12_ok () (k0_t12_body (F := F) xW (Memref.isWhole_whole _) oW (Memref.isWhole_whole _) aW (Memref.isWhole_whole _) cc0_scratch1 cc0_scratch2 cc0_scratch3 cc0_scratch4 cc0_scratch5 cc0_scoped0 c v2 t5 (kW5 t5)) >>= kk) Q) := by
  iintro Ha Hk
  iapply (Scf.wp_for_bind frame (wpE (defs₀ (F := F)) 𝒱₀ (c : Thread nD τ) none) Set.univ _ _ _ k0_t12_ok _ _
      (fun k _ => St2 m Gd K (tri (t5 + 13) + (t5 + 9)) c k) (fun k acc => t12_send m Gd K H c v2 t5 h40 k acc)) $$ [Ha]
  · iexact Ha
  rw [show Scf.trips _ _ _ = _ from trips12]
  iintro %_u Ha
  iapply Hk; iexact Ha

include H in
/-- The last loop of a level before the last. -/
theorem t12_loop_go (c : Dev nD) (v2 : BitVec 32) (t5 : Fin k0_t5_loop.trips) (h40 : ¬ k0_cond40 t5 = 1#1) {α : Type} {Q : α → sProp 𝕄}
    {kk : Unit → Prog (TpuEff nD τ sig (Elt F) Λ₀ .tc) α} :
    (bigSep Finset.univ fun s : Dev nD => aG Gd (tri (t5 + 13) + (t5 + 9)) c s)
      ⊢ iprop(((bigSep Finset.univ fun s : Dev nD => aG Gd (tri (t5 + 14)) c s) -∗ WP c (kk ()) Q)
      -∗ WP c (Scf.Loop.for k0_t12_loop k0_t12_ok () (k0_t12_body (F := F) xW (Memref.isWhole_whole _) oW (Memref.isWhole_whole _) aW (Memref.isWhole_whole _) cc0_scratch1 cc0_scratch2 cc0_scratch3 cc0_scratch4 cc0_scratch5 cc0_scoped0 c v2 t5 (kW5 t5)) >>= kk) Q) := by
  iintro Ha Hk
  iapply (Scf.wp_for_bind frame (wpE (defs₀ (F := F)) 𝒱₀ (c : Thread nD τ) none) Set.univ _ _ _ k0_t12_ok _ _
      (fun k _ => bigSep Finset.univ fun s : Dev nD => aG Gd (if s.val < k then tri (t5 + 14) else tri (t5 + 13) + (t5 + 9)) c s) (fun k acc => t12_trip m Gd H c v2 t5 h40 k acc)) $$ [Ha]
  · simp only [if_neg (Nat.not_lt_zero _)]; iexact Ha
  rw [show Scf.trips _ _ _ = _ from trips12]
  simp only [if_pos (show ∀ s : Dev nD, s.val < 8 from fun s => s.isLt)]
  iintro %_u Ha
  iapply Hk; iexact Ha

/-- The last level's last loop may start. -/
theorem St2_start (n : ℕ) (c : Dev nD) :
    iprop(Pers m Gd K ∗ oweE c (OC c 0) ∗ (bigSep Finset.univ fun s : Dev nD => aG Gd n c s) ∗ bigSep Finset.univ (pend2 c)) ⊢ St2 m Gd K n c 0 := by
  unfold St2
  rw [bt_all, show Bt 0 0 = ∅ from by decide, bigSep_empty, bigSep_sep']
  iintro ⟨HP, HO, Hs, Hp⟩
  isplitl [HP]; · iexact HP
  isplitl [HO]; · iexact HO
  isplitl [Hs Hp]
  · isplitl [Hs]; · iexact Hs
    iexact Hp
  iempintro

/-- After the last level's last loop all is sent. -/
theorem St2_end (n : ℕ) (c : Dev nD) : St2 m Gd K n c 8 ⊢ iprop(oweE c (OD c 1) ∗ bigSep Finset.univ (sent2 c)) := by
  unfold St2
  rw [OC_end, bt_all]
  iintro ⟨-, HO, -, Hd⟩
  isplitl [HO]; · iexact HO
  iexact Hd

include H in
/-- One level of the second loop. -/
theorem t5_trip (c : Dev nD) (v2 : BitVec 32) (t5 : Fin k0_t5_loop.trips) (acc : Unit) :
    St5 m Gd K c t5 ⊢ WP c (k0_t5_body (F := F) xW (Memref.isWhole_whole _) oW (Memref.isWhole_whole _) aW (Memref.isWhole_whole _) cc0_scratch1 cc0_scratch2 cc0_scratch3 cc0_scratch4 cc0_scratch5 cc0_scoped0 c v2 t5 acc) (fun _ => St5 m Gd K c (t5 + 1)) := by
  have h3 : t5.val < 3 := lt_of_lt_of_eq t5.isLt trips5
  rw [St5_lt m Gd K c t5 h3]
  unfold k0_t5_body
  iintro ⟨#HP, HO, Hs, Hp⟩
  iapply (t6_loop m Gd H c v2 t5) $$ Hs
  iintro Hs
  iapply (t9_loop c v2 t5)
  · iempintro
  by_cases h40 : k0_cond40 t5 = 1#1
  · ihave Hst := (St2_start m Gd K (tri (t5 + 13) + (t5 + 9)) c) $$ [HO Hs Hp]
    · isplitr; · iexact HP
      isplitl [HO]; · iexact HO
      isplitl [Hs]; · iexact Hs
      iexact Hp
    iapply (t12_loop_send m Gd K H c v2 t5 h40) $$ Hst
    iintro Hst
    iapply (wp_done c)
    ihave Hs := (St2_end m Gd K _ c) $$ Hst
    rw [St5_ge m Gd K c (t5 + 1) (by have := (cond40_iff t5).mp h40; omega)]
    isplitr; · iexact HP
    iexact Hs
  · iapply (t12_loop_go m Gd H c v2 t5 h40) $$ Hs
    iintro Hs
    iapply (wp_done c)
    rw [St5_lt m Gd K c (t5 + 1) (by have := mt (cond40_iff t5).mpr h40; omega)]
    isplitr; · iexact HP
    isplitl [HO]; · iexact HO
    isplitl [Hs]; · iexact Hs
    iexact Hp

include H in
/-- The loop over the last levels. -/
theorem t5_loop (c : Dev nD) (v2 : BitVec 32) {α : Type} {Q : α → sProp 𝕄}
    {kk : Unit → Prog (TpuEff nD τ sig (Elt F) Λ₀ .tc) α} :
    iprop(Pers m Gd K ∗ oweE c (OC c 0) ∗ (bigSep Finset.univ fun s : Dev nD => aG Gd 91 c s) ∗ bigSep Finset.univ (pend2 c))
      ⊢ iprop((iprop(oweE c (OD c 1) ∗ bigSep Finset.univ (sent2 c)) -∗ WP c (kk ()) Q)
      -∗ WP c (Scf.Loop.for k0_t5_loop k0_t5_ok () (k0_t5_body (F := F) xW (Memref.isWhole_whole _) oW (Memref.isWhole_whole _) aW (Memref.isWhole_whole _) cc0_scratch1 cc0_scratch2 cc0_scratch3 cc0_scratch4 cc0_scratch5 cc0_scoped0 c v2) >>= kk) Q) := by
  iintro Ha Hk
  iapply (Scf.wp_for_bind frame (wpE (defs₀ (F := F)) 𝒱₀ (c : Thread nD τ) none) Set.univ _ _ _ k0_t5_ok _ _
      (fun k _ => St5 m Gd K c k) (fun k acc => t5_trip m Gd K H c v2 k acc)) $$ [Ha]
  · rw [St5_lt m Gd K c 0 (by decide)]; iexact Ha
  rw [show Scf.trips _ _ _ = _ from trips5, St5_ge m Gd K c 3 (by decide)]
  iintro %_u ⟨-, Ha⟩
  iapply Hk; iexact Ha

end Cert.KernelIdeal.Net
-- ==== Proof.KI.Rows.lean ====
/-
The body of the kernel from one end to the other, by the protocol's steps.
-/
module

public import proofs.«01_k».proof.Proof.KI.Phase

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (Gd : Know F) (K : Dev nD × CK → ℕ) (H : Laws m Gd)

variable {α : Type} {kk : PUnit → Prog (TpuEff nD τ sig (Elt F) Λ₀ .tc) α}

/-! ## One step of each row of operations, over the family of what is left -/

/-- The other devices. -/
abbrev Ot (c : Dev nD) : Finset (Dev nD) := Finset.univ.erase c

/-- The barrier has a duty of each of the others. -/
theorem dut_bar (c : Dev nD) : dut c 0 kBar = Ot c := by revert c; decide
/-- The closing handshake has a duty of each of the others. -/
theorem dut_sco (c : Dev nD) : dut c 0 kSco = Ot c := by revert c; decide
/-- The devices at distances one to seven upwards are the others. -/
theorem up_one (c : Dev nD) : Up c 1 8 = Ot c := by revert c; decide
/-- The devices at distances one to seven downwards are the others. -/
theorem dn_one (c : Dev nD) : Dn c 1 8 = Ot c := by revert c; decide
/-- No device is at a distance from one below one. -/
theorem up_none (c : Dev nD) : Up c 1 1 = ∅ := by revert c; decide
/-- No device is at a distance from one below one. -/
theorem dn_none (c : Dev nD) : Dn c 1 1 = ∅ := by revert c; decide
/-- The newest of the distances upwards done so far. -/
theorem up_mem' (c d : Dev nD) (h : d ≠ 0) : c + d ∈ Up c 1 (d.val + 1) := by revert c d; decide
/-- The newest of the distances downwards done so far. -/
theorem dn_mem1 (c d : Dev nD) (h : d ≠ 0) : c - d ∈ Dn c 1 (d.val + 1) := by revert c d; decide
/-- The distances downwards done so far, one more taken out. -/
theorem dn_grow1 (c d : Dev nD) : (Dn c 1 (d.val + 1)).erase (c - d) = Dn c 1 d.val := by revert c d; decide
/-- The device at a distance upwards is another. -/
theorem ne_add (c d : Dev nD) (h : d ≠ 0) : c + d ≠ c := by revert c d; decide
/-- The device at a distance downwards is another. -/
theorem ne_sub (c d : Dev nD) (h : d ≠ 0) : c - d ≠ c := by revert c d; decide
/-- The distance of the device at a distance. -/
theorem add_sub_left (c d : Dev nD) : c + d - c = d := by revert c d; decide
/-- Another device is at a distance. -/
theorem sub_ne (c p : Dev nD) (h : p ≠ c) : p - c ≠ 0 := by revert c p; decide
/-- The device at its own distance. -/
theorem add_sub_add (c p : Dev nD) : c + (p - c) = p := by revert c p; decide
/-- The word one is one. -/
theorem one_toInt : (1#32 : BitVec 32).toInt = ((1 : ℕ) : ℤ) := by decide
/-- The word seven is seven. -/
theorem seven_toInt : (7#32 : BitVec 32).toInt = ((7 : ℕ) : ℤ) := by decide

/-- What the barrier's signal to `p` takes. -/
def pBar (c p : Dev nD) : sProp 𝕄 := iprop(tok p kBar 0 c ∗ aAny c p ∗ oAny c p)
/-- What the first exchange's copy to `p` takes. -/
def pSnd (c p : Dev nD) : sProp 𝕄 := iprop(tok c (kS1 (p - c)) 0 0 ∗ tok p (kR1 (p - c)) 0 0 ∗ xO c p (xblk m c p) ∗ aAny p c)

/-- One signal of the barrier. -/
theorem sigA (c n d : Dev nD) (hd : d ≠ 0) (hn : n = c + d) {Q : α → sProp 𝕄} :
    iprop(Pers m Gd K ∗ oweE c (OA c d.val) ∗ bigSep (Up c d.val 8) (pBar c))
      ⊢ iprop((iprop(oweE c (OA c (d.val + 1)) ∗ bigSep (Up c (d.val + 1) 8) (pBar c)) -∗ WP c (kk ⟨⟩) Q)
          -∗ WP c (.op (.semSignal (n : Thread nD τ) barS (1#32 : BitVec 32).toInt) kk) Q) := by
  rw [take (c + d) (up_mem c d) (up_erase c d), one_toInt]
  iintro ⟨HP, HO, ⟨Hx, Hr⟩⟩ Hk
  unfold pBar
  icases Hx with ⟨Ht, Ha⟩
  iapply (wp_sig m Gd K c n (c + d) hn kBar barS rfl rfl 1 rfl (by
      rw [dut_bar (c + d)]
      exact Finset.mem_erase.mpr ⟨(ne_add c d hd).symm, Finset.mem_univ _⟩) (OA c (d.val + 1)) (OA_step c d)) $$ [HP HO Ht Ha]
  · isplitl [HP]; · iexact HP
    isplitl [HO]; · iexact HO
    isplitl [Ht]; · iexact Ht
    iapply (Entails.of_eq (pay_bar m Gd (c + d) 0 c).symm); iexact Ha
  iintro HO
  iapply Hk
  isplitl [HO]; · iexact HO
  iexact Hr

/-- The wait of the barrier: seven units, and what the others hand over. -/
theorem waitA (c : Dev nD) {Q : α → sProp 𝕄} :
    iprop(Pers m Gd K ∗ oweE c (OA c 8) ∗ crd c kBar 7 ∗ pos c kBar 0)
      ⊢ iprop((iprop(oweE c (OB c 1) ∗ pos c kBar 1 ∗ bigSep (Ot c) (fun p => iprop(aAny p c ∗ oAny p c))) -∗ WP c (kk ⟨⟩) Q)
          -∗ WP c (.op (.semWait barS (7#32 : BitVec 32).toInt) kk) Q) := by
  rw [OA_end, seven_toInt]
  iintro H Hk
  iapply (wp_wait m Gd K c kBar 0 7 (wpE_semWait_eq 𝒱₀ (c : Thread nD τ) none Set.univ) (by
    rw [dut_bar c, Finset.card_erase_of_mem (Finset.mem_univ _)]; rfl) (above_OB c 1)) $$ H
  iintro ⟨HO, Hp, -, Hpay⟩
  iapply Hk
  isplitl [HO]; · iexact HO
  isplitl [Hp]; · iexact Hp
  iapply (Entails.of_eq (show (bigSep (dut c 0 kBar) fun d => pay m Gd c 0 d kBar) = bigSep (Ot c) (fun p => iprop(aAny p c ∗ oAny p c)) from by
    rw [dut_bar c]; rfl))
  iexact Hpay

/-- One copy of the first exchange; the credit it leaves goes to those already there. -/
theorem sndB (c n d : Dev nD) (hd : d ≠ 0) (hn : n = c + d)
    (offx : Fin 2 → ℕ) (hx : offx = ![0, 128 * (c + d).val]) (ix : ∀ a, offx a + S8192x128.size a ≤ S8192x1024.size a)
    (offa : Fin 2 → ℕ) (ha : offa = ![8192 * c.val, 0]) (ia : ∀ a, offa a + S8192x128.size a ≤ S65536x128.size a)
    (offs : Fin 1 → ℕ) (hs : offs = ![d.val]) (is : ∀ a, offs a + S1.size a ≤ S8.size a)
    {hsc hsrc hdst hsem} {Q : α → sProp 𝕄} :
    iprop(Pers m Gd K ∗ oweE c (OB c d.val) ∗ bigSep (Up c d.val 8) (pSnd m c) ∗ bigSep (Up c 1 d.val) (fun p => crd c (kS1 (p - c)) N))
      ⊢ iprop((iprop(oweE c (OB c (d.val + 1)) ∗ bigSep (Up c (d.val + 1) 8) (pSnd m c) ∗ bigSep (Up c 1 (d.val + 1)) (fun p => crd c (kS1 (p - c)) N)) -∗ WP c (kk ⟨⟩) Q)
          -∗ WP c (.op (.enqueueDma (xW.slice (Rect.unit (s := S8192x1024) offx S8192x128.size ix) (fun _ => rfl))
                (.remote (Dev.tc n : Thread nD τ) (aW.slice (Rect.unit (s := S65536x128) offa S8192x128.size ia) (fun _ => rfl))
                  (.dma ((cc0_scratch1.slice (Rect.unit (s := S8) offs S1.size is)).squeeze S_ squeezes_S1_S_).sem) hsc)
                (.dma ((cc0_scratch2.slice (Rect.unit (s := S8) offs S1.size is)).squeeze S_ squeezes_S1_S_).sem) hsrc hdst hsem) kk) Q) := by
  rw [take (c + d) (up_mem c d) (up_erase c d), take (S := Up c 1 (d.val + 1)) (c + d) (up_mem' c d hd) (up_grow c d)]
  unfold pSnd
  rw [add_sub_left c d]
  iintro ⟨HP, HO, ⟨⟨Ht, Ht', Hx, Ha⟩, Hr⟩, Hc⟩ Hk
  iapply (mv_snd1 m Gd K c d n hd hn offx hx ix offa ha ia offs hs is) $$ [HP HO Ht Ht' Hx Ha]
  · isplitl [HP]; · iexact HP
    isplitl [HO]; · iexact HO
    isplitl [Ht]; · iexact Ht
    isplitl [Ht']; · iexact Ht'
    isplitl [Hx]; · iexact Hx
    iexact Ha
  iintro ⟨HO, Hn⟩
  iapply Hk
  isplitl [HO]; · iexact HO
  isplitl [Hr]; · iexact Hr
  isplitl [Hn]; · iexact Hn
  iexact Hc

/-- One wait of a row of waits for blocks: what is waited for moves from the family of the pending to that of the landed. -/
theorem wtF (c : Dev nD) (κ : Dev nD → CK) (p : Dev nD) {S T U V : Finset (Dev nD)} (hS : p ∈ S) (hT : S.erase p = T) (hV : p ∈ V) (hU : V.erase p = U)
    (hd : dut c 0 (κ p) = {0}) (ha : amt (κ p) = N)
    {sp sp' : Space} {s s' : Shape} {e e' : EltTy} {sem : DmaSem sig} {src : Memref sig .tc sp' s' e'} {dst : Memref sig .tc sp s e}
    {hsrc : src.view.WordExact} {hdst : dst.view.WordExact}
    (hs : csem (κ p) = .dma sem) (hN : dst.view.dmaCredit = N) {O : CellTallies nD τ sig Unit} (hO : Above (lvK (κ p)) O) {Q : α → sProp 𝕄} :
    iprop(Pers m Gd K ∗ oweE c O ∗ bigSep S (fun p => iprop(pos c (κ p) 0 ∗ crd c (κ p) N)) ∗ bigSep U (fun p => iprop(pos c (κ p) 1 ∗ pay m Gd c 0 0 (κ p))))
      ⊢ iprop((iprop(oweE c O ∗ bigSep T (fun p => iprop(pos c (κ p) 0 ∗ crd c (κ p) N)) ∗ bigSep V (fun p => iprop(pos c (κ p) 1 ∗ pay m Gd c 0 0 (κ p)))) -∗ WP c (kk ⟨⟩) Q)
          -∗ WP c (.op (.waitDma2 sem src dst hsrc hdst) kk) Q) := by
  rw [take p hS hT, take p hV hU]
  iintro ⟨HP, HO, ⟨⟨Hp, Hc⟩, Hr⟩, Hd⟩ Hk
  iapply (mv_wait m Gd K c (κ p) 0 hd ha hs hN hO) $$ [HP HO Hp Hc]
  · isplitl [HP]; · iexact HP
    isplitl [HO]; · iexact HO
    isplitl [Hc]; · iexact Hc
    iexact Hp
  iintro ⟨HO, Hp, -, Hpay⟩
  iapply Hk
  isplitl [HO]; · iexact HO
  isplitl [Hr]; · iexact Hr
  isplitl [Hp Hpay]
  · isplitl [Hp]; · iexact Hp
    iexact Hpay
  iexact Hd

/-- A wait for one of the first exchange's sendings. -/
theorem wtS1 (c d : Dev nD) (hd : d ≠ 0) (off : Fin 1 → ℕ) (ho : off = ![d.val]) (inb : ∀ a, off a + S1.size a ≤ S8.size a)
    {sp sp' : Space} {s s' : Shape} {e e' : EltTy} {src : Memref sig .tc sp' s' e'} {dst : Memref sig .tc sp s e}
    {hsrc : src.view.WordExact} {hdst : dst.view.WordExact} (hN : dst.view.dmaCredit = N) {Q : α → sProp 𝕄} :
    iprop(Pers m Gd K ∗ oweE c (OC c 0) ∗ bigSep (Up c d.val 8) (fun p => iprop(pos c (kS1 (p - c)) 0 ∗ crd c (kS1 (p - c)) N)) ∗ bigSep (Up c 1 d.val) (fun p => iprop(pos c (kS1 (p - c)) 1 ∗ pay m Gd c 0 0 (kS1 (p - c)))))
      ⊢ iprop((iprop(oweE c (OC c 0) ∗ bigSep (Up c (d.val + 1) 8) (fun p => iprop(pos c (kS1 (p - c)) 0 ∗ crd c (kS1 (p - c)) N)) ∗ bigSep (Up c 1 (d.val + 1)) (fun p => iprop(pos c (kS1 (p - c)) 1 ∗ pay m Gd c 0 0 (kS1 (p - c))))) -∗ WP c (kk ⟨⟩) Q)
          -∗ WP c (.op (.waitDma2 ((cc0_scratch1.slice (Rect.unit (s := S8) off S1.size inb)).squeeze S_ squeezes_S1_S_).sem src dst hsrc hdst) kk) Q) := by
  refine wtF m Gd K c (fun p => kS1 (p - c)) (c + d) (up_mem c d) (up_erase c d) (up_mem' c d hd) (up_grow c d) ?_ rfl ?_ hN ((above_OC c 0).mono (Nat.zero_le 2))
  · show dut c 0 (kS1 (c + d - c)) = {0}
    rw [add_sub_left]; exact if_pos ⟨rfl, hd⟩
  · show csem (kS1 (c + d - c)) = _
    rw [add_sub_left]; exact sem1_at d off ho inb

/-- A wait for one of the second exchange's sendings. -/
theorem wtS2 (c d : Dev nD) (hd : d ≠ 0) (off : Fin 1 → ℕ) (ho : off = ![(c + d).val]) (inb : ∀ a, off a + S1.size a ≤ S8.size a)
    {sp sp' : Space} {s s' : Shape} {e e' : EltTy} {src : Memref sig .tc sp' s' e'} {dst : Memref sig .tc sp s e}
    {hsrc : src.view.WordExact} {hdst : dst.view.WordExact} (hN : dst.view.dmaCredit = N) {Q : α → sProp 𝕄} :
    iprop(Pers m Gd K ∗ oweE c (OD c 1) ∗ bigSep (Up c d.val 8) (fun p => iprop(pos c (kS2 p) 0 ∗ crd c (kS2 p) N)) ∗ bigSep (Up c 1 d.val) (fun p => iprop(pos c (kS2 p) 1 ∗ pay m Gd c 0 0 (kS2 p))))
      ⊢ iprop((iprop(oweE c (OD c 1) ∗ bigSep (Up c (d.val + 1) 8) (fun p => iprop(pos c (kS2 p) 0 ∗ crd c (kS2 p) N)) ∗ bigSep (Up c 1 (d.val + 1)) (fun p => iprop(pos c (kS2 p) 1 ∗ pay m Gd c 0 0 (kS2 p)))) -∗ WP c (kk ⟨⟩) Q)
          -∗ WP c (.op (.waitDma2 ((cc0_scratch3.slice (Rect.unit (s := S8) off S1.size inb)).squeeze S_ squeezes_S1_S_).sem src dst hsrc hdst) kk) Q) :=
  wtF m Gd K c kS2 (c + d) (up_mem c d) (up_erase c d) (up_mem' c d hd) (up_grow c d) (if_pos ⟨rfl, ne_add c d hd⟩) rfl (sem3_at (c + d) off ho inb) hN ((above_OD c 1).mono (Nat.zero_le 3))

/-- A wait for one of the second exchange's landings. -/
theorem wtR2 (c d : Dev nD) (hd : d ≠ 0) (off : Fin 1 → ℕ) (ho : off = ![(c - d).val]) (inb : ∀ a, off a + S1.size a ≤ S8.size a)
    {sp sp' : Space} {s s' : Shape} {e e' : EltTy} {src : Memref sig .tc sp' s' e'} {dst : Memref sig .tc sp s e}
    {hsrc : src.view.WordExact} {hdst : dst.view.WordExact} (hN : dst.view.dmaCredit = N) {Q : α → sProp 𝕄} :
    iprop(Pers m Gd K ∗ oweE c (OD c 1) ∗ bigSep (Dn c d.val 8) (fun p => iprop(pos c (kR2 p) 0 ∗ crd c (kR2 p) N)) ∗ bigSep (Dn c 1 d.val) (fun p => iprop(pos c (kR2 p) 1 ∗ pay m Gd c 0 0 (kR2 p))))
      ⊢ iprop((iprop(oweE c (OD c 1) ∗ bigSep (Dn c (d.val + 1) 8) (fun p => iprop(pos c (kR2 p) 0 ∗ crd c (kR2 p) N)) ∗ bigSep (Dn c 1 (d.val + 1)) (fun p => iprop(pos c (kR2 p) 1 ∗ pay m Gd c 0 0 (kR2 p)))) -∗ WP c (kk ⟨⟩) Q)
          -∗ WP c (.op (.waitDma2 ((cc0_scratch4.slice (Rect.unit (s := S8) off S1.size inb)).squeeze S_ squeezes_S1_S_).sem src dst hsrc hdst) kk) Q) :=
  wtF m Gd K c kR2 (c - d) (dn_mem c d) (dn_erase c d) (dn_mem1 c d hd) (dn_grow1 c d) (if_pos ⟨rfl, ne_sub c d hd⟩) rfl (sem4_at (c - d) off ho inb) hN (above_OD c 1)

/-- A wait for the device's own copy. -/
theorem wtL (c : Dev nD) (r : ℕ) (hr : r < 2)
    {sp sp' : Space} {s s' : Shape} {e e' : EltTy} {src : Memref sig .tc sp' s' e'} {dst : Memref sig .tc sp s e}
    {hsrc : src.view.WordExact} {hdst : dst.view.WordExact} (hN : dst.view.dmaCredit = N) {O : CellTallies nD τ sig Unit} (hO : Above 0 O) {Q : α → sProp 𝕄} :
    iprop(Pers m Gd K ∗ oweE c O ∗ crd c kLoc N ∗ pos c kLoc r)
      ⊢ iprop((iprop(oweE c O ∗ pos c kLoc (r + 1) ∗ reached ER (cell c kLoc) (r + 1) ∗ pay m Gd c r 0 kLoc) -∗ WP c (kk ⟨⟩) Q)
          -∗ WP c (.op (.waitDma2 cc0_scratch5.sem src dst hsrc hdst) kk) Q) :=
  mv_wait m Gd K c kLoc r (if_pos hr) rfl semL_at hN hO

/-- One signal of the closing handshake. -/
theorem sigG (c n d : Dev nD) (hd : d ≠ 0) (hn : n = c + d) {Q : α → sProp 𝕄} :
    iprop(Pers m Gd K ∗ oweE c (OD c d.val) ∗ bigSep (Up c d.val 8) (fun p => tok p kSco 0 c))
      ⊢ iprop((iprop(oweE c (OD c (d.val + 1)) ∗ bigSep (Up c (d.val + 1) 8) (fun p => tok p kSco 0 c)) -∗ WP c (kk ⟨⟩) Q)
          -∗ WP c (.op (.semSignal (n : Thread nD τ) cc0_scoped0.sem (1#32 : BitVec 32).toInt) kk) Q) := by
  rw [take (c + d) (up_mem c d) (up_erase c d), one_toInt]
  iintro ⟨HP, HO, ⟨Ht, Hr⟩⟩ Hk
  iapply (wp_sig m Gd K c n (c + d) hn kSco cc0_scoped0.sem (by decide) rfl 1 rfl (by
      rw [dut_sco (c + d)]
      exact Finset.mem_erase.mpr ⟨(ne_add c d hd).symm, Finset.mem_univ _⟩) (OD c (d.val + 1)) (OD_step c d)) $$ [HP HO Ht]
  · isplitl [HP]; · iexact HP
    isplitl [HO]; · iexact HO
    isplitl [Ht]; · iexact Ht
    iapply (Entails.of_eq (pay_sco m Gd (c + d) 0 c).symm); iempintro
  iintro HO
  iapply Hk
  isplitl [HO]; · iexact HO
  iexact Hr

/-- The wait of the closing handshake. -/
theorem waitG (c : Dev nD) {Q : α → sProp 𝕄} :
    iprop(Pers m Gd K ∗ oweE c (OD c 8) ∗ crd c kSco 7 ∗ pos c kSco 0)
      ⊢ iprop((iprop(oweE c 0 ∗ pos c kSco 1) -∗ WP c (kk ⟨⟩) Q)
          -∗ WP c (.op (.semWait cc0_scoped0.sem (7#32 : BitVec 32).toInt) kk) Q) := by
  rw [OD_end, seven_toInt]
  iintro H Hk
  iapply (wp_wait m Gd K c kSco 0 7 (by rw [show csem kSco = .reg cc0_scoped0.sem from by decide]; exact wpE_semWait_eq 𝒱₀ (c : Thread nD τ) none Set.univ) (by
    rw [dut_sco c, Finset.card_erase_of_mem (Finset.mem_univ _)]; rfl) (Above.zero _)) $$ H
  iintro ⟨HO, Hp, -⟩
  iapply Hk
  isplitl [HO]; · iexact HO
  iexact Hp

end Cert.KernelIdeal.Net
-- ==== Proof.KI.Body.lean ====
/-
The body of the kernel from one end to the other, by the protocol's steps.
-/
module

public import proofs.«01_k».proof.Proof.KI.Rows

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (Gd : Know F) (K : Dev nD × CK → ℕ) (H : Laws m Gd)

/-! ## What the body is given and what it leaves -/

/-- What the body is given for another device: the tokens of its signals and copies there, its own cells' positions and credits, its
    blocks. -/
def pre1 (c p : Dev nD) : sProp 𝕄 :=
  iprop(pBar c p ∗ tok c (kS1 (p - c)) 0 0 ∗ tok p (kR1 (p - c)) 0 0 ∗ xO c p (xblk m c p) ∗ pos c (kS1 (p - c)) 0 ∗ pos c (kR1 (c - p)) 0 ∗ crd c (kR1 (c - p)) N
    ∗ tok c (kS2 p) 0 0 ∗ tok p (kR2 c) 0 0 ∗ pos c (kS2 p) 0 ∗ pos c (kR2 p) 0 ∗ crd c (kR2 p) N ∗ tok p kSco 0 c)

def Pre (c : Dev nD) : sProp 𝕄 :=
  iprop(Pers m Gd K ∗ oweE c (OA c 1) ∗ (crd c kBar 7 ∗ pos c kBar 0) ∗ (crd c kSco 7 ∗ pos c kSco 0) ∗ (pos c kLoc 0 ∗ tok c kLoc 0 0 ∗ tok c kLoc 1 0)
    ∗ (xO c c (xblk m c c) ∗ aAny c c ∗ oAny c c) ∗ bigSep (Ot c) (pre1 m c))

/-- What it leaves for another device: its cells past their rounds, the argument's block unchanged, the scratch's slab and the
    result's block. -/
def post1 (c p : Dev nD) : sProp 𝕄 :=
  iprop((pos c (kS1 (p - c)) 1 ∗ xO c p (xblk m c p)) ∗ pos c (kR1 (c - p)) 1 ∗ (pos c (kS2 p) 1 ∗ aAny c p) ∗ (pos c (kR2 p) 1 ∗ oG Gd c p))

def Post (c : Dev nD) : sProp 𝕄 :=
  iprop(oweE c 0 ∗ pos c kBar 1 ∗ pos c kSco 1 ∗ pos c kLoc 2 ∗ (xO c c (xblk m c c) ∗ oG Gd c c ∗ aAny c c) ∗ bigSep (Ot c) (post1 m Gd c))

/-- What a device starts with for each of the others, sorted by kind. -/
theorem pre_split (c : Dev nD) : bigSep (Ot c) (pre1 m c) ⊢ iprop(bigSep (Ot c) (pBar c) ∗ (bigSep (Ot c) fun p => tok c (kS1 (p - c)) 0 0) ∗ (bigSep (Ot c) fun p => tok p (kR1 (p - c)) 0 0) ∗ (bigSep (Ot c) fun p => xO c p (xblk m c p))
    ∗ (bigSep (Ot c) fun p => pos c (kS1 (p - c)) 0) ∗ (bigSep (Ot c) fun p => pos c (kR1 (c - p)) 0) ∗ (bigSep (Ot c) fun p => crd c (kR1 (c - p)) N)
    ∗ (bigSep (Ot c) fun p => tok c (kS2 p) 0 0) ∗ (bigSep (Ot c) fun p => tok p (kR2 c) 0 0) ∗ (bigSep (Ot c) fun p => pos c (kS2 p) 0) ∗ (bigSep (Ot c) fun p => pos c (kR2 p) 0)
    ∗ (bigSep (Ot c) fun p => crd c (kR2 p) N) ∗ (bigSep (Ot c) fun p => tok p kSco 0 c)) := by
  unfold pre1
  simp only [bigSep_sep']
  exact Entails.refl _

/-- What a device ends with, put together from its kinds. -/
theorem post_mk (c : Dev nD) : iprop(oweE c 0 ∗ pos c kBar 1 ∗ pos c kSco 1 ∗ pos c kLoc 2 ∗ xO c c (xblk m c c) ∗ oG Gd c c ∗ aAny c c
    ∗ (bigSep (Ot c) fun p => iprop(pos c (kS1 (p - c)) 1 ∗ xO c p (xblk m c p))) ∗ (bigSep (Ot c) fun p => pos c (kR1 (c - p)) 1)
    ∗ (bigSep (Ot c) fun p => iprop(pos c (kS2 p) 1 ∗ aAny c p)) ∗ (bigSep (Ot c) fun p => iprop(pos c (kR2 p) 1 ∗ oG Gd c p))) ⊢ Post m Gd c := by
  unfold Post post1
  simp only [bigSep_sep']
  iintro ⟨HO, H1, H2, H3, Hx, Ho, Ha, HF⟩
  isplitl [HO]; · iexact HO
  isplitl [H1]; · iexact H1
  isplitl [H2]; · iexact H2
  isplitl [H3]; · iexact H3
  isplitl [Hx Ho Ha]
  · isplitl [Hx]; · iexact Hx
    isplitl [Ho]; · iexact Ho
    iexact Ha
  iexact HF

/-- What the barrier brings: the scratch slabs and the result blocks of the others that this device will write. -/
theorem splitBar (c : Dev nD) : (bigSep (Ot c) fun p => iprop(aAny p c ∗ oAny p c) : sProp 𝕄) ⊢ iprop((bigSep (Ot c) fun p => aAny p c) ∗ bigSep (Ot c) fun p => oAny p c) := by
  rw [bigSep_sep']

/-- What each send of the first exchange needs, put together for all the distances. -/
theorem joinSnd (c : Dev nD) : iprop((bigSep (Ot c) fun p => tok c (kS1 (p - c)) 0 0) ∗ (bigSep (Ot c) fun p => tok p (kR1 (p - c)) 0 0) ∗ (bigSep (Ot c) fun p => xO c p (xblk m c p)) ∗ bigSep (Ot c) fun p => aAny p c)
    ⊢ bigSep (Up c 1 8) (pSnd m c) := by
  unfold pSnd
  rw [up_one, bigSep_sep', bigSep_sep', bigSep_sep']

/-- The position and the credit of each cell to be waited on, put together. -/
theorem joinWt (c : Dev nD) (κ : Dev nD → CK) (S : Finset (Dev nD)) (hS : S = Ot c) : iprop((bigSep (Ot c) fun p => pos c (κ p) 0) ∗ (bigSep (Ot c) fun p => crd c (κ p) N))
    ⊢ (bigSep S fun p => iprop(pos c (κ p) 0 ∗ crd c (κ p) N) : sProp 𝕄) := by
  rw [hS, bigSep_sep']

/-- Before the first distance nothing is held. -/
theorem noneUp (Φ : Dev nD → sProp 𝕄) (c : Dev nD) : iprop(emp) ⊢ bigSep (Up c 1 1) Φ := by rw [up_none, bigSep_empty]; exact Entails.refl _
/-- Before the first distance nothing is held. -/
theorem noneDn (Φ : Dev nD → sProp 𝕄) (c : Dev nD) : iprop(emp) ⊢ bigSep (Dn c 1 1) Φ := by rw [dn_none, bigSep_empty]; exact Entails.refl _

/-- All the devices are at distances zero to seven downwards. -/
theorem dn_all (c : Dev nD) : Dn c 0 8 = Finset.univ := by revert c; decide
/-- No device is at distance eight or more. -/
theorem dn_end (c : Dev nD) : Dn c 8 8 = ∅ := by revert c; decide

include H in
/-- The first loop may start: the own slab is there, the others are still to land. -/
theorem St1_start (c : Dev nD) : iprop(Pers m Gd K ∗ oweE c (OC c 0) ∗ aO c c (xblk m c c) ∗ (bigSep (Ot c) fun p => pos c (kR1 (c - p)) 0) ∗ (bigSep (Ot c) fun p => crd c (kR1 (c - p)) N))
    ⊢ St1 m Gd K c 0 := by
  unfold St1
  rw [dn_all, show Dn c 0 0 = ∅ from by revert c; decide, bigSep_empty, take c (Finset.mem_univ c) rfl (pend1 Gd c), pend1_self Gd c c rfl,
    bigSep_congr (s := Finset.univ.erase c) (fun p hp => pend1_ne Gd c p (Finset.ne_of_mem_erase hp)), bigSep_sep']
  iintro ⟨HP, HO, Ha, Hp, Hc⟩
  isplitl [HP]; · iexact HP
  isplitl [HO]; · iexact HO
  isplitl
  · isplitl [Ha]; · iapply (aG_mk Gd 0 c c _ (H.land c c)); iexact Ha
    isplitl [Hp]; · iexact Hp
    iexact Hc
  iempintro

/-- After the first loop every slab has had its 91 stages, and every landing of the first exchange has been waited for. -/
theorem St1_end (c : Dev nD) : St1 m Gd K c 8
    ⊢ iprop(oweE c (OC c 0) ∗ (bigSep (Ot c) fun p => pos c (kR1 (c - p)) 1) ∗ bigSep Finset.univ fun s : Dev nD => aG Gd 91 c s) := by
  unfold St1 done1
  rw [dn_all, bigSep_sep', take c (Finset.mem_univ c) rfl (was1 c), was1_self c c rfl,
    bigSep_congr (s := Finset.univ.erase c) (fun p hp => was1_ne c p (Finset.ne_of_mem_erase hp))]
  iintro ⟨-, HO, -, ⟨-, Hp⟩, Ha⟩
  isplitl [HO]; · iexact HO
  isplitl [Hp]; · iexact Hp
  iexact Ha

/-- Before the last loop every send of the second exchange is still to be started. -/
theorem pend2_start (c : Dev nD) : iprop(reached ER (cell c kLoc) 1 ∗ tok c kLoc 1 0 ∗ oAny c c ∗ (bigSep (Ot c) fun p => tok c (kS2 p) 0 0) ∗ (bigSep (Ot c) fun p => tok p (kR2 c) 0 0) ∗ bigSep (Ot c) fun p => oAny p c)
    ⊢ (bigSep Finset.univ (pend2 c) : sProp 𝕄) := by
  rw [take c (Finset.mem_univ c) rfl (pend2 c), pend2_self c c rfl,
    bigSep_congr (s := Finset.univ.erase c) (fun p hp => pend2_ne c p (Finset.ne_of_mem_erase hp)), bigSep_sep', bigSep_sep']
  iintro ⟨H1, H2, H3, H4, H5, H6⟩
  isplitl [H1 H2 H3]
  · isplitl [H1]; · iexact H1
    isplitl [H2]; · iexact H2
    iexact H3
  isplitl [H4]; · iexact H4
  isplitl [H5]; · iexact H5
  iexact H6

/-- After the last loop there is the credit of every send of the second exchange. -/
theorem sent2_end (c : Dev nD) : (bigSep Finset.univ (sent2 c) : sProp 𝕄) ⊢ iprop(crd c kLoc N ∗ bigSep (Ot c) fun p => crd c (kS2 p) N) := by
  rw [take c (Finset.mem_univ c) rfl (sent2 c), sent2_self c c rfl,
    bigSep_congr (s := Finset.univ.erase c) (fun p hp => sent2_ne c p (Finset.ne_of_mem_erase hp))]

/-- The sends of the first exchange give back the argument's blocks. -/
theorem endS1 (c : Dev nD) : bigSep (Up c 1 8) (fun p => iprop(pos c (kS1 (p - c)) 1 ∗ pay m Gd c 0 0 (kS1 (p - c)))) ⊢ bigSep (Ot c) (fun p => iprop(pos c (kS1 (p - c)) 1 ∗ xO c p (xblk m c p))) := by
  rw [up_one]
  refine BI.Entails.trans (Entails.of_eq (bigSep_congr fun p _ => ?_)) (Entails.refl _)
  rw [pay_S1, add_sub_add]
/-- The sends of the second exchange give back the scratch slabs. -/
theorem endS2 (c : Dev nD) : bigSep (Up c 1 8) (fun p => iprop(pos c (kS2 p) 1 ∗ pay m Gd c 0 0 (kS2 p))) ⊢ bigSep (Ot c) (fun p => iprop(pos c (kS2 p) 1 ∗ aAny c p)) := by
  rw [up_one]; exact Entails.refl _
/-- The landings of the second exchange bring the sorted blocks of the result. -/
theorem endR2 (c : Dev nD) : bigSep (Dn c 1 8) (fun p => iprop(pos c (kR2 p) 1 ∗ pay m Gd c 0 0 (kR2 p))) ⊢ bigSep (Ot c) (fun p => iprop(pos c (kR2 p) 1 ∗ oG Gd c p)) := by
  rw [dn_one]; exact Entails.refl _

/-- What is owed at the closing handshake lies above level zero. -/
theorem above_OD0 (c : Dev nD) : Above 0 (OD c 1) := (above_OD c 1).mono (Nat.zero_le 3)
/-- What is owed after the first exchange's sends lies above level zero. -/
theorem above_OB0 (c : Dev nD) : Above 0 (OB c 8) := (above_OB c 8).mono (Nat.zero_le 1)
/-- The semaphore of the second exchange that is waited on for the device at a given distance downwards. -/
theorem off58_at (c : Dev nD) (r : Fin 7) : k0_off58 c (BitVec.ofNat 32 (1 + r.val)) = ![(c - ⟨r.val + 1, Nat.succ_lt_succ r.isLt⟩ : Dev nD).val] := by
  revert c r; decide +kernel

/-- A program that has ended, what is wanted still an update away. -/
theorem wp_end {Q : PUnit → sProp 𝕄} (c : Dev nD) {a : PUnit} : iprop(|={Set.univ}=> Q a) ⊢ WP c (Prog.ret a) Q := by
  unfold WP
  rw [wp_ret]

set_option maxHeartbeats 4000000 in
include H in
/-- The body of the kernel on one device, from what it starts with to what it ends with. -/
theorem body_wp (c : Dev nD) {Kt : PUnit → sProp 𝕄} :
    Pre m Gd K c ⊢ iprop((Post m Gd c -∗ |={Set.univ}=> Kt ⟨⟩) -∗ WP c (cc0_body (F := F) xW (Memref.isWhole_whole _) oW (Memref.isWhole_whole _) aW (Memref.isWhole_whole _) cc0_scratch1 cc0_scratch2 cc0_scratch3 cc0_scratch4 cc0_scratch5 cc0_scoped0) Kt) := by
  simp only [cc0_body_eq_skeleton]; unfold cc0_body_skel
  simp only [k0_part8_eq_skeleton, k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton]
  unfold k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, Prog.bind_assoc, wp_deviceId]
  unfold Pre
  iintro ⟨#HP, HO, ⟨HcB, HpB⟩, ⟨HcG, HpG⟩, ⟨HpL, HtL0, HtL1⟩, ⟨Hx, Ha, Ho⟩, HF⟩ Hk
  ihave HF := (pre_split m c) $$ HF
  icases HF with ⟨HA, HtS1, HtR1, Hxs, HpS1, HpR1, HcR1, HtS2, HtR2, HpS2, HpR2, HcR2, HG⟩
  ihave HA := (Entails.of_eq (congrArg (fun S => bigSep S (pBar (F := F) c)) (up_one c).symm)) $$ HA
  iapply (sigA m Gd K c _ ⟨1, by decide⟩ (by decide) (Fin.ext (k0_dev1_eq c))) $$ [HO HA]
  · isplitr; · iexact HP
    isplitl [HO]; · iexact HO
    iexact HA
  iintro ⟨HO, HA⟩
  iapply (sigA m Gd K c _ ⟨2, by decide⟩ (by decide) (Fin.ext (k0_dev2_eq c))) $$ [HO HA]
  · isplitr; · iexact HP
    isplitl [HO]; · iexact HO
    iexact HA
  iintro ⟨HO, HA⟩
  iapply (sigA m Gd K c _ ⟨3, by decide⟩ (by decide) (Fin.ext (k0_dev3_eq c))) $$ [HO HA]
  · isplitr; · iexact HP
    isplitl [HO]; · iexact HO
    iexact HA
  iintro ⟨HO, HA⟩
  iapply (sigA m Gd K c _ ⟨4, by decide⟩ (by decide) (Fin.ext (k0_dev4_eq c))) $$ [HO HA]
  · isplitr; · iexact HP
    isplitl [HO]; · iexact HO
    iexact HA
  iintro ⟨HO, HA⟩
  iapply (sigA m Gd K c _ ⟨5, by decide⟩ (by decide) (Fin.ext (k0_dev5_eq c))) $$ [HO HA]
  · isplitr; · iexact HP
    isplitl [HO]; · iexact HO
    iexact HA
  iintro ⟨HO, HA⟩
  iapply (sigA m Gd K c _ ⟨6, by decide⟩ (by decide) (Fin.ext (k0_dev6_eq c))) $$ [HO HA]
  · isplitr; · iexact HP
    isplitl [HO]; · iexact HO
    iexact HA
  iintro ⟨HO, HA⟩
  iapply (sigA m Gd K c _ ⟨7, by decide⟩ (by decide) (Fin.ext (k0_dev7_eq c))) $$ [HO HA]
  · isplitr; · iexact HP
    isplitl [HO]; · iexact HO
    iexact HA
  iintro ⟨HO, HA⟩
  iapply (waitA m Gd K c) $$ [HO HcB HpB]
  · isplitr; · iexact HP
    isplitl [HO]; · iexact HO
    isplitl [HcB]; · iexact HcB
    iexact HpB
  iintro ⟨HO, HpB, HB⟩
  ihave HB := (splitBar c) $$ HB
  icases HB with ⟨Haa, Hoo⟩
  iapply (mv_loc0 m Gd K c _ (k0_off2_eq c) _ _ (k0_off1_eq c) _) $$ [HtL0 Hx Ha]
  · isplitr; · iexact HP
    isplitl [HtL0]; · iexact HtL0
    isplitl [Hx]; · iexact Hx
    iexact Ha
  iintro HcL
  ihave HS := (joinSnd m c) $$ [HtS1 HtR1 Hxs Haa]
  · isplitl [HtS1]; · iexact HtS1
    isplitl [HtR1]; · iexact HtR1
    isplitl [Hxs]; · iexact Hxs
    iexact Haa
  ihave HC := (noneUp (fun p => crd c (kS1 (p - c)) N) c) $$ []
  · iempintro
  iapply (sndB m Gd K c _ ⟨1, by decide⟩ (by decide) (Fin.ext (k0_dev8_eq c)) _ (k0_off3_eq c 0) _ _ (k0_off1_eq c) _ _ rfl _) $$ [HO HS HC]
  · isplitr; · iexact HP
    isplitl [HO]; · iexact HO
    isplitl [HS]; · iexact HS
    iexact HC
  iintro ⟨HO, HS, HC⟩
  iapply (sndB m Gd K c _ ⟨2, by decide⟩ (by decide) (Fin.ext (k0_dev9_eq c)) _ (k0_off3_eq c 1) _ _ (k0_off1_eq c) _ _ rfl _) $$ [HO HS HC]
  · isplitr; · iexact HP
    isplitl [HO]; · iexact HO
    isplitl [HS]; · iexact HS
    iexact HC
  iintro ⟨HO, HS, HC⟩
  iapply (sndB m Gd K c _ ⟨3, by decide⟩ (by decide) (Fin.ext (k0_dev10_eq c)) _ (k0_off3_eq c 2) _ _ (k0_off1_eq c) _ _ rfl _) $$ [HO HS HC]
  · isplitr; · iexact HP
    isplitl [HO]; · iexact HO
    isplitl [HS]; · iexact HS
    iexact HC
  iintro ⟨HO, HS, HC⟩
  iapply (sndB m Gd K c _ ⟨4, by decide⟩ (by decide) (Fin.ext (k0_dev11_eq c)) _ (k0_off3_eq c 3) _ _ (k0_off1_eq c) _ _ rfl _) $$ [HO HS HC]
  · isplitr; · iexact HP
    isplitl [HO]; · iexact HO
    isplitl [HS]; · iexact HS
    iexact HC
  iintro ⟨HO, HS, HC⟩
  iapply (sndB m Gd K c _ ⟨5, by decide⟩ (by decide) (Fin.ext (k0_dev12_eq c)) _ (k0_off3_eq c 4) _ _ (k0_off1_eq c) _ _ rfl _) $$ [HO HS HC]
  · isplitr; · iexact HP
    isplitl [HO]; · iexact HO
    isplitl [HS]; · iexact HS
    iexact HC
  iintro ⟨HO, HS, HC⟩
  iapply (sndB m Gd K c _ ⟨6, by decide⟩ (by decide) (Fin.ext (k0_dev13_eq c)) _ (k0_off3_eq c 5) _ _ (k0_off1_eq c) _ _ rfl _) $$ [HO HS HC]
  · isplitr; · iexact HP
    isplitl [HO]; · iexact HO
    isplitl [HS]; · iexact HS
    iexact HC
  iintro ⟨HO, HS, HC⟩
  iapply (sndB m Gd K c _ ⟨7, by decide⟩ (by decide) (Fin.ext (k0_dev14_eq c)) _ (k0_off3_eq c 6) _ _ (k0_off1_eq c) _ _ rfl _) $$ [HO HS HC]
  · isplitr; · iexact HP
    isplitl [HO]; · iexact HO
    isplitl [HS]; · iexact HS
    iexact HC
  iintro ⟨HO, HS, HC⟩
  iapply (wtL m Gd K c 0 (by decide) (dmaA _ _) (above_OB0 c)) $$ [HO HcL HpL]
  · isplitr; · iexact HP
    isplitl [HO]; · iexact HO
    isplitl [HcL]; · iexact HcL
    iexact HpL
  iintro ⟨HO, HpL, #HrL, Hpay⟩
  ihave Hpay := (Entails.of_eq (pay_loc0 m Gd c)) $$ Hpay
  icases Hpay with ⟨Ha, Hx⟩
  ihave HO := (Entails.of_eq (congrArg (oweE (F := F) c) (OB_end c))) $$ HO
  ihave HT := (St1_start m Gd K H c) $$ [HO Ha HpR1 HcR1]
  · isplitr; · iexact HP
    isplitl [HO]; · iexact HO
    isplitl [Ha]; · iexact Ha
    isplitl [HpR1]; · iexact HpR1
    iexact HcR1
  iapply (t1_loop m Gd K H c _ _) $$ HT
  iintro HT
  ihave HT := (St1_end m Gd K c) $$ HT
  icases HT with ⟨HO, HpR1, Has⟩
  ihave HW := (joinWt c (fun p => kS1 (p - c)) (Up c 1 8) (up_one c)) $$ [HpS1 HC]
  · isplitl [HpS1]; · iexact HpS1
    rw [← up_one]; iexact HC
  ihave HD := (noneUp (fun p => iprop(pos c (kS1 (p - c)) 1 ∗ pay m Gd c 0 0 (kS1 (p - c)))) c) $$ []
  · iempintro
  iapply (wtS1 m Gd K c ⟨1, by decide⟩ (by decide) _ rfl _ (dmaX _ _)) $$ [HO HW HD]
  · isplitr; · iexact HP
    isplitl [HO]; · iexact HO
    isplitl [HW]; · iexact HW
    iexact HD
  iintro ⟨HO, HW, HD⟩
  iapply (wtS1 m Gd K c ⟨2, by decide⟩ (by decide) _ rfl _ (dmaX _ _)) $$ [HO HW HD]
  · isplitr; · iexact HP
    isplitl [HO]; · iexact HO
    isplitl [HW]; · iexact HW
    iexact HD
  iintro ⟨HO, HW, HD⟩
  iapply (wtS1 m Gd K c ⟨3, by decide⟩ (by decide) _ rfl _ (dmaX _ _)) $$ [HO HW HD]
  · isplitr; · iexact HP
    isplitl [HO]; · iexact HO
    isplitl [HW]; · iexact HW
    iexact HD
  iintro ⟨HO, HW, HD⟩
  iapply (wtS1 m Gd K c ⟨4, by decide⟩ (by decide) _ rfl _ (dmaX _ _)) $$ [HO HW HD]
  · isplitr; · iexact HP
    isplitl [HO]; · iexact HO
    isplitl [HW]; · iexact HW
    iexact HD
  iintro ⟨HO, HW, HD⟩
  iapply (wtS1 m Gd K c ⟨5, by decide⟩ (by decide) _ rfl _ (dmaX _ _)) $$ [HO HW HD]
  · isplitr; · iexact HP
    isplitl [HO]; · iexact HO
    isplitl [HW]; · iexact HW
    iexact HD
  iintro ⟨HO, HW, HD⟩
  iapply (wtS1 m Gd K c ⟨6, by decide⟩ (by decide) _ rfl _ (dmaX _ _)) $$ [HO HW HD]
  · isplitr; · iexact HP
    isplitl [HO]; · iexact HO
    isplitl [HW]; · iexact HW
    iexact HD
  iintro ⟨HO, HW, HD⟩
  iapply (wtS1 m Gd K c ⟨7, by decide⟩ (by decide) _ rfl _ (dmaX _ _)) $$ [HO HW HD]
  · isplitr; · iexact HP
    isplitl [HO]; · iexact HO
    isplitl [HW]; · iexact HW
    iexact HD
  iintro ⟨HO, HW, HD⟩
  ihave HS1 := (endS1 m Gd c) $$ HD
  ihave HP2 := (pend2_start c) $$ [HtL1 Ho HtS2 HtR2 Hoo]
  · isplitr; · iexact HrL
    isplitl [HtL1]; · iexact HtL1
    isplitl [Ho]; · iexact Ho
    isplitl [HtS2]; · iexact HtS2
    isplitl [HtR2]; · iexact HtR2
    iexact Hoo
  iapply (t5_loop m Gd K H c _) $$ [HO Has HP2]
  · isplitr; · iexact HP
    isplitl [HO]; · iexact HO
    isplitl [Has]; · iexact Has
    iexact HP2
  iintro ⟨HO, HT⟩
  ihave HT := (sent2_end c) $$ HT
  icases HT with ⟨HcL, HC⟩
  ihave HW := (joinWt c kS2 (Up c 1 8) (up_one c)) $$ [HpS2 HC]
  · isplitl [HpS2]; · iexact HpS2
    iexact HC
  ihave HD := (noneUp (fun p => iprop(pos c (kS2 p) 1 ∗ pay m Gd c 0 0 (kS2 p))) c) $$ []
  · iempintro
  iapply (wtS2 m Gd K c ⟨1, by decide⟩ (by decide) _ (k0_off56_eq c 0) _ (dmaA _ _)) $$ [HO HW HD]
  · isplitr; · iexact HP
    isplitl [HO]; · iexact HO
    isplitl [HW]; · iexact HW
    iexact HD
  iintro ⟨HO, HW, HD⟩
  iapply (wtS2 m Gd K c ⟨2, by decide⟩ (by decide) _ (k0_off56_eq c 1) _ (dmaA _ _)) $$ [HO HW HD]
  · isplitr; · iexact HP
    isplitl [HO]; · iexact HO
    isplitl [HW]; · iexact HW
    iexact HD
  iintro ⟨HO, HW, HD⟩
  iapply (wtS2 m Gd K c ⟨3, by decide⟩ (by decide) _ (k0_off56_eq c 2) _ (dmaA _ _)) $$ [HO HW HD]
  · isplitr; · iexact HP
    isplitl [HO]; · iexact HO
    isplitl [HW]; · iexact HW
    iexact HD
  iintro ⟨HO, HW, HD⟩
  iapply (wtS2 m Gd K c ⟨4, by decide⟩ (by decide) _ (k0_off56_eq c 3) _ (dmaA _ _)) $$ [HO HW HD]
  · isplitr; · iexact HP
    isplitl [HO]; · iexact HO
    isplitl [HW]; · iexact HW
    iexact HD
  iintro ⟨HO, HW, HD⟩
  iapply (wtS2 m Gd K c ⟨5, by decide⟩ (by decide) _ (k0_off56_eq c 4) _ (dmaA _ _)) $$ [HO HW HD]
  · isplitr; · iexact HP
    isplitl [HO]; · iexact HO
    isplitl [HW]; · iexact HW
    iexact HD
  iintro ⟨HO, HW, HD⟩
  iapply (wtS2 m Gd K c ⟨6, by decide⟩ (by decide) _ (k0_off56_eq c 5) _ (dmaA _ _)) $$ [HO HW HD]
  · isplitr; · iexact HP
    isplitl [HO]; · iexact HO
    isplitl [HW]; · iexact HW
    iexact HD
  iintro ⟨HO, HW, HD⟩
  iapply (wtS2 m Gd K c ⟨7, by decide⟩ (by decide) _ (k0_off56_eq c 6) _ (dmaA _ _)) $$ [HO HW HD]
  · isplitr; · iexact HP
    isplitl [HO]; · iexact HO
    isplitl [HW]; · iexact HW
    iexact HD
  iintro ⟨HO, HW, HD⟩
  iapply (wtL m Gd K c 1 (by decide) (dmaO _ _) (above_OD0 c)) $$ [HO HcL HpL]
  · isplitr; · iexact HP
    isplitl [HO]; · iexact HO
    isplitl [HcL]; · iexact HcL
    iexact HpL
  iintro ⟨HO, HpL, -, Hpay⟩
  ihave HS2 := (endS2 m Gd c) $$ HD
  ihave Hpay := (Entails.of_eq (pay_loc1 m Gd c)) $$ Hpay
  icases Hpay with ⟨Ho, Ha⟩
  ihave HW := (joinWt c kR2 (Dn c 1 8) (dn_one c)) $$ [HpR2 HcR2]
  · isplitl [HpR2]; · iexact HpR2
    iexact HcR2
  ihave HD := (noneDn (fun p => iprop(pos c (kR2 p) 1 ∗ pay m Gd c 0 0 (kR2 p))) c) $$ []
  · iempintro
  iapply (wtR2 m Gd K c ⟨1, by decide⟩ (by decide) _ (off58_at c 0) _ (dmaO _ _)) $$ [HO HW HD]
  · isplitr; · iexact HP
    isplitl [HO]; · iexact HO
    isplitl [HW]; · iexact HW
    iexact HD
  iintro ⟨HO, HW, HD⟩
  iapply (wtR2 m Gd K c ⟨2, by decide⟩ (by decide) _ (off58_at c 1) _ (dmaO _ _)) $$ [HO HW HD]
  · isplitr; · iexact HP
    isplitl [HO]; · iexact HO
    isplitl [HW]; · iexact HW
    iexact HD
  iintro ⟨HO, HW, HD⟩
  iapply (wtR2 m Gd K c ⟨3, by decide⟩ (by decide) _ (off58_at c 2) _ (dmaO _ _)) $$ [HO HW HD]
  · isplitr; · iexact HP
    isplitl [HO]; · iexact HO
    isplitl [HW]; · iexact HW
    iexact HD
  iintro ⟨HO, HW, HD⟩
  iapply (wtR2 m Gd K c ⟨4, by decide⟩ (by decide) _ (off58_at c 3) _ (dmaO _ _)) $$ [HO HW HD]
  · isplitr; · iexact HP
    isplitl [HO]; · iexact HO
    isplitl [HW]; · iexact HW
    iexact HD
  iintro ⟨HO, HW, HD⟩
  iapply (wtR2 m Gd K c ⟨5, by decide⟩ (by decide) _ (off58_at c 4) _ (dmaO _ _)) $$ [HO HW HD]
  · isplitr; · iexact HP
    isplitl [HO]; · iexact HO
    isplitl [HW]; · iexact HW
    iexact HD
  iintro ⟨HO, HW, HD⟩
  iapply (wtR2 m Gd K c ⟨6, by decide⟩ (by decide) _ (off58_at c 5) _ (dmaO _ _)) $$ [HO HW HD]
  · isplitr; · iexact HP
    isplitl [HO]; · iexact HO
    isplitl [HW]; · iexact HW
    iexact HD
  iintro ⟨HO, HW, HD⟩
  iapply (wtR2 m Gd K c ⟨7, by decide⟩ (by decide) _ (off58_at c 6) _ (dmaO _ _)) $$ [HO HW HD]
  · isplitr; · iexact HP
    isplitl [HO]; · iexact HO
    isplitl [HW]; · iexact HW
    iexact HD
  iintro ⟨HO, HW, HD⟩
  ihave HR2 := (endR2 m Gd c) $$ HD
  ihave HG := (Entails.of_eq (congrArg (fun S => bigSep S (fun p => (tok p kSco 0 c : sProp 𝕄))) (up_one c).symm)) $$ HG
  iapply (sigG m Gd K c _ ⟨1, by decide⟩ (by decide) (Fin.ext (k0_dev16_eq c))) $$ [HO HG]
  · isplitr; · iexact HP
    isplitl [HO]; · iexact HO
    iexact HG
  iintro ⟨HO, HG⟩
  iapply (sigG m Gd K c _ ⟨2, by decide⟩ (by decide) (Fin.ext (k0_dev17_eq c))) $$ [HO HG]
  · isplitr; · iexact HP
    isplitl [HO]; · iexact HO
    iexact HG
  iintro ⟨HO, HG⟩
  iapply (sigG m Gd K c _ ⟨3, by decide⟩ (by decide) (Fin.ext (k0_dev18_eq c))) $$ [HO HG]
  · isplitr; · iexact HP
    isplitl [HO]; · iexact HO
    iexact HG
  iintro ⟨HO, HG⟩
  iapply (sigG m Gd K c _ ⟨4, by decide⟩ (by decide) (Fin.ext (k0_dev19_eq c))) $$ [HO HG]
  · isplitr; · iexact HP
    isplitl [HO]; · iexact HO
    iexact HG
  iintro ⟨HO, HG⟩
  iapply (sigG m Gd K c _ ⟨5, by decide⟩ (by decide) (Fin.ext (k0_dev20_eq c))) $$ [HO HG]
  · isplitr; · iexact HP
    isplitl [HO]; · iexact HO
    iexact HG
  iintro ⟨HO, HG⟩
  iapply (sigG m Gd K c _ ⟨6, by decide⟩ (by decide) (Fin.ext (k0_dev21_eq c))) $$ [HO HG]
  · isplitr; · iexact HP
    isplitl [HO]; · iexact HO
    iexact HG
  iintro ⟨HO, HG⟩
  iapply (sigG m Gd K c _ ⟨7, by decide⟩ (by decide) (Fin.ext (k0_dev22_eq c))) $$ [HO HG]
  · isplitr; · iexact HP
    isplitl [HO]; · iexact HO
    iexact HG
  iintro ⟨HO, HG⟩
  iapply (waitG m Gd K c) $$ [HO HcG HpG]
  · isplitr; · iexact HP
    isplitl [HO]; · iexact HO
    isplitl [HcG]; · iexact HcG
    iexact HpG
  iintro ⟨HO, HpG⟩
  iapply (wp_end c)
  iapply Hk
  iapply (post_mk m Gd c)
  isplitl [HO]; · iexact HO
  isplitl [HpB]; · iexact HpB
  isplitl [HpG]; · iexact HpG
  isplitl [HpL]; · iexact HpL
  isplitl [Hx]; · iexact Hx
  isplitl [Ho]; · iexact Ho
  isplitl [Ha]; · iexact Ha
  isplitl [HS1]; · iexact HS1
  isplitl [HpR1]; · iexact HpR1
  isplitl [HS2]; · iexact HS2
  iexact HR2

end Cert.KernelIdeal.Net
-- ==== Proof.KI.Deal.lean ====
/-
What the launch deals each device: its cells' positions, the tokens of what it pays, the credit of what the others owe it.
-/
module

public import proofs.«01_k».proof.Proof.KI.Rows

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (Gd : Know F) (K : Dev nD × CK → ℕ)

section Splits
variable {M : Type} [URA M]

/-- Three parts may be bracketed either way. -/
theorem sep_assoc3 (P Q R : sProp M) : iprop((P ∗ Q) ∗ R) = iprop(P ∗ Q ∗ R) := by
  refine BI.equiv_iff.mp ⟨?_, ?_⟩
  · show iprop((P ∗ Q) ∗ R) ⊢ iprop(P ∗ Q ∗ R)
    iintro ⟨⟨H1, H2⟩, H3⟩
    isplitl [H1]; · iexact H1
    isplitl [H2]; · iexact H2
    iexact H3
  · show iprop(P ∗ Q ∗ R) ⊢ iprop((P ∗ Q) ∗ R)
    iintro ⟨H1, H2, H3⟩
    isplitl [H1 H2]
    · isplitl [H1]; · iexact H1
      iexact H2
    iexact H3

/-- A family over a device's cells, kind by kind. -/
theorem ck_split (Φ : CK → sProp M) : bigSep Finset.univ Φ = iprop(Φ kBar ∗ Φ kSco ∗ Φ kLoc ∗ (bigSep Finset.univ fun d => Φ (kS1 d)) ∗ (bigSep Finset.univ fun d => Φ (kR1 d))
    ∗ (bigSep Finset.univ fun d => Φ (kS2 d)) ∗ bigSep Finset.univ fun d => Φ (kR2 d)) := by
  have h : (Finset.univ : Finset CK).erase none = Finset.univ.map Function.Embedding.some := by decide
  rw [bigSep_univ_split (none : CK), h, bigSep_map, bigSep_univ_sum, bigSep_fin_two, bigSep_univ_prod, bigSep_univ_eq_bigSepL [0, 1, 2, 3] (by decide) (by decide)]
  exact congrArg _ (sep_assoc3 _ _ _)

/-- Numbers are distances from a device upwards, -/
def upE (c : Dev nD) : Dev nD ≃ Dev nD := ⟨fun p => p - c, fun d => c + d, by revert c; decide, by revert c; decide⟩
/-- and downwards. -/
def dnE (c : Dev nD) : Dev nD ≃ Dev nD := ⟨fun p => c - p, fun d => c - d, by revert c; decide, by revert c; decide⟩

/-- A product over all devices is the own factor and those at the distances upwards. -/
theorem by_up (c : Dev nD) (Φ : Dev nD → sProp M) : bigSep Finset.univ Φ = iprop(Φ (c - c) ∗ bigSep (Ot c) fun p => Φ (p - c)) := by
  rw [bigSep_univ_equiv (upE c), take c (Finset.mem_univ c) rfl]; rfl
/-- A product over all devices is the own factor and those at the distances downwards. -/
theorem by_dn (c : Dev nD) (Φ : Dev nD → sProp M) : bigSep Finset.univ Φ = iprop(Φ (c - c) ∗ bigSep (Ot c) fun p => Φ (c - p)) := by
  rw [bigSep_univ_equiv (dnE c), take c (Finset.mem_univ c) rfl]; rfl

/-- The left part may be dropped. -/
theorem drop_left (P Q : sProp M) : iprop(P ∗ Q) ⊢ Q := by
  iintro ⟨-, H⟩
  iexact H
/-- The right part may be dropped. -/
theorem drop_right (P Q : sProp M) : iprop(P ∗ Q) ⊢ P := by
  iintro ⟨H, -⟩
  iexact H

/-- A product may be weakened factor by factor. -/
theorem mono_on {I : Type} {S : Finset I} {Φ Ψ : I → sProp M} (h : ∀ c ∈ S, Φ c ⊢ Ψ c) : bigSep S Φ ⊢ bigSep S Ψ := bigSep_mono h

/-- A product may be weakened factor by factor with the help of something persistent. -/
theorem bigSep_with_pers {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From all the devices to all the others. -/
theorem to_Ot (c : Dev nD) (Φ : Dev nD → sProp M) : bigSep Finset.univ Φ ⊢ bigSep (Ot c) Φ := bigSep_subset (Finset.erase_subset _ _)

end Splits

/-! ## The tokens -/

/-- The tokens of a device's own cells. -/
def toks (c : Dev nD) : sProp 𝕄 :=
  iprop((bigSep Finset.univ fun d => tok c kBar 0 d) ∗ (bigSep Finset.univ fun d => tok c kSco 0 d) ∗ (tok c kLoc 0 0 ∗ tok c kLoc 1 0)
    ∗ (bigSep Finset.univ fun d => tok c (kS1 d) 0 0) ∗ (bigSep Finset.univ fun d => tok c (kR1 d) 0 0)
    ∗ (bigSep Finset.univ fun d => tok c (kS2 d) 0 0) ∗ bigSep Finset.univ fun d => tok c (kR2 d) 0 0)

/-- The tokens of what a device pays. -/
def payToks (c : Dev nD) : sProp 𝕄 :=
  iprop((bigSep (Ot c) fun p => tok p kBar 0 c) ∗ (bigSep (Ot c) fun p => tok p kSco 0 c) ∗ (tok c kLoc 0 0 ∗ tok c kLoc 1 0)
    ∗ (bigSep (Ot c) fun p => tok c (kS1 (p - c)) 0 0) ∗ (bigSep (Ot c) fun p => tok p (kR1 (p - c)) 0 0)
    ∗ (bigSep (Ot c) fun p => tok c (kS2 p) 0 0) ∗ bigSep (Ot c) fun p => tok p (kR2 c) 0 0)

omit [FloatOps F] in
/-- The tokens of all the cells, dealt anew to the devices that pay them. -/
theorem toks_around : (bigSep Finset.univ fun c : Dev nD => (toks c : sProp 𝕄)) ⊢ bigSep Finset.univ fun c : Dev nD => payToks c := by
  unfold toks payToks
  simp only [bigSep_sep']
  rw [bigSep_univ_comm fun c d : Dev nD => (tok c kBar 0 d : sProp 𝕄), bigSep_univ_comm fun c d : Dev nD => (tok c kSco 0 d : sProp 𝕄),
    bigSep_congr (s := Finset.univ) (fun (c : Dev nD) _ => bigSep_univ_equiv (dnE c) fun d => (tok c (kR1 d) 0 0 : sProp 𝕄)),
    bigSep_univ_comm fun c p : Dev nD => (tok c (kR1 (dnE c p)) 0 0 : sProp 𝕄), bigSep_univ_comm fun c d : Dev nD => (tok c (kR2 d) 0 0 : sProp 𝕄)]
  iintro ⟨H1, H2, H3, H5, H6, H7, H8⟩
  isplitl [H1]; · iapply (mono_on fun c _ => to_Ot c fun p => (tok p kBar 0 c : sProp 𝕄)); iexact H1
  isplitl [H2]; · iapply (mono_on fun c _ => to_Ot c fun p => (tok p kSco 0 c : sProp 𝕄)); iexact H2
  isplitl [H3]; · iexact H3
  isplitl [H5]; · iapply (mono_on fun c _ => (Entails.of_eq (by_up c fun d => (tok c (kS1 d) 0 0 : sProp 𝕄))).trans (drop_left _ _)); iexact H5
  isplitl [H6]; · iapply (mono_on fun c _ => to_Ot c fun p => (tok p (kR1 (p - c)) 0 0 : sProp 𝕄)); iexact H6
  isplitl [H7]; · iapply (mono_on fun c _ => to_Ot c fun p => (tok c (kS2 p) 0 0 : sProp 𝕄)); iexact H7
  iapply (mono_on fun c _ => to_Ot c fun p => (tok p (kR2 c) 0 0 : sProp 𝕄)); iexact H8

/-! ## The launch element -/

def allCells : Finset (GSem nD τ sig) := Finset.univ.map ⟨kcell, kcell_injective⟩

abbrev tokOf (x : (Dev nD × CK) × Fin 2 × Dev nD) : GSem nD τ sig × ℕ × Dev nD := (kcell x.1, x.2.1.val, x.2.2)
/-- Tokens of different duties are different. -/
theorem tokOf_injective : Function.Injective tokOf := by
  rintro ⟨ck, r, d⟩ ⟨ck', r', d'⟩ h
  have h1 : ck = ck' := kcell_injective (congrArg Prod.fst h)
  have h2 : r = r' := Fin.ext (congrArg (fun x : GSem nD τ sig × ℕ × Dev nD => x.2.1) h)
  have h3 : d = d' := congrArg (fun x : GSem nD τ sig × ℕ × Dev nD => x.2.2) h
  rw [h1, h2, h3]
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- What the launch element deals a device. -/
def G (c : Dev nD) : sProp 𝕄 :=
  iprop((bigSep Finset.univ fun k : CK => roundState ER (Rd m Gd) (cell c k) 0)
    ∗ (bigSep Finset.univ fun k : CK => iprop(pos c k 0 ∗ reached ER (cell c k) 0)) ∗ toks c)

omit [FloatOps F] in
/-- All the tokens of a device's cells contain those that are used. -/
theorem toks_of_all (c : Dev nD) : (bigSep Finset.univ fun k : CK => bigSep Finset.univ fun x : Fin 2 × Dev nD => (tok c k x.1.val x.2 : sProp 𝕄)) ⊢ toks c := by
  have h0 (k : CK) : (bigSep Finset.univ fun x : Fin 2 × Dev nD => (tok c k x.1.val x.2 : sProp 𝕄)) ⊢ bigSep Finset.univ fun d => tok c k 0 d := by
    rw [bigSep_univ_prod, bigSep_fin_two]; exact drop_right _ _
  have h1 (k : CK) : (bigSep Finset.univ fun x : Fin 2 × Dev nD => (tok c k x.1.val x.2 : sProp 𝕄)) ⊢ tok c k 0 0 :=
    (h0 k).trans (bigSep_elim (Finset.mem_univ 0))
  have h2 (k : CK) : (bigSep Finset.univ fun x : Fin 2 × Dev nD => (tok c k x.1.val x.2 : sProp 𝕄)) ⊢ iprop(tok c k 0 0 ∗ tok c k 1 0) := by
    rw [bigSep_univ_prod, bigSep_fin_two]; exact BI.sep_mono (bigSep_elim (Finset.mem_univ 0)) (bigSep_elim (Finset.mem_univ 0))
  rw [ck_split]
  unfold toks
  exact BI.sep_mono (h0 _) (BI.sep_mono (h0 _) (BI.sep_mono (h2 _) (BI.sep_mono (bigSep_mono fun d _ => h1 _) (BI.sep_mono (bigSep_mono fun d _ => h1 _)
    (BI.sep_mono (bigSep_mono fun d _ => h1 _) (bigSep_mono fun d _ => h1 _))))))

omit [FloatOps F] in
/-- The launch element deals every device its cells. -/
theorem fund_cells : BI.own (ER (initOf allCells allToks)) ⊢ (|==> bigSep Finset.univ (G m Gd) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod, bigSep_univ_prod]
    exact bigSep_mono fun c _ => toks_of_all c
  iintro HX
  imod (Rounds.fund ER (Rd m Gd) allCells allToks) $$ HX with ⟨Hst, Hr, Hat, Htok⟩
  imodintro
  ihave Hst := (Entails.of_eq (hX fun g => roundState ER (Rd m Gd) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat] <;> iassumption
  iexact Htok

/-- The kernel's own semaphores are the scratch ones, each once. -/
theorem ownSemFacts : Pipeline.OwnSemFacts cfg0.spec osem := by decide

omit [FloatOps F] in
/-- The only other counter is the barrier's. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl

omit [FloatOps F] in
/-- A device's own semaphores and the barrier's are its cells. -/
theorem sems0_eq (c : Dev nD) : (bigSep Finset.univ fun k : CK => semVal (cell c k) 0 : sProp 𝕄)
    = iprop(unscopedSems0 c ∗ Pipeline.ownSems0 (Ix := Unit) (Name := ℕ) (U := UU) (Lvl := ℕ) (Val := Elt F) (τ := τ) osem c) := by
  have h : (Finset.univ : Finset CK).erase none = Finset.univ.map Function.Embedding.some := by decide
  rw [unscopedSems0_eq, bigSep_univ_split (none : CK), h, bigSep_map]; rfl

omit [FloatOps F] in
/-- The counters of a device become cells with their invariants, at the first round. -/
theorem core_alloc (c : Dev nD) :
    iprop(Pipeline.ownSems0 (Ix := Unit) (Name := ℕ) (U := UU) (Lvl := ℕ) (Val := Elt F) (τ := τ) osem c ∗ unscopedSems0 c ∗ G m Gd c)
      ⊢ |={Set.univ}=> iprop((bigSep Finset.univ fun k => iprop(∃ κ : ℕ, cellInv ER (Rd m Gd) κ (cell c k)))
          ∗ (bigSep Finset.univ fun k => iprop(pos c k 0 ∗ reached ER (cell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (cell c k) 0) ∗ bigSep Finset.univ fun k : CK => roundState ER (Rd m Gd) (cell c k) 0)
      ⊢ (|={Set.univ}=> bigSep Finset.univ fun k => iprop(∃ κ : ℕ, cellInv ER (Rd m Gd) κ (cell c k)) : sProp 𝕄) from by
        rw [← bigSep_sep']
        exact (bigSep_mono fun k _ => (Rounds.body_intro ER (Rd m Gd) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- What stays with a device: its positions, and the tokens of what it pays. -/
def linear (c : Dev nD) : sProp 𝕄 := iprop((bigSep Finset.univ fun k : CK => pos c k 0) ∗ payToks c)
def G' (c : Dev nD) : sProp 𝕄 := iprop(∃ K, records m Gd K ∗ linear c)

omit [FloatOps F] in
/-- The invariants are shared by all, and positions and tokens go to the devices that use them. -/
theorem regroup :
    (bigSep Finset.univ fun c : Dev nD => iprop((bigSep Finset.univ fun k => iprop(∃ κ : ℕ, cellInv ER (Rd m Gd) κ (cell c k)))
          ∗ (bigSep Finset.univ fun k => iprop(pos c k 0 ∗ reached ER (cell c k) 0)) ∗ toks c) : sProp 𝕄)
      ⊢ bigSep Finset.univ (G' m Gd) := by
  rw [bigSep_sep', bigSep_sep', ← bigSep_univ_prod (fun ck : Dev nD × CK => iprop(∃ κ : ℕ, cellInv ER (Rd m Gd) κ (kcell ck))),
    bigSep_congr (s := Finset.univ) (fun (c : Dev nD) _ => bigSep_sep' Finset.univ (fun k : CK => (pos c k 0 : sProp 𝕄)) (fun k => reached ER (cell c k) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m Gd) κ (kcell ck) : sProp 𝕄))) $$ HI
  icases HK with ⟨%K, #HI⟩
  ihave Htk := (toks_around (F := F)) $$ Htok
  iapply (bigSep_with_pers (R := records m Gd K) (Φ := linear) fun c _ => by
    unfold G'
    iintro H
    iexists K
    iexact H)
  isplitr
  · unfold records; isplitl; · iexact HI
    iexact HR
  · unfold linear
    rw [bigSep_sep']
    isplitl [Hat]; · iexact Hat
    iexact Htk

omit [FloatOps F] in
/-- The launch's global step: every device's semaphores become its cells' invariants. -/
theorem glob : (bigSep Finset.univ fun c => iprop(Pipeline.ownSems0 (Ix := Unit) (Name := ℕ) (U := UU) (Lvl := ℕ) (Val := Elt F) (τ := τ) osem c ∗ unscopedSems0 c ∗ G m Gd c) : sProp 𝕄)
    ⊢ |={Set.univ}=> bigSep Finset.univ (G' m Gd) :=
  ((bigSep_mono fun c _ => core_alloc m Gd c).trans (bigSep_fupd _ _)).trans (BI.fupd_mono (regroup m Gd))

/-! ## The launch's credit -/

/-- A sum of debts at one cell. -/
theorem tally_sum (S : Finset (Dev nD)) (κ : Dev nD → CK) (x : ℕ) (c : Dev nD) (k : CK) :
    ((∑ p ∈ S, tallyAt (cell p (κ p)) () x : CellTallies nD τ sig Unit) (cell c k)) () = if c ∈ S ∧ k = κ c then x else 0 := by
  classical
  induction S using Finset.induction_on with
  | empty => rw [Finset.sum_empty, if_neg (fun h => absurd h.1 (Finset.notMem_empty _))]; rfl
  | insert p S hp ih =>
    rw [Finset.sum_insert hp, Pi.add_apply, Finsupp.add_apply, ih, tallyAt_apply]
    by_cases hc : c = p
    · subst hc
      rw [if_neg (fun h : c ∈ S ∧ k = κ c => hp h.1), Nat.add_zero]
      by_cases hk : k = κ c
      · rw [if_pos ⟨by rw [hk], rfl⟩, if_pos ⟨Finset.mem_insert_self _ _, hk⟩]
      · rw [if_neg (fun h => hk (cell_eq_iff.mp h.1).2), if_neg (fun h => hk h.2)]
    · rw [if_neg (fun h => hc (cell_eq_iff.mp h.1).1), Nat.zero_add]
      by_cases h : c ∈ S ∧ k = κ c
      · rw [if_pos h, if_pos ⟨Finset.mem_insert_of_mem h.1, h.2⟩]
      · rw [if_neg h, if_neg (fun h' => h ⟨(Finset.mem_insert.mp h'.1).resolve_left hc, h'.2⟩)]

/-- What a device owes to a cell at the launch. -/
theorem owed (d c : Dev nD) (k : CK) : (OA d 1 (cell c k)) () = (if c ∈ Up d 1 8 ∧ k = kBar then 1 else 0)
    + ((if c ∈ Up d 1 8 ∧ k = kR1 (c - d) then N else 0) + ((if c ∈ (Bt 0 8).erase d ∧ k = kR2 d then N else 0) + (if c ∈ Up d 1 8 ∧ k = kSco then 1 else 0))) := by
  unfold OA OB OC OD
  simp only [Pi.add_apply, Finsupp.add_apply]
  rw [tally_sum _ (fun _ => kBar), tally_sum _ (fun p => kR1 (p - d)), tally_sum _ (fun _ => kR2 d), tally_sum _ (fun _ => kSco)]

/-- A sum of one amount over the devices that have a property. -/
theorem sum_if (P : Dev nD → Prop) [DecidablePred P] (x : ℕ) : (∑ d, if P d then x else 0) = (Finset.univ.filter P).card * x := by
  rw [← Finset.sum_filter, Finset.sum_const, smul_eq_mul]

/-- The credit at a cell, from how many devices owe to it. -/
theorem launch_cell (c : Dev nD) (k : CK) {a b e f : ℕ} (ha : (Finset.univ.filter fun d => c ∈ Up d 1 8 ∧ k = kBar).card = a)
    (hb : (Finset.univ.filter fun d => c ∈ Up d 1 8 ∧ k = kR1 (c - d)).card = b) (he : (Finset.univ.filter fun d => c ∈ (Bt 0 8).erase d ∧ k = kR2 d).card = e)
    (hf : (Finset.univ.filter fun d => c ∈ Up d 1 8 ∧ k = kSco).card = f) {x : ℕ} (hx : a * 1 + (b * N + (e * N + f * 1)) = x) :
    tallyOn (cell c k) (launchCredit (Pipeline.owing fun d => OA d 1) 0 (cell c k)) = (tallyAt (cell c k) () x : CellTallies nD τ sig Unit) := by
  unfold tallyAt; refine congrArg _ (Finsupp.ext fun u => ?_); cases u
  rw [Pipeline.launchCredit_owing, Finsupp.single_eq_same, Finset.sum_congr rfl fun d _ => owed d c k, Finset.sum_add_distrib, Finset.sum_add_distrib, Finset.sum_add_distrib,
    sum_if, sum_if, sum_if, sum_if, ha, hb, he, hf, hx]

/-- The barrier's credit is seven. -/
theorem launch_bar (c : Dev nD) : tallyOn (cell c kBar) (launchCredit (Pipeline.owing fun d => OA d 1) 0 (cell c kBar)) = (tallyAt (cell c kBar) () 7 : CellTallies nD τ sig Unit) :=
  launch_cell c kBar (a := 7) (b := 0) (e := 0) (f := 0) (by revert c; decide +kernel) (by revert c; decide +kernel) (by revert c; decide +kernel) (by revert c; decide +kernel) (by omega)
/-- The closing handshake's credit is seven. -/
theorem launch_sco (c : Dev nD) : tallyOn (cell c kSco) (launchCredit (Pipeline.owing fun d => OA d 1) 0 (cell c kSco)) = (tallyAt (cell c kSco) () 7 : CellTallies nD τ sig Unit) :=
  launch_cell c kSco (a := 0) (b := 0) (e := 0) (f := 7) (by revert c; decide +kernel) (by revert c; decide +kernel) (by revert c; decide +kernel) (by revert c; decide +kernel) (by omega)
/-- The credit of a landing of the first exchange is one block. -/
theorem launch_R1 (c p : Dev nD) (h : p ∈ Ot c) : tallyOn (cell c (kR1 (c - p))) (launchCredit (Pipeline.owing fun d => OA d 1) 0 (cell c (kR1 (c - p)))) = (tallyAt (cell c (kR1 (c - p))) () N : CellTallies nD τ sig Unit) :=
  launch_cell c (kR1 (c - p)) (a := 0) (b := 1) (e := 0) (f := 0) (by revert c p; decide +kernel) (by revert c p; decide +kernel) (by revert c p; decide +kernel) (by revert c p; decide +kernel) (by omega)
/-- The credit of a landing of the second exchange is one block. -/
theorem launch_R2 (c p : Dev nD) (h : p ∈ Ot c) : tallyOn (cell c (kR2 p)) (launchCredit (Pipeline.owing fun d => OA d 1) 0 (cell c (kR2 p))) = (tallyAt (cell c (kR2 p)) () N : CellTallies nD τ sig Unit) :=
  launch_cell c (kR2 p) (a := 0) (b := 0) (e := 1) (f := 0) (by revert c p; decide +kernel) (by revert c p; decide +kernel) (by revert c p; decide +kernel) (by revert c p; decide +kernel) (by omega)

/-- The credit a device starts with. -/
def credits (c : Dev nD) : sProp 𝕄 := iprop(crd c kBar 7 ∗ crd c kSco 7 ∗ (bigSep (Ot c) fun p => crd c (kR1 (c - p)) N) ∗ bigSep (Ot c) fun p => crd c (kR2 p) N)

omit [FloatOps F] in
/-- The launch's credit contains what a device starts with. -/
theorem creds (c : Dev nD) : (Pipeline.launchCred (fun d => OA d 1) c : sProp 𝕄) ⊢ credits c := by
  unfold Pipeline.launchCred credits
  refine (bigSep_subset (Finset.subset_univ (Finset.univ.map (⟨csem, csem_injective⟩ : CK ↪ SemLoc sig)))).trans ?_
  rw [bigSep_map]
  show (bigSep Finset.univ fun k => (cred (tallyOn (cell c k) (launchCredit (Pipeline.owing fun d => OA d 1) 0 (cell c k))) : sProp 𝕄)) ⊢ _
  rw [ck_split, by_dn c fun d => (cred (tallyOn (cell c (kR1 d)) (launchCredit (Pipeline.owing fun d => OA d 1) 0 (cell c (kR1 d)))) : sProp 𝕄)]
  iintro ⟨H1, H2, -, -, ⟨-, H3⟩, -, H4⟩
  isplitl [H1]; · iapply (Entails.of_eq (congrArg cred (launch_bar c))); iexact H1
  isplitl [H2]; · iapply (Entails.of_eq (congrArg cred (launch_sco c))); iexact H2
  isplitl [H3]; · iapply (mono_on fun p hp => Entails.of_eq (congrArg cred (launch_R1 c p hp))); iexact H3
  ihave H4 := (to_Ot c fun d => (cred (tallyOn (cell c (kR2 d)) (launchCredit (Pipeline.owing fun d => OA d 1) 0 (cell c (kR2 d)))) : sProp 𝕄)) $$ H4
  iapply (mono_on fun p hp => Entails.of_eq (congrArg cred (launch_R2 c p hp))); iexact H4

end Cert.KernelIdeal.Net
-- ==== Proof.KI.Run.lean ====
/-
The launch around the body: the arrays in blocks and back, the cells closed, and every run of the program.
-/
module

public import proofs.«01_k».proof.Proof.KI.Body
public import proofs.«01_k».proof.Proof.KI.Deal
public import Idealize.ShloMosaic.Lib.MemrefSat
public import Idealize.ShloMosaic.Lib.Quiescent
public import Idealize.ShloMosaic.Lib.Pipeline.CollectiveSegs

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (Gd : Know F)

/-! ## The arrays in blocks -/

/-- Different column blocks are disjoint. -/
theorem col_disj (r r' : Dev nD) (h : r ≠ r') : Disjoint (colR r).set (colR r').set :=
  Rect.unit_disjoint 1 (by revert r r'; decide)
/-- Different slabs are disjoint. -/
theorem slab_disj (r r' : Dev nD) (h : r ≠ r') : Disjoint (slabR r).set (slabR r').set :=
  Rect.unit_disjoint 0 (by revert r r'; decide)

/-- The column blocks cover the array. -/
theorem col_cov : (Finset.univ : Finset (Dev nD)).biUnion (fun r => (colR r).set) = Finset.univ := by
  ext i
  simp only [Finset.mem_biUnion, Finset.mem_univ, true_and, iff_true]
  have h0 : (i 0 : ℕ) < 8192 := (i 0).isLt
  have h1 : (i 1 : ℕ) < 1024 := (i 1).isLt
  refine ⟨⟨(i 1 : ℕ) / 128, by show _ < 8; omega⟩, Rect.mem_set_unit.mpr fun a => ?_⟩
  fin_cases a
  · show 0 ≤ (i 0 : ℕ) ∧ (i 0 : ℕ) < 0 + 8192
    omega
  · show 128 * ((i 1 : ℕ) / 128) ≤ (i 1 : ℕ) ∧ (i 1 : ℕ) < 128 * ((i 1 : ℕ) / 128) + 128
    omega
/-- The slabs cover the scratch. -/
theorem slab_cov : (Finset.univ : Finset (Dev nD)).biUnion (fun r => (slabR r).set) = Finset.univ := by
  ext i
  simp only [Finset.mem_biUnion, Finset.mem_univ, true_and, iff_true]
  have h0 : (i 0 : ℕ) < 65536 := (i 0).isLt
  have h1 : (i 1 : ℕ) < 128 := (i 1).isLt
  refine ⟨⟨(i 0 : ℕ) / 8192, by show _ < 8; omega⟩, Rect.mem_set_unit.mpr fun a => ?_⟩
  fin_cases a
  · show 8192 * ((i 0 : ℕ) / 8192) ≤ (i 0 : ℕ) ∧ (i 0 : ℕ) < 8192 * ((i 0 : ℕ) / 8192) + 8192
    omega
  · show 0 ≤ (i 1 : ℕ) ∧ (i 1 : ℕ) < 0 + 128
    omega

abbrev xPt (c : Dev nD) : sProp 𝕄 := ((c : Thread nD τ).loc main_arg0) ↦{fullShare} m ((c : Thread nD τ).loc main_arg0)

omit [FloatOps F] in
/-- The argument, cut in its column blocks. -/
theorem x_split (c : Dev nD) : xPt m c ⊢ bigSep Finset.univ fun r => xO c r (xblk m c r) := by
  refine (Entails.of_eq (owns_whole (c : Thread nD τ) main_arg0 fullShare (m ((c : Thread nD τ).loc main_arg0))).symm).trans ?_
  exact owns_rects (c : Thread nD τ) xW fullShare colR (fun _ _ => rfl) col_disj col_cov _
omit [FloatOps F] in
/-- The argument, put together from its column blocks. -/
theorem x_join [∀ e, Nonempty (Elt F e)] (c : Dev nD) : (bigSep Finset.univ fun r => xO c r (xblk m c r)) ⊢ xPt m c := by
  refine BI.Entails.trans ?_ (Entails.of_eq (owns_whole (c : Thread nD τ) main_arg0 fullShare (m ((c : Thread nD τ).loc main_arg0))))
  exact owns_of_rects (c : Thread nD τ) xW fullShare colR (fun _ _ => rfl) col_disj col_cov _
omit [FloatOps F] in
/-- The result's array, cut in its column blocks. -/
theorem o_split (c : Dev nD) (f : Buf (Elt F) ((c : Thread nD τ).loc main_v1)) : ((((c : Thread nD τ).loc main_v1) ↦{fullShare} f : sProp 𝕄)) ⊢ bigSep Finset.univ fun r => oAny c r := by
  refine (Entails.of_eq (owns_whole (c : Thread nD τ) main_v1 fullShare f).symm).trans ?_
  refine (owns_rects (c : Thread nD τ) oW fullShare colR (fun _ _ => rfl) col_disj col_cov _).trans (bigSep_mono fun r _ => ?_)
  show _ ⊢ oAny c r
  unfold oAny oO
  iintro H
  iexists _
  iexact H
omit [FloatOps F] in
/-- The scratch, cut in its slabs. -/
theorem a_split (c : Dev nD) (f : Buf (Elt F) ((c : Thread nD τ).loc cc0_scratch0)) : ((((c : Thread nD τ).loc cc0_scratch0) ↦{fullShare} f : sProp 𝕄)) ⊢ bigSep Finset.univ fun r => aAny c r := by
  refine (Entails.of_eq (owns_whole (c : Thread nD τ) cc0_scratch0 fullShare f).symm).trans ?_
  refine (owns_rects (c : Thread nD τ) aW fullShare slabR (fun _ _ => rfl) slab_disj slab_cov _).trans (bigSep_mono fun r _ => ?_)
  show _ ⊢ aAny c r
  unfold aAny aO
  iintro H
  iexists _
  iexact H

/-- What the result array is known to hold at the end. -/
def Fin1 (c : Dev nD) (g : S8192x1024.Idx → Elt F .bf16) : Prop := ∀ r : Dev nD, Gd nAll r c fun j => g ((colR r).emb j)

omit [FloatOps F] in
/-- The result, put together from its blocks, with what is known of each. -/
theorem o_join [∀ e, Nonempty (Elt F e)] (c : Dev nD) : (bigSep Finset.univ fun r => oG Gd c r)
    ⊢ iprop(∃ g : Buf (Elt F) ((c : Thread nD τ).loc main_v1), ⌜Fin1 Gd c g⌝ ∗ ((c : Thread nD τ).loc main_v1) ↦{fullShare} g) := by
  refine (mono_on (Ψ := fun r => ownsSat (c : Thread nD τ) (oM r) fullShare (fun v => Gd nAll r c v)) fun r _ => ?_).trans
    ((ownsSat_of_rects (c : Thread nD τ) oW fullShare colR (fun _ _ => rfl) col_disj col_cov fun r v => Gd nAll r c v).trans ((ownsSat_elim _ _ _ _).trans ?_))
  · unfold oG oO
    iintro ⟨%v, %h, H⟩
    iapply (ownsSat_intro (c : Thread nD τ) (oM r) fullShare (X := v) h)
    iexact H
  · show iprop(∃ X, ⌜∀ r : Dev nD, Gd nAll r c fun j => X ((colR r).emb j)⌝ ∗ owns (c : Thread nD τ) oW fullShare X) ⊢ _
    iintro ⟨%X, %hX, H⟩
    iexists X
    isplitr; · ipureintro; exact hX
    iapply (Entails.of_eq (owns_whole (c : Thread nD τ) main_v1 fullShare X)); iexact H
omit [FloatOps F] in
/-- The scratch, put together from its slabs. -/
theorem a_join [∀ e, Nonempty (Elt F e)] (c : Dev nD) : (bigSep Finset.univ fun r => aAny c r)
    ⊢ (iprop(∃ g : Buf (Elt F) ((c : Thread nD τ).loc cc0_scratch0), ((c : Thread nD τ).loc cc0_scratch0) ↦{fullShare} g) : sProp 𝕄) := by
  refine (mono_on (Ψ := fun r => ownsSat (c : Thread nD τ) (aM r) fullShare (fun v => True)) fun r _ => ?_).trans
    ((ownsSat_of_rects (c : Thread nD τ) aW fullShare slabR (fun _ _ => rfl) slab_disj slab_cov fun r v => True).trans ((ownsSat_elim _ _ _ _).trans ?_))
  · unfold aAny aO
    iintro ⟨%v, H⟩
    iapply (ownsSat_intro (c : Thread nD τ) (aM r) fullShare (X := v) trivial)
    iexact H
  · show iprop(∃ X, ⌜∀ r : Dev nD, True⌝ ∗ owns (c : Thread nD τ) aW fullShare X) ⊢ _
    iintro ⟨%X, -, H⟩
    iexists X
    iapply (Entails.of_eq (owns_whole (c : Thread nD τ) cc0_scratch0 fullShare X)); iexact H

/-! ## The cells closed -/

/-- A cell all of whose rounds are behind it. -/
def past (c : Dev nD) (k : CK) : sProp 𝕄 := iprop(∃ R, ⌜∀ r, R ≤ r → dut c r k = ∅⌝ ∗ pos c k R)

omit [FloatOps F] in
/-- A cell is done once no later round has a duty. -/
theorem past_mk (c : Dev nD) (k : CK) (R : ℕ) (h : ∀ r, R ≤ r → dut c r k = ∅) : (pos c k R : sProp 𝕄) ⊢ past c k := by
  unfold past
  iintro H
  iexists R
  isplitr; · ipureintro; exact h
  iexact H
omit [FloatOps F] in
/-- A cell is done at its last round. -/
theorem past_last (c : Dev nD) (k : CK) (R : ℕ) (h : lastR k ≤ R) : (pos c k R : sProp 𝕄) ⊢ past c k :=
  past_mk c k R fun r hr => dut_later c k r (Nat.le_trans h hr)

variable (K : Dev nD × CK → ℕ)

omit [FloatOps F] in
/-- The counter of a cell that is done is zero. -/
theorem close1 (c : Dev nD) (k : CK) : iprop(Pers m Gd K ∗ past c k) ⊢ |={Set.univ}=> semVal (cell c k) 0 := by
  unfold past
  iintro ⟨#HP, %R, %hR, H⟩
  iapply (cell_close ER (Rd m Gd) (Set.mem_univ (K (c, k))) (fun h => h) (R := R) (fun r hr => by rw [duties_cell]; exact hR r hr))
  isplitr; · iapply (Pers_inv m Gd K c k); iexact HP
  iexact H

omit [FloatOps F] in
/-- The counters of all the cells of a device are zero once all are done. -/
theorem close_all (c : Dev nD) : iprop(Pers m Gd K ∗ bigSep Finset.univ fun k : CK => past c k) ⊢ |={Set.univ}=> bigSep Finset.univ fun k : CK => semVal (cell c k) 0 :=
  (bigSep_with_pers fun k _ => close1 m Gd K c k).trans (bigSep_fupd _ _)

/-- The positions of the cells that no one ever signals. -/
def spare (c : Dev nD) : sProp 𝕄 := iprop(pos c (kS1 (c - c)) 0 ∗ pos c (kR1 (c - c)) 0 ∗ pos c (kS2 c) 0 ∗ pos c (kR2 c) 0)

/-- A device's cell for an exchange with itself has no duties. -/
theorem dut_spare1 (c : Dev nD) (r : ℕ) : dut c r (kS1 (c - c)) = ∅ := by
  rw [show c - c = 0 by revert c; decide]
  exact if_neg fun h => h.2 rfl
/-- A device's cell for an exchange with itself has no duties. -/
theorem dut_spare2 (c : Dev nD) (r : ℕ) : dut c r (kR1 (c - c)) = ∅ := by
  rw [show c - c = 0 by revert c; decide]
  exact if_neg fun h => h.2 rfl
/-- A device's cell for an exchange with itself has no duties. -/
theorem dut_spare3 (c : Dev nD) (r : ℕ) : dut c r (kS2 c) = ∅ := if_neg fun h => h.2 rfl
/-- A device's cell for an exchange with itself has no duties. -/
theorem dut_spare4 (c : Dev nD) (r : ℕ) : dut c r (kR2 c) = ∅ := if_neg fun h => h.2 rfl

omit [FloatOps F] in
/-- At the end every cell of a device is done. -/
theorem past_all (c : Dev nD) : iprop(spare c ∗ pos c kBar 1 ∗ pos c kSco 1 ∗ pos c kLoc 2 ∗ (bigSep (Ot c) fun p => pos c (kS1 (p - c)) 1)
    ∗ (bigSep (Ot c) fun p => pos c (kR1 (c - p)) 1) ∗ (bigSep (Ot c) fun p => pos c (kS2 p) 1) ∗ bigSep (Ot c) fun p => pos c (kR2 p) 1)
    ⊢ (bigSep Finset.univ fun k : CK => past c k : sProp 𝕄) := by
  rw [ck_split, by_up c fun d => (past c (kS1 d) : sProp 𝕄), by_dn c fun d => (past c (kR1 d) : sProp 𝕄),
    take c (Finset.mem_univ c) rfl fun d => (past c (kS2 d) : sProp 𝕄), take c (Finset.mem_univ c) rfl fun d => (past c (kR2 d) : sProp 𝕄)]
  unfold spare
  iintro ⟨⟨G1, G2, G3, G4⟩, H1, H2, H3, H4, H5, H6, H7⟩
  isplitl [H1]; · iapply (past_last c kBar 1 (by decide)); iexact H1
  isplitl [H2]; · iapply (past_last c kSco 1 (by decide)); iexact H2
  isplitl [H3]; · iapply (past_last c kLoc 2 (by decide)); iexact H3
  isplitl [G1 H4]
  · isplitl [G1]; · iapply (past_mk c _ 0 fun r _ => dut_spare1 c r); iexact G1
    iapply (mono_on fun p _ => past_last c (kS1 (p - c)) 1 (Nat.le_refl 1)); iexact H4
  isplitl [G2 H5]
  · isplitl [G2]; · iapply (past_mk c _ 0 fun r _ => dut_spare2 c r); iexact G2
    iapply (mono_on fun p _ => past_last c (kR1 (c - p)) 1 (Nat.le_refl 1)); iexact H5
  isplitl [G3 H6]
  · isplitl [G3]; · iapply (past_mk c _ 0 fun r _ => dut_spare3 c r); iexact G3
    iapply (mono_on fun p _ => past_last c (kS2 p) 1 (Nat.le_refl 1)); iexact H6
  isplitl [G4]; · iapply (past_mk c _ 0 fun r _ => dut_spare4 c r); iexact G4
  iapply (mono_on fun p _ => past_last c (kR2 p) 1 (Nat.le_refl 1)); iexact H7

/-! ## In and out of the body -/

/-- What a device starts with besides the scratch. -/
def start (c : Dev nD) : sProp 𝕄 :=
  iprop((∃ K, Pers m Gd K ∗ linear c) ∗ credits c ∗ (bigSep Finset.univ fun r => xO c r (xblk m c r)) ∗ bigSep Finset.univ fun r => oAny c r)
def Φ₀ (c : Dev nD) : sProp 𝕄 := iprop(start m Gd c ∗ bigSep Finset.univ fun r => aAny c r)
/-- What it ends with. -/
def Φ₁ (c : Dev nD) : sProp 𝕄 :=
  iprop((bigSep Finset.univ fun k : CK => semVal (cell c k) 0) ∗ xPt m c
    ∗ (∃ g : Buf (Elt F) ((c : Thread nD τ).loc main_v1), ⌜Fin1 Gd c g⌝ ∗ ((c : Thread nD τ).loc main_v1) ↦{fullShare} g)
    ∗ ∃ f : Buf (Elt F) ((c : Thread nD τ).loc cc0_scratch0), ((c : Thread nD τ).loc cc0_scratch0) ↦{fullShare} f)

omit [FloatOps F] in
/-- What a device starts with for each of the others, put together from its kinds. -/
theorem pre_join (c : Dev nD) : iprop((bigSep (Ot c) fun p => tok p kBar 0 c) ∗ (bigSep (Ot c) fun p => aAny c p) ∗ (bigSep (Ot c) fun p => oAny c p)
    ∗ (bigSep (Ot c) fun p => tok c (kS1 (p - c)) 0 0) ∗ (bigSep (Ot c) fun p => tok p (kR1 (p - c)) 0 0) ∗ (bigSep (Ot c) fun p => xO c p (xblk m c p))
    ∗ (bigSep (Ot c) fun p => pos c (kS1 (p - c)) 0) ∗ (bigSep (Ot c) fun p => pos c (kR1 (c - p)) 0) ∗ (bigSep (Ot c) fun p => crd c (kR1 (c - p)) N)
    ∗ (bigSep (Ot c) fun p => tok c (kS2 p) 0 0) ∗ (bigSep (Ot c) fun p => tok p (kR2 c) 0 0) ∗ (bigSep (Ot c) fun p => pos c (kS2 p) 0) ∗ (bigSep (Ot c) fun p => pos c (kR2 p) 0)
    ∗ (bigSep (Ot c) fun p => crd c (kR2 p) N) ∗ (bigSep (Ot c) fun p => tok p kSco 0 c)) ⊢ bigSep (Ot c) (pre1 m c) := by
  unfold pre1 pBar
  simp only [bigSep_sep']
  rw [sep_assoc3, sep_assoc3]

omit [FloatOps F] in
/-- What a device starts with, put together from the launch. -/
theorem pre_mk (c : Dev nD) : iprop(Pers m Gd K ∗ linear c ∗ credits c ∗ (bigSep Finset.univ fun r => xO c r (xblk m c r)) ∗ (bigSep Finset.univ fun r => oAny c r)
    ∗ (bigSep Finset.univ fun r => aAny c r) ∗ oweE c (OA c 1)) ⊢ iprop(Pre m Gd K c ∗ spare c) := by
  unfold linear payToks credits Pre spare
  rw [ck_split, by_up c fun d => (pos c (kS1 d) 0 : sProp 𝕄), by_dn c fun d => (pos c (kR1 d) 0 : sProp 𝕄),
    take c (Finset.mem_univ c) rfl fun d => (pos c (kS2 d) 0 : sProp 𝕄), take c (Finset.mem_univ c) rfl fun d => (pos c (kR2 d) 0 : sProp 𝕄),
    take c (Finset.mem_univ c) rfl fun r => (xO c r (xblk m c r) : sProp 𝕄), take c (Finset.mem_univ c) rfl fun r => (oAny c r : sProp 𝕄),
    take c (Finset.mem_univ c) rfl fun r => (aAny c r : sProp 𝕄)]
  iintro ⟨HP, ⟨⟨P1, P2, P3, ⟨S4, P4⟩, ⟨S5, P5⟩, ⟨S6, P6⟩, S7, P7⟩, T1, T2, ⟨T3, T3'⟩, T4, T5, T6, T7⟩, ⟨C1, C2, C3, C4⟩, ⟨Hx, Hxs⟩, ⟨Ho, Hos⟩, ⟨Ha, Has⟩, HO⟩
  isplitr [S4 S5 S6 S7]
  · isplitl [HP]; · iexact HP
    isplitl [HO]; · iexact HO
    isplitl [C1 P1]
    · isplitl [C1]; · iexact C1
      iexact P1
    isplitl [C2 P2]
    · isplitl [C2]; · iexact C2
      iexact P2
    isplitl [P3 T3 T3']
    · isplitl [P3]; · iexact P3
      isplitl [T3]; · iexact T3
      iexact T3'
    isplitl [Hx Ha Ho]
    · isplitl [Hx]; · iexact Hx
      isplitl [Ha]; · iexact Ha
      iexact Ho
    iapply (pre_join m c)
    isplitl [T1]; · iexact T1
    isplitl [Has]; · iexact Has
    isplitl [Hos]; · iexact Hos
    isplitl [T4]; · iexact T4
    isplitl [T5]; · iexact T5
    isplitl [Hxs]; · iexact Hxs
    isplitl [P4]; · iexact P4
    isplitl [P5]; · iexact P5
    isplitl [C3]; · iexact C3
    isplitl [T6]; · iexact T6
    isplitl [T7]; · iexact T7
    isplitl [P6]; · iexact P6
    isplitl [P7]; · iexact P7
    isplitl [C4]; · iexact C4
    iexact T2
  · isplitl [S4]; · iexact S4
    isplitl [S5]; · iexact S5
    isplitl [S6]; · iexact S6
    iexact S7

/-- From what a device ends with to whole arrays and zero counters. -/
theorem post_out [∀ e, Nonempty (Elt F e)] (c : Dev nD) : iprop(Pers m Gd K ∗ spare c ∗ Post m Gd c) ⊢ |={Set.univ}=> iprop(Φ₁ m Gd c ∗ oweE c 0) := by
  unfold Post post1 Φ₁
  simp only [bigSep_sep']
  iintro ⟨#HP, HS, HO, P1, P2, P3, ⟨Hx, Ho, Ha⟩, ⟨P4, Hxs⟩, P5, ⟨P6, Has⟩, P7, Hos⟩
  ihave Hpast := (past_all (F := F) c) $$ [HS P1 P2 P3 P4 P5 P6 P7]
  · isplitl [HS]; · iexact HS
    isplitl [P1]; · iexact P1
    isplitl [P2]; · iexact P2
    isplitl [P3]; · iexact P3
    isplitl [P4]; · iexact P4
    isplitl [P5]; · iexact P5
    isplitl [P6]; · iexact P6
    iexact P7
  imod (close_all m Gd K c) $$ [Hpast] with Hz
  · isplitr; · iexact HP
    iexact Hpast
  imodintro
  isplitr [HO]
  · isplitl [Hz]; · iexact Hz
    isplitl [Hx Hxs]
    · iapply (x_join m c)
      iapply (Entails.of_eq (take c (Finset.mem_univ c) rfl fun r => (xO c r (xblk m c r) : sProp 𝕄)).symm)
      isplitl [Hx]; · iexact Hx
      iexact Hxs
    isplitl [Ho Hos]
    · iapply (o_join Gd c)
      iapply (Entails.of_eq (take c (Finset.mem_univ c) rfl fun r => (oG Gd c r : sProp 𝕄)).symm)
      isplitl [Ho]; · iexact Ho
      iexact Hos
    iapply (a_join (F := F) c)
    iapply (Entails.of_eq (take c (Finset.mem_univ c) rfl fun r => (aAny c r : sProp 𝕄)).symm)
    isplitl [Ha]; · iexact Ha
    iexact Has
  iexact HO

/-! ## The launch -/

def s₀ : MemSt nD τ sig (Elt F) := ⟨m, fun _ => 0, ρ⟩

def dats (_ : Fin 1) (c : Dev nD) : Dat τ (Elt F) Unit ℕ UU ℕ cfg0 c where
  A w := (show Fin 0 from w).elim0
  after w _ := (show Fin 0 from w).elim0
  Φ t := match t with
    | ⟨0, _⟩ => Φ₀ m Gd c
    | ⟨_ + 1, _⟩ => Φ₁ m Gd c
  q _ := fullShare
  owed t := match t with
    | ⟨0, _⟩ => OA c 1
    | ⟨_ + 1, _⟩ => 0

variable (H : Laws m Gd)

omit [FloatOps F] in
/-- What the launch says a device owes at first. -/
theorem owesAt_in (c : Dev nD) : ((dats m Gd 0 c).owesAt () t0_0.castSucc : sProp 𝕄) ⊢ oweE c (OA c 1) := by
  unfold Pipeline.Dat.owesAt Pipeline.owesWithin oweE
  iintro ⟨%W, -, HO⟩
  iexists W
  iexact HO
omit [FloatOps F] in
/-- A device that owes nothing has paid what the launch asks. -/
theorem owesAt_out (c : Dev nD) : oweE c 0 ⊢ ((dats m Gd 0 c).owesAt () t0_0.succ : sProp 𝕄) := by
  unfold Pipeline.Dat.owesAt Pipeline.owesWithin oweE
  iintro ⟨%W, HO⟩
  iexists W
  isplitr; · ipureintro; exact fun _ _ => Or.inl trivial
  iexact HO

include H in
set_option maxRecDepth 4000 in
/-- The launch's demand on the body. -/
theorem body_obligation [∀ e, Nonempty (Elt F e)] (c : Dev nD) : BodyObligation (dats (F := F) m Gd 0 c) (defs₀ (F := F)) 𝒱₀ () Set.univ := fun t => by
  rw [fin_N0 t]
  show iprop(Φ₀ m Gd c ∗ (dats m Gd 0 c).owesAt () t0_0.castSucc ∗ emp) ⊢ WP c (cc0_body (F := F) xW (Memref.isWhole_whole _) oW (Memref.isWhole_whole _) aW (Memref.isWhole_whole _) cc0_scratch1 cc0_scratch2 cc0_scratch3 cc0_scratch4 cc0_scratch5 cc0_scoped0) (fun _ => iprop(Φ₁ m Gd c ∗ (dats m Gd 0 c).owesAt () t0_0.succ ∗ emp))
  unfold Φ₀ start
  iintro ⟨⟨⟨⟨%K, #HP, Hl⟩, Hc, Hx, Ho⟩, Ha⟩, HO, -⟩
  ihave HO := (owesAt_in m Gd c) $$ HO
  ihave HH := (pre_mk m Gd K c) $$ [Hl Hc Hx Ho Ha HO]
  · isplitr; · iexact HP
    isplitl [Hl]; · iexact Hl
    isplitl [Hc]; · iexact Hc
    isplitl [Hx]; · iexact Hx
    isplitl [Ho]; · iexact Ho
    isplitl [Ha]; · iexact Ha
    iexact HO
  icases HH with ⟨HH, HS⟩
  iapply (body_wp m Gd K H c) $$ HH
  iintro Hpost
  imod (post_out m Gd K c) $$ [HS Hpost] with ⟨H1, HO⟩
  · isplitr; · iexact HP
    isplitl [HS]; · iexact HS
    iexact Hpost
  imodintro
  isplitl [H1]; · iexact H1
  isplitl [HO]; · iapply (owesAt_out m Gd c); iexact HO
  iempintro

omit [FloatOps F] in
/-- A device's start, from what the launch hands out. -/
theorem start_intro (c : Dev nD) :
    iprop(Pipeline.unscopedRestP Pipeline.Prefetch.none cfg0.spec c (fun b => m ((c : Thread nD τ).loc b)) ∗ levAts L lv
        ∗ Pipeline.launchCred (fun d => OA d 1) c ∗ prngReg c (ρ c) ∗ G' m Gd c)
      ⊢ |={Set.univ}=> iprop(start m Gd c ∗ emp) := by
  rw [Pipeline.unscopedRestP_none, unscopedRest0_eq]
  iintro ⟨⟨Hx, Ho⟩, Hlev, Hcr, -, HG⟩
  ihave Hc := (creds (F := F) c) $$ Hcr
  ihave Hx := (x_split m c) $$ Hx
  ihave Ho := (o_split c _) $$ Ho
  imodintro
  unfold start G'
  isplitl
  · isplitl [HG Hlev]
    · icases HG with ⟨%K, HR, HL⟩
      iexists K
      isplitl [HR Hlev]
      · unfold Pers
        isplitl [HR] <;> iassumption
      iexact HL
    isplitl [Hc]; · iexact Hc
    isplitl [Hx]; · iexact Hx
    iexact Ho
  · iempintro

omit [FloatOps F] in
/-- The start with the scratch. -/
theorem phi0_intro (c : Dev nD) :
    iprop(start m Gd c ∗ Pipeline.prefHeld Pipeline.Prefetch.none c (fun _ => fullShare.right) (fun k => k.elim0) ∗ Pipeline.scopedRest cfg0.spec c)
      ⊢ (dats m Gd 0 c).Φ 0 := by
  rw [show (dats m Gd 0 c).Φ 0 = Φ₀ m Gd c from rfl, scopedRest0_eq]
  unfold Φ₀
  iintro ⟨Hs, -, ⟨%f, Hr⟩⟩
  isplitl [Hs]; · iexact Hs
  iapply (a_split c f); iexact Hr

/-- What the last point leaves the certificate: the barrier's counter and the two arrays. -/
def Y (c : Dev nD) : sProp 𝕄 :=
  iprop(unscopedSems0 c ∗ xPt m c ∗ ∃ g : Buf (Elt F) ((c : Thread nD τ).loc main_v1), ⌜Fin1 Gd c g⌝ ∗ ((c : Thread nD τ).loc main_v1) ↦{fullShare} g)

omit [FloatOps F] in
/-- The end, as the launch takes it back. -/
theorem phi1_exit (c : Dev nD) :
    (dats m Gd 0 c).Φ (Fin.last cfg0.N) ⊢ iprop(Y m Gd c ∗ Pipeline.ownSems0 osem c ∗ Pipeline.scopedRest cfg0.spec c) := by
  rw [show (dats m Gd 0 c).Φ (Fin.last cfg0.N) = Φ₁ m Gd c from rfl, scopedRest0_eq]
  unfold Φ₁ Y
  rw [sems0_eq]
  iintro ⟨⟨Hu, Hs⟩, Hx, Ho, Hf⟩
  isplitl [Hu Hx Ho]
  · isplitl [Hu]; · iexact Hu
    isplitl [Hx]; · iexact Hx
    iexact Ho
  isplitl [Hs]; · iexact Hs
  iexact Hf

/-- What is read of a device's memory at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ Fin1 Gd c (s.mem ((c : Thread nD τ).loc main_v1))

omit [FloatOps F] in
/-- At the end the memory may be read. -/
theorem read_end (c : Dev nD) (s' : Phys nD τ sig (Elt F)) : iprop(Y m Gd c ∗ emp ∗ SI s') ⊢ |={Set.univ}=> iprop(⌜QY m Gd c s'.mem⌝ ∗ SI s') := by
  unfold Y
  iintro ⟨⟨Hu, Hx, ⟨%g, %hg, Ho⟩⟩, -, HSI⟩
  ihave %h1 := (SI_pointsTo_agree (st := s') (I := Finset.univ) (f := m ((c : Thread nD τ).loc main_arg0)) (q := fullShare)) $$ [HSI Hx]
  · isplitl [HSI] <;> iassumption
  ihave %h2 := (SI_pointsTo_agree (st := s') (I := Finset.univ) (f := g) (q := fullShare)) $$ [HSI Ho]
  · isplitl [HSI] <;> iassumption
  imod (Pipeline.unscopedSems0_read (X := unscopedSems0 c) (c := c) fupd_intro s') $$ [Hu HSI] with ⟨%h0, HSI⟩
  · isplitl [Hu] <;> iassumption
  imodintro
  isplitr
  · ipureintro
    refine ⟨h0, funext fun i => h1 i (Finset.mem_univ i), ?_⟩
    rw [show s'.mem.mem ((c : Thread nD τ).loc main_v1) = g from funext fun i => h2 i (Finset.mem_univ i)]
    exact hg
  iexact HSI

omit [FloatOps F] in
/-- The launch's own cells may be waited on. -/
theorem waits (c : Dev nD) : (levAts L lv : sProp 𝕄) ⊢ Pipeline.cellsWaits cfgs (dats m Gd) () 0 c :=
  Pipeline.cellsWaits_intro cfgs (dats m Gd) () 0 c fun w => (show Fin 0 from w).elim0

include H in
set_option maxRecDepth 8000 in
/-- On eight devices, from any memory with zero counters: every fair run of the program ends, with each device's argument unchanged, every
    counter at zero, and of each block of the results what the stages say of it. -/
theorem run_main [∀ e, Nonempty (Elt F e)] : θ_run defs (onTc (τ := τ) (main (F := F))) (s₀ m ρ)
    (fun r => (∀ c : Dev nD, r.2.mem ((c : Thread nD τ).loc main_arg0) = m ((c : Thread nD τ).loc main_arg0) ∧ Fin1 Gd c (r.2.mem ((c : Thread nD τ).loc main_v1)))
      ∧ r.2.sem = fun _ => 0) :=
  Pipeline.θ_run_region_owing_glob_pf (fun p => (cfgs p).toPCfg) (fun p => (cfgs p).toPCfg_adm) (dats m Gd) () cellOf_inj (0 : Fin 1)
    winFacts0.to₀ ownSemFacts (Pipeline.PreFacts.none _) EP defs₀ 𝒱₀ m ρ main
    (hmain := fun _ => rfl)
    (hbody := body_obligation m Gd H) (hne := fun w => (show Fin 0 from w).elim0) (harr := arr_whole0) (hstage := stage_whole0)
    (hshare := fun _ w => (show Fin 0 from w).elim0) (hdistinct := winFacts0.arr_inj)
    (O₀ := fun c => OA c 1) (howed₀ := fun _ => rfl) (howedN := fun _ => rfl)
    (L := L) (lv := lv) (hL := L_of_ne) (hwaits := waits m Gd)
    (G := G m Gd) (G' := G' m Gd) (u₀ := u₀)
    (hu₀ := by
      unfold u₀
      iintro Hu
      ihave H := (ownU_pair _ _) $$ Hu
      icases H with ⟨HP, HX⟩
      imod (fund_cells m Gd) $$ HX with HG
      imodintro
      isplitl [HP] <;> iassumption)
    (hglob := glob m Gd)
    (hA := fun _ w => (show Fin 0 from w).elim0) (hpf := fun _ k => k.elim0)
    (X := start m Gd) (Y := Y m Gd) (Z := fun _ => iprop(emp))
    (hX := start_intro m ρ Gd) (hin := phi0_intro m Gd) (hout := phi1_exit m Gd)
    (QY := QY m Gd) (hY := read_end m Gd)
    (hQ := fun _ h hs => ⟨fun c => (h c).2.2.2, sem_eq_zero hs fun c => (h c).2.2.1⟩)

end Cert.KernelIdeal.Net
-- ==== Proof.V.Net.lean ====
/-
The sorting network of one column, stage by stage: after how many stages a column has which contents, and that all of them
leave it sorted.
-/
module

public import proofs.«01_k».proof.Proof.KI.Loops
public import Idealize.ShloMosaic.Lib.Pointwise
public import Idealize.ShloMosaic.Lib.SortNet.Sorts
public import Idealize.ShloMosaic.Lib.SortNet.Printed

@[expose] public section

noncomputable section

namespace Cert.KernelIdeal.Net

open Cert.KernelIdeal Cert.KernelIdeal.Gen

open Idealize.ShloMosaic Idealize.SL.Sem Idealize.ShloMosaic.TcCoe Idealize.ShloMosaic.SortNet

/-- A column of the whole array. -/
abbrev Col : Type := Fin (2 ^ 16) → EReal

/-- The stages in order: level `l` compares the rows that differ in bit `s`, for `s` from `l` down. -/
def lev : List (ℕ × ℕ) := (List.range 16).flatMap fun l => (List.range (l + 1)).reverse.map fun s => (l, s)

/-- One stage as a network: ascending where bit `l + 1` of the row is clear. -/
def stg (q : ℕ × ℕ) : Network (2 ^ 16) := stage 16 q.2 fun i => (decide (i.val &&& 2 ^ (q.1 + 1) = 0)) == false

/-- A column after the first `n` stages. -/
def pre (n : ℕ) (v : Col) : Col := Network.apply ((lev.take n).flatMap stg) v

/-- There are 136 stages. -/
theorem lev_length : lev.length = 136 := by decide +kernel

/-- Stage `tri l + t` is the `t`-th of level `l`. -/
theorem lev_get : ∀ l : Fin 16, ∀ t : Fin 16, t.val ≤ l.val → lev[tri l.val + t.val]? = some (l.val, l.val - t.val) := by decide +kernel

/-- Before any stage the column is unchanged. -/
theorem pre_zero (v : Col) : pre 0 v = v := rfl

/-- One stage more. -/
theorem pre_succ (l t : ℕ) (hl : l < 16) (ht : t ≤ l) (v : Col) :
    pre (tri l + t + 1) v = Network.apply (stg (l, l - t)) (pre (tri l + t) v) := by
  have h := lev_get ⟨l, hl⟩ ⟨t, by omega⟩ ht
  unfold pre
  rw [List.take_add_one, h, List.flatMap_append, Network.apply_append]
  simp [Network.apply_append]

/-- All the stages, one after another, are the bitonic sort. -/
theorem lev_flatMap : lev.flatMap stg = sortNet 16 false := by
  unfold lev sortNet
  rw [List.flatMap_assoc]
  refine congrArg (fun f => (List.range 16).flatMap f) (funext fun l => ?_)
  rw [List.flatMap_map]
  rfl

/-- All the stages are the library's sorting network. -/
theorem pre_all (v : Col) : pre 136 v = Network.apply (sortNet 16 false) v := by
  unfold pre
  rw [List.take_of_length_le (le_of_eq lev_length), lev_flatMap]

/-- A column after all the stages is sorted, and is the column in another order. -/
theorem pre_sorted (v : Col) : Monotone (pre 136 v) ∧ ∃ σ : Equiv.Perm (Fin (2 ^ 16)), pre 136 v = v ∘ σ := by
  rw [pre_all]
  exact ⟨sortNet_apply_monotone 16 v, Network.exists_perm _ v⟩

/-- A stage at a row: the lesser of the row and its partner where the level's bit agrees with the stage's, else the greater. -/
theorem stg_apply {l s : ℕ} (hl : l < 16) (hs : s ≤ l) (v : Col) (i : Fin (2 ^ 16)) :
    Network.apply (stg (l, s)) v i
      = if i.val.testBit (l + 1) = i.val.testBit s then min (v i) (v (partner 16 s i)) else max (v i) (v (partner 16 s i)) := by
  have hs' : s < 16 := by omega
  unfold stg
  by_cases hi : i.val &&& 2 ^ s = 0
  · rw [(apply_stage hs' _ v i hi).1]
    have hb : i.val.testBit s = false := (and_two_pow_eq_zero_iff_testBit _ _).mp hi
    rw [hb]
    by_cases hk : i.val &&& 2 ^ (l + 1) = 0
    · have hb' := (and_two_pow_eq_zero_iff_testBit _ _).mp hk
      simp only [hb', hk]; simp
    · have hb' : i.val.testBit (l + 1) = true := by
        rw [← Bool.not_eq_false]; exact fun h => hk ((and_two_pow_eq_zero_iff_testBit _ _).mpr h)
      simp only [hb', hk]; simp
  · have hp := partner_and_of_set hs' i hi
    have e := (apply_stage hs' (fun i => (decide (i.val &&& 2 ^ (l + 1) = 0)) == false) v (partner 16 s i) hp).2
    rw [partner_partner hs'] at e
    rw [e]
    have hb : i.val.testBit s = true := by
      rw [← Bool.not_eq_false]; exact fun h => hi ((and_two_pow_eq_zero_iff_testBit _ _).mpr h)
    have hpk : (partner 16 s i).val.testBit (l + 1) = i.val.testBit (l + 1) := by
      rw [partner_val hs', Nat.testBit_xor, Nat.testBit_two_pow_of_ne (by omega)]; simp
    rw [hb]
    by_cases hk : i.val.testBit (l + 1) = false
    · have hk' := (and_two_pow_eq_zero_iff_testBit _ _).mpr (hpk.trans hk)
      simp only [hk, hk']; simp [max_comm]
    · have hk1 : i.val.testBit (l + 1) = true := by simpa using hk
      have hk' : ¬ (partner 16 s i).val &&& 2 ^ (l + 1) = 0 := fun h => hk (hpk.symm.trans ((and_two_pow_eq_zero_iff_testBit _ _).mp h))
      simp only [hk1, hk']; simp [min_comm]

/-! ## Slabs -/

/-- Row `r` of slab `s` as a row of the column. -/
def rowOf (s : Dev nD) (r : Fin 8192) : Fin (2 ^ 16) :=
  ⟨8192 * s.val + r.val, by have h1 : s.val < 8 := s.isLt; have h2 := r.isLt; have h3 : (2 : ℕ) ^ 16 = 65536 := by decide
                            omega⟩

/-- The number of a row of a slab. -/
theorem rowOf_val (s : Dev nD) (r : Fin 8192) : (rowOf s r).val = 8192 * s.val + r.val := rfl

/-- The row of a slab that a stage compares with row `r`: the one that differs in bit `s`. -/
def par (s : ℕ) (r : Fin 8192) : Fin 8192 :=
  ⟨(if r.val.testBit s then r.val - 2 ^ s else r.val + 2 ^ s) % 8192, Nat.mod_lt _ (by decide)⟩

/-- The partner of a clear row, within the slab. -/
theorem clear_lt {s : ℕ} (hs : s < 13) {r : ℕ} (hr : r < 8192) (h : r.testBit s = false) : r + 2 ^ s < 8192 := by
  have hx := xor_two_pow_of_clear r s ((and_two_pow_eq_zero_iff_testBit _ _).mpr h)
  have := Nat.xor_lt_two_pow (n := 13) (show r < 2 ^ 13 from hr) (Nat.pow_lt_pow_right (a := 2) (by decide) hs)
  rw [hx] at this
  exact this

/-- The bits of a row of a slab below the slab's number are the row's own. -/
theorem rowOf_low (S : Dev nD) (r : Fin 8192) {i : ℕ} (hi : i < 13) : (rowOf S r).val.testBit i = r.val.testBit i := by
  have hr : r.val < 2 ^ 13 := r.isLt
  rw [rowOf_val, show 8192 * S.val = 2 ^ 13 * S.val from rfl, Nat.testBit_two_pow_mul_add _ hr, if_pos hi]

/-- The bits above are the slab's number's. -/
theorem rowOf_high (S : Dev nD) (r : Fin 8192) {i : ℕ} (hi : 13 ≤ i) : (rowOf S r).val.testBit i = S.val.testBit (i - 13) := by
  have hr : r.val < 2 ^ 13 := r.isLt
  rw [rowOf_val, show 8192 * S.val = 2 ^ 13 * S.val from rfl, Nat.testBit_two_pow_mul_add _ hr, if_neg (by omega)]

/-- Within a slab the column's partner is the slab's. -/
theorem partner_rowOf (S : Dev nD) (r : Fin 8192) {s : ℕ} (hs : s < 13) : partner 16 s (rowOf S r) = rowOf S (par s r) := by
  apply Fin.ext
  have hb := rowOf_low S r hs
  have hr := r.isLt
  rw [rowOf_val]
  show _ = 8192 * S.val + (if r.val.testBit s then r.val - 2 ^ s else r.val + 2 ^ s) % 8192
  cases h : r.val.testBit s
  · rw [h] at hb
    rw [partner_val_of_clear (by omega) _ ((and_two_pow_eq_zero_iff_testBit _ _).mpr hb), rowOf_val, if_neg (by simp),
      Nat.mod_eq_of_lt (clear_lt hs hr h)]
    omega
  · rw [h] at hb
    have hn : ¬ (rowOf S r).val &&& 2 ^ s = 0 := fun e => by rw [(and_two_pow_eq_zero_iff_testBit _ _).mp e] at hb; exact absurd hb (by simp)
    have hge := Nat.ge_two_pow_of_testBit h
    rw [(partner_val_of_set (by omega) _ hn).2, rowOf_val, if_pos rfl, Nat.mod_eq_of_lt (lt_of_le_of_lt (Nat.sub_le _ _) hr)]
    omega

/-- One stage on a slab that holds the rows from `b`. -/
def ce (l s b : ℕ) (v : Blk Ideal) : Blk Ideal := fun j =>
  if (b + (j 0).val).testBit (l + 1) = (j 0).val.testBit s then min (v j) (v (ix2 (par s (j 0)) (j 1)))
  else max (v j) (v (ix2 (par s (j 0)) (j 1)))

variable (m : (ℓ : Loc nD τ sig) → Buf (Elt Ideal) ℓ)

/-- Column `a` of the columns that device `c` sorts. -/
def colOf (c : Dev nD) (a : Fin 128) : Col := fun i =>
  xblk m ⟨i.val / 8192, show i.val / 8192 < 8 by have := i.isLt; omega⟩ c (ix2 (⟨i.val % 8192, Nat.mod_lt _ (by decide)⟩ : Fin 8192) a)

/-- What slab `s` of device `c` holds after `n` stages. -/
def GdV : Know Ideal := fun n c s v => ∀ (r : Fin 8192) (a : Fin 128), v (ix2 r a) = pre n (colOf m c a) (rowOf s r)

/-- A slab that has landed has had no stage. -/
theorem gd_land (c s : Dev nD) : GdV m 0 c s (xblk m s c) := by
  intro r a
  rw [pre_zero]
  unfold colOf
  have h := rowOf_val s r
  have hr := r.isLt
  have e1 : (rowOf s r).val / 8192 = s.val := by rw [h]; omega
  have e2 : (rowOf s r).val % 8192 = r.val := by rw [h]; omega
  simp only [e1, e2]

/-- A stage inside a slab. -/
theorem gd_ce (n l s : ℕ) (c S : Dev nD) (hl : l < 16) (hs : s ≤ l) (hs13 : s < 13) (hn : n = tri l + (l - s)) (v : Blk Ideal)
    (h : GdV m n c S v) : GdV m (n + 1) c S (ce l s (8192 * S.val) v) := by
  intro r a
  subst hn
  rw [pre_succ l (l - s) hl (by omega), show l - (l - s) = s from by omega, stg_apply hl hs]
  rw [partner_rowOf S r hs13, rowOf_low S r hs13, ← h r a, ← h (par s r) a, rowOf_val]
  rfl

/-- A stage between two slabs whose numbers differ in bit `q`: the lesser to the lower slab where the level's bit of its rows is clear. -/
theorem gd_pair (n l q : ℕ) (c L H : Dev nD) (hl : l < 16) (hs : q + 13 ≤ l) (hn : n = tri l + (l - (q + 13)))
    (hLH : H.val = L.val + 2 ^ q) (hq : L.val.testBit q = false) (v w v' w' : Blk Ideal) (hv : GdV m n c L v) (hw : GdV m n c H w)
    (hv' : ∀ r a, v' (ix2 r a) = if (8192 * L.val).testBit (l + 1) = false then min (v (ix2 r a)) (w (ix2 r a)) else max (v (ix2 r a)) (w (ix2 r a)))
    (hw' : ∀ r a, w' (ix2 r a) = if (8192 * L.val).testBit (l + 1) = false then max (v (ix2 r a)) (w (ix2 r a)) else min (v (ix2 r a)) (w (ix2 r a))) :
    GdV m (n + 1) c L v' ∧ GdV m (n + 1) c H w' := by
  subst hn
  have h0 : (8192 * L.val).testBit (l + 1) = L.val.testBit (l + 1 - 13) := by
    have := rowOf_high L ⟨0, by decide⟩ (i := l + 1) (by omega)
    rwa [rowOf_val] at this
  have hx : L.val ^^^ 2 ^ q = H.val := by
    rw [hLH]; exact xor_two_pow_of_clear _ _ ((and_two_pow_eq_zero_iff_testBit _ _).mpr hq)
  have hHb : ∀ i, i ≠ q → H.val.testBit i = L.val.testBit i := fun i hi => by
    rw [← hx, Nat.testBit_xor, Nat.testBit_two_pow_of_ne (by omega)]; simp
  have hHq : H.val.testBit q = true := by rw [← hx, Nat.testBit_xor, hq, Nat.testBit_two_pow_self]; rfl
  have hval : ∀ (S : Dev nD) (r : Fin 8192), (partner 16 (q + 13) (rowOf S r)).val = 8192 * (S.val ^^^ 2 ^ q) + r.val := fun S r => by
    rw [partner_val (by omega), rowOf_val]
    apply Nat.eq_of_testBit_eq
    intro i
    have hr : r.val < 2 ^ 13 := r.isLt
    rw [Nat.testBit_xor, show 8192 * S.val = 2 ^ 13 * S.val from rfl, show 8192 * (S.val ^^^ 2 ^ q) = 2 ^ 13 * (S.val ^^^ 2 ^ q) from rfl,
      Nat.testBit_two_pow_mul_add _ hr, Nat.testBit_two_pow_mul_add _ hr, Nat.testBit_two_pow]
    by_cases hi : i < 13
    · rw [if_pos hi, if_pos hi, decide_eq_false (by omega)]; simp
    · rw [if_neg hi, if_neg hi, Nat.testBit_xor, Nat.testBit_two_pow]
      congr 1
      exact decide_eq_decide.mpr (by omega)
  have hpL : ∀ r : Fin 8192, partner 16 (q + 13) (rowOf L r) = rowOf H r := fun r => Fin.ext (by rw [hval, hx, rowOf_val])
  have hpH : ∀ r : Fin 8192, partner 16 (q + 13) (rowOf H r) = rowOf L r := fun r => by
    rw [← hpL, partner_partner (by omega)]
  constructor
  · intro r a
    rw [pre_succ l (l - (q + 13)) hl (by omega), show l - (l - (q + 13)) = q + 13 from by omega, stg_apply hl hs, hpL, ← hv r a, ← hw r a, hv' r a,
      rowOf_high L r (by omega), rowOf_high L r (by omega), show q + 13 - 13 = q from by omega, hq, h0]
  · intro r a
    rw [pre_succ l (l - (q + 13)) hl (by omega), show l - (l - (q + 13)) = q + 13 from by omega, stg_apply hl hs, hpH, ← hv r a, ← hw r a, hw' r a,
      rowOf_high H r (by omega), rowOf_high H r (by omega), show q + 13 - 13 = q from by omega, hHq, h0, hHb _ (by omega)]
    cases L.val.testBit (l + 1 - 13) <;> simp [max_comm, min_comm]

end Cert.KernelIdeal.Net
-- ==== Proof.V.Stages.lean ====
/-
The printed stages inside one slab, each as one function of the slab, and what each makes of an index: the lesser or the greater
of a row and its partner.
-/
module

public import proofs.«01_k».proof.Proof.V.Net

@[expose] public section

noncomputable section

namespace Cert.KernelIdeal.Net

open Cert.KernelIdeal Cert.KernelIdeal.Gen

open Idealize.ShloMosaic Idealize.SL.Sem Idealize.ShloMosaic.TcCoe Idealize.ShloMosaic.SortNet

/-- The rows at distance 16 compared, as blocks of 32 rows taken apart: `b` is the first row, `k` the level's bit. -/
def rs16 (b k : BitVec 32) (v : Blk Ideal) : Blk Ideal :=
  let x : FVec Ideal S256x2x16x128 .bf16 := shapeCast S256x2x16x128 v shapeCasts_S8192x128_S256x2x16x128
  let lo : FVec Ideal S256x16x128 .bf16 := shapeCast S256x16x128 (extractStridedSlice S256x1x16x128 ![0, 0, 0, 0] x slices_S256x2x16x128_o0_0_0_0_S256x1x16x128) shapeCasts_S256x1x16x128_S256x16x128
  let hi : FVec Ideal S256x16x128 .bf16 := shapeCast S256x16x128 (extractStridedSlice S256x1x16x128 ![0, 1, 0, 0] x slices_S256x2x16x128_o0_1_0_0_S256x1x16x128) shapeCasts_S256x1x16x128_S256x16x128
  let rows : IVec S256x1x1 32 := addi (broadcast S256x1x1 b) (muli (iota .tc S256x1x1 32 [0] iota_S256x1x1_d0_w32) (broadcast S256x1x1 32#32))
  let asc : IVec S256x1x1 1 := cmpi .eq (andi rows (broadcast S256x1x1 k)) (broadcast S256x1x1 0#32)
  let up : IVec S256x16x128 1 := broadcastTo S256x16x128 (shapeCast S256x1x1 asc shapeCasts_S256x1x1_S256x1x1) broadcasts_S256x1x1_S256x16x128
  let a : FVec Ideal S256x1x16x128 .bf16 := shapeCast S256x1x16x128 (select up (minimumf lo hi) (maximumf lo hi)) shapeCasts_S256x16x128_S256x1x16x128
  let d : FVec Ideal S256x1x16x128 .bf16 := shapeCast S256x1x16x128 (select up (maximumf lo hi) (minimumf lo hi)) shapeCasts_S256x16x128_S256x1x16x128
  shapeCast S8192x128 (concatenate S256x2x16x128 1 [⟨S256x1x16x128, a⟩, ⟨S256x1x16x128, d⟩] concatenates_S256x1x16x128_S256x1x16x128_S256x2x16x128_d1) shapeCasts_S256x2x16x128_S8192x128

/-- The rows at distance 8 compared, as blocks of 16 rows taken apart: `b` is the first row, `k` the level's bit. -/
def rs8 (b k : BitVec 32) (v : Blk Ideal) : Blk Ideal :=
  let x : FVec Ideal S512x2x8x128 .bf16 := shapeCast S512x2x8x128 v shapeCasts_S8192x128_S512x2x8x128
  let lo : FVec Ideal S512x8x128 .bf16 := shapeCast S512x8x128 (extractStridedSlice S512x1x8x128 ![0, 0, 0, 0] x slices_S512x2x8x128_o0_0_0_0_S512x1x8x128) shapeCasts_S512x1x8x128_S512x8x128
  let hi : FVec Ideal S512x8x128 .bf16 := shapeCast S512x8x128 (extractStridedSlice S512x1x8x128 ![0, 1, 0, 0] x slices_S512x2x8x128_o0_1_0_0_S512x1x8x128) shapeCasts_S512x1x8x128_S512x8x128
  let rows : IVec S512x1x1 32 := addi (broadcast S512x1x1 b) (muli (iota .tc S512x1x1 32 [0] iota_S512x1x1_d0_w32) (broadcast S512x1x1 16#32))
  let asc : IVec S512x1x1 1 := cmpi .eq (andi rows (broadcast S512x1x1 k)) (broadcast S512x1x1 0#32)
  let up : IVec S512x8x128 1 := broadcastTo S512x8x128 (shapeCast S512x1x1 asc shapeCasts_S512x1x1_S512x1x1) broadcasts_S512x1x1_S512x8x128
  let a : FVec Ideal S512x1x8x128 .bf16 := shapeCast S512x1x8x128 (select up (minimumf lo hi) (maximumf lo hi)) shapeCasts_S512x8x128_S512x1x8x128
  let d : FVec Ideal S512x1x8x128 .bf16 := shapeCast S512x1x8x128 (select up (maximumf lo hi) (minimumf lo hi)) shapeCasts_S512x8x128_S512x1x8x128
  shapeCast S8192x128 (concatenate S512x2x8x128 1 [⟨S512x1x8x128, a⟩, ⟨S512x1x8x128, d⟩] concatenates_S512x1x8x128_S512x1x8x128_S512x2x8x128_d1) shapeCasts_S512x2x8x128_S8192x128

/-- Where the rows' numbers have the bits of `k` clear: `b` is the first row's number. -/
def clr (b k : BitVec 32) : IVec S8192x1 1 :=
  cmpi .eq (andi (addi (broadcast S8192x1 b) (iota .tc S8192x1 32 [0] iota_S8192x1_d0_w32)) (broadcast S8192x1 k)) (broadcast S8192x1 0#32)

/-- A column of bits along the lanes. -/
def lanes (x : IVec S8192x1 1) : IVec S8192x128 1 := broadcastTo S8192x128 (shapeCast S8192x1 x shapeCasts_S8192x1_S8192x1) broadcasts_S8192x1_S8192x128

/-- The lesser of a slab and its partner where the level's bit agrees with the stage's, else the greater. -/
def cex (b k w : BitVec 32) (v q : Blk Ideal) : Blk Ideal :=
  select (lanes (xori (xori (clr b w) (clr b k)) (constantI S8192x1 1 1#1))) (minimumf (F := Ideal) (φ := .bf16) v q) (maximumf (F := Ideal) (φ := .bf16) v q)

/-- The even and the odd rows turned by `d` pairs. -/
def rot (d : BitVec 32) (v : Blk Ideal) : Blk Ideal :=
  interleaveRows S8192x128 (dynamicRotate 0 d none (rowsOfParity 0 S4096x128 v bitcasts_S8192x128_w16_S4096x128_w32) rotates_S4096x128_d0)
    (dynamicRotate 0 d none (rowsOfParity 1 S4096x128 v bitcasts_S8192x128_w16_S4096x128_w32) rotates_S4096x128_d0) bitcasts_S8192x128_w16_S4096x128_w32

/-- The rows at a distance of two pairs. -/
def far4 (b : BitVec 32) (v : Blk Ideal) : Blk Ideal := select (lanes (clr b 4#32)) (rot 4094#32 v) (rot 2#32 v)

/-- The rows at a distance of one pair. -/
def far2 (b : BitVec 32) (v : Blk Ideal) : Blk Ideal := select (lanes (clr b 2#32)) (rot 4095#32 v) (rot 1#32 v)

/-- The rows of each pair exchanged. -/
def swp (v : Blk Ideal) : Blk Ideal :=
  interleaveRows S8192x128 (rowsOfParity 1 S4096x128 v bitcasts_S8192x128_w16_S4096x128_w32) (rowsOfParity 0 S4096x128 v bitcasts_S8192x128_w16_S4096x128_w32) bitcasts_S8192x128_w16_S4096x128_w32

/-- The stages of distance four, two and one. -/
def wd4 (b k : BitVec 32) (v : Blk Ideal) : Blk Ideal := cex b k 4#32 v (far4 b v)
def wd2 (b k : BitVec 32) (v : Blk Ideal) : Blk Ideal := cex b k 2#32 v (far2 b v)
def wd1 (b k : BitVec 32) (v : Blk Ideal) : Blk Ideal := cex b k 1#32 v (swp v)

/-- A stage that runs only where the level's bit is at least `t`. -/
def gate (k t : BitVec 32) (x v : Blk Ideal) : Blk Ideal := Scalar.select (Scalar.cmpi .sge k t) x v

/-- A slab read at its own shape. -/
theorem cast_self (v : Blk Ideal) : shapeCast S8192x128 v shapeCasts_S8192x128_S8192x128 = v := by
  funext j
  pointwise

/-! ## The printed stages are these -/

/-- The stages of distance sixteen and eight. -/
theorem pay1_eq (b k : BitVec 32) (v : Blk Ideal) : k0_pay1 b k v = rs8 b k (rs16 b k v) := rfl
/-- The even rows after the stages of distance sixteen and eight. -/
theorem pay2_eq (b k : BitVec 32) (v : Blk Ideal) :
    k0_pay2 b k v = rowsOfParity 0 S4096x128 (rs8 b k (rs16 b k v)) bitcasts_S8192x128_w16_S4096x128_w32 := rfl
/-- The stage of distance four. -/
theorem pay3_eq (b k : BitVec 32) (v : Blk Ideal) :
    k0_pay3 (F := Ideal) b k v (rowsOfParity 0 S4096x128 v bitcasts_S8192x128_w16_S4096x128_w32) = wd4 b k v := rfl
/-- The partners at distance two after the stage of distance four. -/
theorem pay6_eq (b k : BitVec 32) (v : Blk Ideal) :
    k0_pay6 (F := Ideal) b k v (rowsOfParity 0 S4096x128 v bitcasts_S8192x128_w16_S4096x128_w32) = far2 b (wd4 b k v) := rfl
/-- The stages of distance two and one. -/
theorem pay54_eq (c : Dev nD) (t1 : Fin k0_t1_loop.trips) (t2 : Fin k0_t2_loop.trips) (v : Blk Ideal) :
    k0_pay54 (F := Ideal) (v2w c) t1 t2 v (k0_pay5 (baseW c t1)) (far2 (baseW c t1) v) (k0_pay7 (baseW c t1) (kW1 t2)) k0_pay8
      = shapeCast S8192x128 (wd1 (baseW c t1) (kW1 t2) (wd2 (baseW c t1) (kW1 t2) v)) shapeCasts_S8192x128_S8192x128 := rfl

/-- The last five stages of a level of the first loop. -/
theorem tailA_eq (c : Dev nD) (t1 : Fin k0_t1_loop.trips) (t2 : Fin k0_t2_loop.trips) (v : Blk Ideal) :
    tailA c t1 t2 (baseW c t1) (kW1 t2) v
      = wd1 (baseW c t1) (kW1 t2) (wd2 (baseW c t1) (kW1 t2) (wd4 (baseW c t1) (kW1 t2) (rs8 (baseW c t1) (kW1 t2) (rs16 (baseW c t1) (kW1 t2) v)))) := by
  unfold tailA
  rw [pay1_eq, pay2_eq, pay3_eq, pay6_eq, pay54_eq, cast_self]

/-- The gated stage of distance sixteen. -/
theorem pay9_eq (b k : BitVec 32) (v : Blk Ideal) : k0_pay9 (F := Ideal) b k v = gate k 32#32 (rs16 b k v) v := rfl
/-- The gated stages of distance eight and four. -/
theorem pay18_eq (b k : BitVec 32) (v : Blk Ideal) : k0_pay18 b k (k0_pay9 b k v) (k0_pay16 b k v) (k0_pay17 b k v)
    = gate k 8#32 (wd4 b k (gate k 16#32 (rs8 b k (k0_pay9 b k v)) (k0_pay9 b k v))) (gate k 16#32 (rs8 b k (k0_pay9 b k v)) (k0_pay9 b k v)) := rfl
/-- The even rows after the gated stages of distance eight and four. -/
theorem pay19_eq (b k : BitVec 32) (x : Blk Ideal) (p q : FVec Ideal S512x1x8x128 .bf16) : k0_pay19 b k x p q
    = rowsOfParity 0 S4096x128 (k0_pay18 b k x p q) bitcasts_S8192x128_w16_S4096x128_w32 := rfl
/-- The odd rows after the gated stages of distance eight and four. -/
theorem pay20_eq (b k : BitVec 32) (x : Blk Ideal) (p q : FVec Ideal S512x1x8x128 .bf16) : k0_pay20 b k x p q
    = rowsOfParity 1 S4096x128 (k0_pay18 b k x p q) bitcasts_S8192x128_w16_S4096x128_w32 := rfl
/-- The gated stages of distance two and one. -/
theorem pay25_eq (b k : BitVec 32) (x : Blk Ideal) (p q : FVec Ideal S512x1x8x128 .bf16) :
    k0_pay25 (F := Ideal) b k (k0_pay18 b k x p q) (k0_pay20 b k x p q) (k0_pay21 b) (k0_pay22 b) (k0_pay23 b k x p q) 1#32 (k0_pay24 b k x p q)
      = shapeCast S8192x128 (gate k 2#32 (wd1 b k (gate k 4#32 (wd2 b k (k0_pay18 b k x p q)) (k0_pay18 b k x p q))) (gate k 4#32 (wd2 b k (k0_pay18 b k x p q)) (k0_pay18 b k x p q))) shapeCasts_S8192x128_S8192x128 := rfl

/-- The gated stages, one by one. -/
def gl16 (b k : BitVec 32) (v : Blk Ideal) : Blk Ideal := gate k 32#32 (rs16 b k v) v
def gl8 (b k : BitVec 32) (v : Blk Ideal) : Blk Ideal := gate k 16#32 (rs8 b k v) v
def gl4 (b k : BitVec 32) (v : Blk Ideal) : Blk Ideal := gate k 8#32 (wd4 b k v) v
def gl2 (b k : BitVec 32) (v : Blk Ideal) : Blk Ideal := gate k 4#32 (wd2 b k v) v
def gl1 (b k : BitVec 32) (v : Blk Ideal) : Blk Ideal := gate k 2#32 (wd1 b k v) v

/-- The last five stages of a level of the first loop, gated. -/
theorem tailB_eq (b k : BitVec 32) (v : Blk Ideal) : tailB b k v = gl1 b k (gl2 b k (gl4 b k (gl8 b k (gl16 b k v)))) := by
  unfold tailB
  rw [pay25_eq, cast_self, pay18_eq, pay9_eq]
  unfold gl1 gl2 gl4 gl8 gl16
  rfl

/-- The stages of distance sixteen, eight and four. -/
theorem pay34_eq (t12 : Fin k0_t12_loop.trips) (k : BitVec 32) (v : Blk Ideal) :
    k0_pay34 k (baseW12 t12) (k0_pay32 k 0#32 1#32 t12 v) (k0_pay33 k 0#32 1#32 t12 v)
      = wd4 (baseW12 t12) k (rs8 (baseW12 t12) k (rs16 (baseW12 t12) k v)) := rfl
/-- The partners at distance two after the stages of distance sixteen, eight and four. -/
theorem pay37_eq (b k : BitVec 32) (p : FVec Ideal S512x8x128 .bf16) (q : FVec Ideal S512x1x8x128 .bf16) :
    k0_pay37 (F := Ideal) k b p q = far2 b (k0_pay34 k b p q) := rfl
/-- The stages of distance two and one. -/
theorem pay79_eq (t5 : Fin k0_t5_loop.trips) (b : BitVec 32) (v : Blk Ideal) :
    k0_pay79 (F := Ideal) t5 b v (k0_pay35 b) (k0_pay36 b) (far2 b v) = shapeCast S8192x128 (wd1 b (kW5 t5) (wd2 b (kW5 t5) v)) shapeCasts_S8192x128_S8192x128 := rfl

/-- The last five stages of a level of the second loop. -/
theorem tailC_eq (t5 : Fin k0_t5_loop.trips) (t12 : Fin k0_t12_loop.trips) (v : Blk Ideal) :
    tailC t5 t12 (kW5 t5) (baseW12 t12) v
      = wd1 (baseW12 t12) (kW5 t5) (wd2 (baseW12 t12) (kW5 t5) (wd4 (baseW12 t12) (kW5 t5) (rs8 (baseW12 t12) (kW5 t5) (rs16 (baseW12 t12) (kW5 t5) v)))) := by
  unfold tailC
  rw [pay37_eq, pay34_eq, pay79_eq, cast_self]

end Cert.KernelIdeal.Net
-- ==== Proof.V.Reads.lean ====
/-
Each printed stage inside one slab is the network's stage, at the level and the slab the trip stands for.
-/
module

public import proofs.«01_k».proof.Proof.V.Stages

@[expose] public section

noncomputable section

namespace Cert.KernelIdeal.Net

open Cert.KernelIdeal Cert.KernelIdeal.Gen

open Idealize.ShloMosaic Idealize.SL.Sem Idealize.ShloMosaic.TcCoe Idealize.ShloMosaic.SortNet

/-! ## Words -/

/-- A word of a number compared in one bit. -/
theorem clr_word (x L : ℕ) (hL : L < 32) :
    IntOp.cmpi .eq (IntOp.andi (BitVec.ofNat 32 x) (BitVec.ofNat 32 (2 ^ L))) 0#32 = BitVec.ofBool (!x.testBit L) := by
  show BitVec.ofBool (BitVec.ofNat 32 x &&& BitVec.ofNat 32 (2 ^ L) == 0#32) = _
  congr 1
  have hp : (2 : ℕ) ^ L < 2 ^ 32 := Nat.pow_lt_pow_right (by decide) hL
  have e : (x % 2 ^ 32).testBit L = x.testBit L := by rw [Nat.testBit_mod_two_pow]; simp [hL]
  have hz := and_two_pow_eq_zero_iff_testBit (x % 2 ^ 32) L
  rw [e] at hz
  have hw : (BitVec.ofNat 32 x &&& BitVec.ofNat 32 (2 ^ L) = 0#32) ↔ (x % 2 ^ 32) &&& 2 ^ L = 0 := by
    rw [← BitVec.toNat_inj, BitVec.toNat_and, BitVec.toNat_ofNat, BitVec.toNat_ofNat, Nat.mod_eq_of_lt hp]
    rfl
  rw [Bool.eq_iff_iff, beq_iff_eq, hw, hz]
  cases x.testBit L <;> simp

/-- The word of a row's number, the rows taken apart in blocks. -/
theorem row_word (B n D : ℕ) : IntOp.addi (BitVec.ofNat 32 B) (IntOp.muli (BitVec.ofNat 32 n) (BitVec.ofNat 32 D)) = BitVec.ofNat 32 (B + n * D) := by
  show BitVec.ofNat 32 B + BitVec.ofNat 32 n * BitVec.ofNat 32 D = _
  rw [← BitVec.ofNat_mul, ← BitVec.ofNat_add]

/-- The word of a row's number. -/
theorem row_word' (B n : ℕ) : IntOp.addi (BitVec.ofNat 32 B) (BitVec.ofNat 32 n) = BitVec.ofNat 32 (B + n) := by
  show BitVec.ofNat 32 B + BitVec.ofNat 32 n = _
  rw [← BitVec.ofNat_add]

/-- The bits above a block's are the block's number's. -/
theorem blk_testBit (x e i : ℕ) (h : e ≤ i) : (x / 2 ^ e * 2 ^ e).testBit i = x.testBit i := by
  rw [Nat.testBit_mul_two_pow, Nat.testBit_div_two_pow, decide_eq_true h]
  simp [Nat.sub_add_cancel h]

/-- The first row of a slab of the first loop, as a word. -/
theorem baseW_eq : ∀ (c : Dev nD) (t1 : Fin k0_t1_loop.trips), baseW c t1 = BitVec.ofNat 32 (8192 * (slabOf c t1).val) := by decide +kernel
/-- The size of a level of the first loop, as a word. -/
theorem kW1_eq : ∀ t2 : Fin k0_t2_loop.trips, kW1 t2 = BitVec.ofNat 32 (2 ^ (t2.val + 1)) := by decide +kernel
/-- The size of a level of the second loop, as a word. -/
theorem kW5_eq : ∀ t5 : Fin k0_t5_loop.trips, kW5 t5 = BitVec.ofNat 32 (2 ^ (t5.val + 13 + 1)) := by decide +kernel
/-- The first row of a slab of the last loop, as a word. -/
theorem baseW12_eq : ∀ t : Fin k0_t12_loop.trips, baseW12 t = BitVec.ofNat 32 (8192 * (slab12 t).val) := by decide +kernel
/-- The first row of a slab of the loop over all slabs, as a word. -/
theorem base8_eq : ∀ t : Fin k0_t8_loop.trips, Scalar.muli (Scf.iv 0#32 1#32 t) 8192#32 = BitVec.ofNat 32 (8192 * (slab8 t).val) := by decide +kernel

/-- The direction of a block, as the kernel computes it: `x` is the block's first row, `r` any row of it. -/
theorem dir_word {bw kw : BitVec 32} {B n D L x : ℕ} (hb : bw = BitVec.ofNat 32 B) (hk : kw = BitVec.ofNat 32 (2 ^ L)) (hL : L < 32)
    (hx : (B + n * D).testBit L = x.testBit L) :
    IntOp.cmpi .eq (IntOp.andi (IntOp.addi bw (IntOp.muli (BitVec.ofNat 32 n) (BitVec.ofNat 32 D))) kw) 0#32 = BitVec.ofBool (!x.testBit L) := by
  rw [hb, hk, row_word, clr_word _ _ hL, hx]

/-! ## The network's stage at an index -/

/-- The stage, given what it makes of the block's two rows in question. -/
theorem fin_rs {l s S : ℕ} (D : ℕ) (hD : D = 2 ^ s) (hs : s < 13) (v : Blk Ideal) (j : S8192x128.Idx) (c : BitVec 1)
    (hc : c = BitVec.ofBool (!(8192 * S + (j 0).val).testBit (l + 1))) (p0 p1 : Fin 8192)
    (h0 : (j 0).val / D % 2 < 1 → p0.val = (j 0).val ∧ p1.val = (j 0).val + D)
    (h1 : ¬ (j 0).val / D % 2 < 1 → p1.val = (j 0).val ∧ p0.val = (j 0).val - D) :
    (if h : (j 0).val / D % 2 < 1 then Scalar.select c (min (v (ix2 p0 (j 1))) (v (ix2 p1 (j 1)))) (max (v (ix2 p0 (j 1))) (v (ix2 p1 (j 1))))
      else Scalar.select c (max (v (ix2 p0 (j 1))) (v (ix2 p1 (j 1)))) (min (v (ix2 p0 (j 1))) (v (ix2 p1 (j 1)))))
      = ce l s (8192 * S) v j := by
  subst hD hc
  have hj : v j = v (ix2 (j 0) (j 1)) := congrArg v (eq_ix2 j)
  have hbit : (j 0).val.testBit s = decide ((j 0).val / 2 ^ s % 2 = 1) := Nat.testBit_eq_decide_div_mod_eq
  have hr : (j 0).val < 8192 := (j 0).isLt
  unfold ce
  rw [hj]
  by_cases h : (j 0).val / 2 ^ s % 2 < 1
  · have hb : (j 0).val.testBit s = false := by rw [hbit, decide_eq_false (by omega)]
    obtain ⟨e0, e1⟩ := h0 h
    have q0 : p0 = j 0 := Fin.ext e0
    have q1 : p1 = par s (j 0) := Fin.ext (by
      rw [e1]; show _ = (if (j 0).val.testBit s then _ else _) % 8192
      rw [hb, if_neg (by simp), Nat.mod_eq_of_lt (clear_lt hs hr hb)])
    rw [dif_pos h, q0, q1, hb]
    cases (8192 * S + (j 0).val).testBit (l + 1) <;> rfl
  · have hb : (j 0).val.testBit s = true := by rw [hbit, decide_eq_true (by omega)]
    obtain ⟨e0, e1⟩ := h1 h
    have q0 : p1 = j 0 := Fin.ext e0
    have q1 : p0 = par s (j 0) := Fin.ext (by
      rw [e1]; show _ = (if (j 0).val.testBit s then _ else _) % 8192
      rw [hb, if_pos rfl, Nat.mod_eq_of_lt (lt_of_le_of_lt (Nat.sub_le _ _) hr)])
    rw [dif_neg h, q0, q1, hb, max_comm, min_comm]
    cases (8192 * S + (j 0).val).testBit (l + 1) <;> rfl

/-- The stages by pairs of rows: the lesser where the two bits agree. -/
theorem cex_apply {l s S : ℕ} (hs : s < 13) (hl : l < 16) (k w : BitVec 32) (hk : k = BitVec.ofNat 32 (2 ^ (l + 1))) (hw : w = BitVec.ofNat 32 (2 ^ s))
    (v q : Blk Ideal) (hq : ∀ j : S8192x128.Idx, q j = v (ix2 (par s (j 0)) (j 1))) :
    cex (BitVec.ofNat 32 (8192 * S)) k w v q = ce l s (8192 * S) v := by
  funext j
  have hr : (j 0).val < 2 ^ 13 := (j 0).isLt
  have e : (8192 * S + (j 0).val).testBit s = (j 0).val.testBit s := by
    rw [show 8192 * S = 2 ^ 13 * S from rfl, Nat.testBit_two_pow_mul_add _ hr, if_pos hs]
  pointwise [cex, lanes, clr]
  rw [hk, hw, row_word', clr_word _ _ (by omega), clr_word _ _ (by omega), e, hq]
  unfold ce
  cases (8192 * S + (j 0).val).testBit (l + 1) <;> cases (j 0).val.testBit s <;> rfl

set_option maxRecDepth 100000 in
/-- Rows read at distance four downwards. -/
theorem rot4094_apply (v : Blk Ideal) (j : S8192x128.Idx) : rot 4094#32 v j
    = if (j 0).val % 2 = 0 then v (ix2 ⟨2 * (((j 0).val / 2 + 4096 - 4094) % 4096), by omega⟩ (j 1)) else v (ix2 ⟨2 * (((j 0).val / 2 + 4096 - 4094) % 4096) + 1, by omega⟩ (j 1)) := by
  pointwise [rot]
set_option maxRecDepth 100000 in
/-- Rows read at distance two downwards. -/
theorem rot4095_apply (v : Blk Ideal) (j : S8192x128.Idx) : rot 4095#32 v j
    = if (j 0).val % 2 = 0 then v (ix2 ⟨2 * (((j 0).val / 2 + 4096 - 4095) % 4096), by omega⟩ (j 1)) else v (ix2 ⟨2 * (((j 0).val / 2 + 4096 - 4095) % 4096) + 1, by omega⟩ (j 1)) := by
  pointwise [rot]
/-- Rows read at distance two upwards. -/
theorem rot1_apply (v : Blk Ideal) (j : S8192x128.Idx) : rot 1#32 v j
    = if (j 0).val % 2 = 0 then v (ix2 ⟨2 * (((j 0).val / 2 + 4096 - 1) % 4096), by omega⟩ (j 1)) else v (ix2 ⟨2 * (((j 0).val / 2 + 4096 - 1) % 4096) + 1, by omega⟩ (j 1)) := by
  pointwise [rot]
/-- Rows read at distance four upwards. -/
theorem rot2_apply (v : Blk Ideal) (j : S8192x128.Idx) : rot 2#32 v j
    = if (j 0).val % 2 = 0 then v (ix2 ⟨2 * (((j 0).val / 2 + 4096 - 2) % 4096), by omega⟩ (j 1)) else v (ix2 ⟨2 * (((j 0).val / 2 + 4096 - 2) % 4096) + 1, by omega⟩ (j 1)) := by
  pointwise [rot]

/-- A row read at the number of the partner. -/
theorem at_par {s : ℕ} (hs : s < 13) (v : Blk Ideal) (j : S8192x128.Idx) (p : Fin 8192)
    (h0 : (j 0).val / 2 ^ s % 2 = 0 → p.val = (j 0).val + 2 ^ s) (h1 : (j 0).val / 2 ^ s % 2 = 1 → p.val = (j 0).val - 2 ^ s) :
    v (ix2 p (j 1)) = v (ix2 (par s (j 0)) (j 1)) := by
  have hbit : (j 0).val.testBit s = decide ((j 0).val / 2 ^ s % 2 = 1) := Nat.testBit_eq_decide_div_mod_eq
  have hr : (j 0).val < 8192 := (j 0).isLt
  have hp : p = par s (j 0) := by
    apply Fin.ext
    show _ = (if (j 0).val.testBit s then _ else _) % 8192
    by_cases h : (j 0).val / 2 ^ s % 2 = 1
    · rw [hbit, decide_eq_true h, if_pos rfl, Nat.mod_eq_of_lt (lt_of_le_of_lt (Nat.sub_le _ _) hr), h1 h]
    · have hb : (j 0).val.testBit s = false := by rw [hbit, decide_eq_false h]
      rw [hb, if_neg (by simp), Nat.mod_eq_of_lt (clear_lt hs hr hb), h0 (by omega)]
  rw [hp]

/-- The partner at distance four. -/
theorem far4_apply (S : ℕ) (v : Blk Ideal) (j : S8192x128.Idx) : far4 (BitVec.ofNat 32 (8192 * S)) v j = v (ix2 (par 2 (j 0)) (j 1)) := by
  have hr : (j 0).val < 2 ^ 13 := (j 0).isLt
  have hr' : (j 0).val < 8192 := (j 0).isLt
  have e : (8192 * S + (j 0).val).testBit 2 = (j 0).val.testBit 2 := by
    rw [show 8192 * S = 2 ^ 13 * S from rfl, Nat.testBit_two_pow_mul_add _ hr, if_pos (by decide)]
  have hbit : (j 0).val.testBit 2 = decide ((j 0).val / 2 ^ 2 % 2 = 1) := Nat.testBit_eq_decide_div_mod_eq
  pointwise [far4, lanes, clr]
  rw [row_word', show 4#32 = BitVec.ofNat 32 (2 ^ 2) from rfl, clr_word _ _ (by decide), e, hbit, rot4094_apply, rot2_apply]
  by_cases h : (j 0).val / 2 ^ 2 % 2 = 1
  · rw [decide_eq_true h, select_ofBool, Bool.not_true, if_neg (by simp)]
    split <;> (refine at_par (s := 2) (by decide) v j _ (fun _ => ?_) (fun _ => ?_) <;> (dsimp only; omega))
  · rw [decide_eq_false h, select_ofBool, Bool.not_false, if_pos rfl]
    split <;> (refine at_par (s := 2) (by decide) v j _ (fun _ => ?_) (fun _ => ?_) <;> (dsimp only; omega))

/-- The partner at distance two. -/
theorem far2_apply (S : ℕ) (v : Blk Ideal) (j : S8192x128.Idx) : far2 (BitVec.ofNat 32 (8192 * S)) v j = v (ix2 (par 1 (j 0)) (j 1)) := by
  have hr : (j 0).val < 2 ^ 13 := (j 0).isLt
  have hr' : (j 0).val < 8192 := (j 0).isLt
  have e : (8192 * S + (j 0).val).testBit 1 = (j 0).val.testBit 1 := by
    rw [show 8192 * S = 2 ^ 13 * S from rfl, Nat.testBit_two_pow_mul_add _ hr, if_pos (by decide)]
  have hbit : (j 0).val.testBit 1 = decide ((j 0).val / 2 ^ 1 % 2 = 1) := Nat.testBit_eq_decide_div_mod_eq
  pointwise [far2, lanes, clr]
  rw [row_word', show 2#32 = BitVec.ofNat 32 (2 ^ 1) from rfl, clr_word _ _ (by decide), e, hbit, rot4095_apply, rot1_apply]
  by_cases h : (j 0).val / 2 ^ 1 % 2 = 1
  · rw [decide_eq_true h, select_ofBool, Bool.not_true, if_neg (by simp)]
    split <;> (refine at_par (s := 1) (by decide) v j _ (fun _ => ?_) (fun _ => ?_) <;> (dsimp only; omega))
  · rw [decide_eq_false h, select_ofBool, Bool.not_false, if_pos rfl]
    split <;> (refine at_par (s := 1) (by decide) v j _ (fun _ => ?_) (fun _ => ?_) <;> (dsimp only; omega))

/-- The partner at distance one. -/
theorem swp_apply (v : Blk Ideal) (j : S8192x128.Idx) : swp v j = v (ix2 (par 0 (j 0)) (j 1)) := by
  pointwise [swp]
  split <;> (refine at_par (s := 0) (by decide) v j _ (fun _ => ?_) (fun _ => ?_) <;> (dsimp only; omega))

section Tail

variable {l S : ℕ} (hl : l < 16) {b k : BitVec 32} (hb : b = BitVec.ofNat 32 (8192 * S)) (hk : k = BitVec.ofNat 32 (2 ^ (l + 1))) (v : Blk Ideal)
include hl hb hk

/-- The stage of distance four is the network's. -/
theorem wd4_eq : wd4 b k v = ce l 2 (8192 * S) v := by
  subst hb
  unfold wd4
  exact cex_apply (s := 2) (by decide) hl _ _ hk rfl _ _ (far4_apply S v)
/-- The stage of distance two is the network's. -/
theorem wd2_eq : wd2 b k v = ce l 1 (8192 * S) v := by
  subst hb
  unfold wd2
  exact cex_apply (s := 1) (by decide) hl _ _ hk rfl _ _ (far2_apply S v)
/-- The stage of distance one is the network's. -/
theorem wd1_eq : wd1 b k v = ce l 0 (8192 * S) v := by
  subst hb
  unfold wd1
  exact cex_apply (s := 0) (by decide) hl _ _ hk rfl _ _ (swp_apply v)
/-- The stage of distance sixteen is the network's. -/
theorem rs16_eq (hs : 4 ≤ l) : rs16 b k v = ce l 4 (8192 * S) v := by
  funext j
  pointwise [rs16]
  refine fin_rs (s := 4) 16 rfl (by decide) v j _ (dir_word hb hk (by omega) ?_) _ _ (fun h => ⟨?_, ?_⟩) (fun h => ⟨?_, ?_⟩)
  · rw [show 8192 * S + (j 0).val / 32 * 32 = (8192 * S + (j 0).val) / 2 ^ 5 * 2 ^ 5 by omega, blk_testBit _ _ _ (by omega)]
  all_goals (dsimp only; omega)
/-- The stage of distance eight is the network's. -/
theorem rs8_eq (hs : 3 ≤ l) : rs8 b k v = ce l 3 (8192 * S) v := by
  funext j
  pointwise [rs8]
  refine fin_rs (s := 3) 8 rfl (by decide) v j _ (dir_word hb hk (by omega) ?_) _ _ (fun h => ⟨?_, ?_⟩) (fun h => ⟨?_, ?_⟩)
  · rw [show 8192 * S + (j 0).val / 16 * 16 = (8192 * S + (j 0).val) / 2 ^ 4 * 2 ^ 4 by omega, blk_testBit _ _ _ (by omega)]
  all_goals (dsimp only; omega)

end Tail

/-! ## The stages taken apart in blocks -/

/-- The stage of distance 32 in the first loop. -/
theorem pay38_eq (c : Dev nD) (t1 : Fin k0_t1_loop.trips) (t2 : Fin k0_t2_loop.trips) (h : 5 ≤ t2.val) (v : Blk Ideal) :
    k0_pay38 (F := Ideal) (v2w c) t1 t2 v = ce t2.val 5 (8192 * (slabOf c t1).val) v := by
  have ht := lt_of_lt_of_eq t2.isLt trips2
  funext j
  pointwise [k0_pay38]
  refine fin_rs (s := 5) 32 rfl (by decide) v j _ (dir_word (baseW_eq c t1) (kW1_eq t2) (by omega) ?_) _ _ (fun h => ⟨?_, ?_⟩) (fun h => ⟨?_, ?_⟩)
  · rw [show 8192 * (slabOf c t1).val + (j 0).val / 64 * 64 = (8192 * (slabOf c t1).val + (j 0).val) / 2 ^ 6 * 2 ^ 6 by omega, blk_testBit _ _ _ (by omega)]
  all_goals (dsimp only; omega)

/-- The stage of distance 32 in the second loop. -/
theorem pay59_eq (t5 : Fin k0_t5_loop.trips) (t8 : Fin k0_t8_loop.trips) (v : Blk Ideal) :
    k0_pay59 (F := Ideal) t5 t8 v = ce (t5.val + 13) 5 (8192 * (slab8 t8).val) v := by
  have ht := lt_of_lt_of_eq t5.isLt trips5
  funext j
  pointwise [k0_pay59]
  refine fin_rs (s := 5) 32 rfl (by decide) v j _ (dir_word (base8_eq t8) (kW5_eq t5) (by omega) ?_) _ _ (fun h => ⟨?_, ?_⟩) (fun h => ⟨?_, ?_⟩)
  · rw [show 8192 * (slab8 t8).val + (j 0).val / 64 * 64 = (8192 * (slab8 t8).val + (j 0).val) / 2 ^ 6 * 2 ^ 6 by omega, blk_testBit _ _ _ (by omega)]
  all_goals (dsimp only; omega)

/-- The stage of distance 64 in the first loop. -/
theorem pay39_eq (c : Dev nD) (t1 : Fin k0_t1_loop.trips) (t2 : Fin k0_t2_loop.trips) (h : 6 ≤ t2.val) (v : Blk Ideal) :
    k0_pay39 (F := Ideal) (v2w c) t1 t2 v = ce t2.val 6 (8192 * (slabOf c t1).val) v := by
  have ht := lt_of_lt_of_eq t2.isLt trips2
  funext j
  pointwise [k0_pay39]
  refine fin_rs (s := 6) 64 rfl (by decide) v j _ (dir_word (baseW_eq c t1) (kW1_eq t2) (by omega) ?_) _ _ (fun h => ⟨?_, ?_⟩) (fun h => ⟨?_, ?_⟩)
  · rw [show 8192 * (slabOf c t1).val + (j 0).val / 128 * 128 = (8192 * (slabOf c t1).val + (j 0).val) / 2 ^ 7 * 2 ^ 7 by omega, blk_testBit _ _ _ (by omega)]
  all_goals (dsimp only; omega)

/-- The stage of distance 64 in the second loop. -/
theorem pay60_eq (t5 : Fin k0_t5_loop.trips) (t8 : Fin k0_t8_loop.trips) (v : Blk Ideal) :
    k0_pay60 (F := Ideal) t5 t8 v = ce (t5.val + 13) 6 (8192 * (slab8 t8).val) v := by
  have ht := lt_of_lt_of_eq t5.isLt trips5
  funext j
  pointwise [k0_pay60]
  refine fin_rs (s := 6) 64 rfl (by decide) v j _ (dir_word (base8_eq t8) (kW5_eq t5) (by omega) ?_) _ _ (fun h => ⟨?_, ?_⟩) (fun h => ⟨?_, ?_⟩)
  · rw [show 8192 * (slab8 t8).val + (j 0).val / 128 * 128 = (8192 * (slab8 t8).val + (j 0).val) / 2 ^ 7 * 2 ^ 7 by omega, blk_testBit _ _ _ (by omega)]
  all_goals (dsimp only; omega)

/-- The stage of distance 128 in the first loop. -/
theorem pay40_eq (c : Dev nD) (t1 : Fin k0_t1_loop.trips) (t2 : Fin k0_t2_loop.trips) (h : 7 ≤ t2.val) (v : Blk Ideal) :
    k0_pay40 (F := Ideal) (v2w c) t1 t2 v = ce t2.val 7 (8192 * (slabOf c t1).val) v := by
  have ht := lt_of_lt_of_eq t2.isLt trips2
  funext j
  pointwise [k0_pay40]
  refine fin_rs (s := 7) 128 rfl (by decide) v j _ (dir_word (baseW_eq c t1) (kW1_eq t2) (by omega) ?_) _ _ (fun h => ⟨?_, ?_⟩) (fun h => ⟨?_, ?_⟩)
  · rw [show 8192 * (slabOf c t1).val + (j 0).val / 256 * 256 = (8192 * (slabOf c t1).val + (j 0).val) / 2 ^ 8 * 2 ^ 8 by omega, blk_testBit _ _ _ (by omega)]
  all_goals (dsimp only; omega)

/-- The stage of distance 128 in the second loop. -/
theorem pay61_eq (t5 : Fin k0_t5_loop.trips) (t8 : Fin k0_t8_loop.trips) (v : Blk Ideal) :
    k0_pay61 (F := Ideal) t5 t8 v = ce (t5.val + 13) 7 (8192 * (slab8 t8).val) v := by
  have ht := lt_of_lt_of_eq t5.isLt trips5
  funext j
  pointwise [k0_pay61]
  refine fin_rs (s := 7) 128 rfl (by decide) v j _ (dir_word (base8_eq t8) (kW5_eq t5) (by omega) ?_) _ _ (fun h => ⟨?_, ?_⟩) (fun h => ⟨?_, ?_⟩)
  · rw [show 8192 * (slab8 t8).val + (j 0).val / 256 * 256 = (8192 * (slab8 t8).val + (j 0).val) / 2 ^ 8 * 2 ^ 8 by omega, blk_testBit _ _ _ (by omega)]
  all_goals (dsimp only; omega)

/-- The stage of distance 256 in the first loop. -/
theorem pay41_eq (c : Dev nD) (t1 : Fin k0_t1_loop.trips) (t2 : Fin k0_t2_loop.trips) (h : 8 ≤ t2.val) (v : Blk Ideal) :
    k0_pay41 (F := Ideal) (v2w c) t1 t2 v = ce t2.val 8 (8192 * (slabOf c t1).val) v := by
  have ht := lt_of_lt_of_eq t2.isLt trips2
  funext j
  pointwise [k0_pay41]
  refine fin_rs (s := 8) 256 rfl (by decide) v j _ (dir_word (baseW_eq c t1) (kW1_eq t2) (by omega) ?_) _ _ (fun h => ⟨?_, ?_⟩) (fun h => ⟨?_, ?_⟩)
  · rw [show 8192 * (slabOf c t1).val + (j 0).val / 512 * 512 = (8192 * (slabOf c t1).val + (j 0).val) / 2 ^ 9 * 2 ^ 9 by omega, blk_testBit _ _ _ (by omega)]
  all_goals (dsimp only; omega)

/-- The stage of distance 256 in the second loop. -/
theorem pay62_eq (t5 : Fin k0_t5_loop.trips) (t8 : Fin k0_t8_loop.trips) (v : Blk Ideal) :
    k0_pay62 (F := Ideal) t5 t8 v = ce (t5.val + 13) 8 (8192 * (slab8 t8).val) v := by
  have ht := lt_of_lt_of_eq t5.isLt trips5
  funext j
  pointwise [k0_pay62]
  refine fin_rs (s := 8) 256 rfl (by decide) v j _ (dir_word (base8_eq t8) (kW5_eq t5) (by omega) ?_) _ _ (fun h => ⟨?_, ?_⟩) (fun h => ⟨?_, ?_⟩)
  · rw [show 8192 * (slab8 t8).val + (j 0).val / 512 * 512 = (8192 * (slab8 t8).val + (j 0).val) / 2 ^ 9 * 2 ^ 9 by omega, blk_testBit _ _ _ (by omega)]
  all_goals (dsimp only; omega)

/-- The stage of distance 512 in the first loop. -/
theorem pay42_eq (c : Dev nD) (t1 : Fin k0_t1_loop.trips) (t2 : Fin k0_t2_loop.trips) (h : 9 ≤ t2.val) (v : Blk Ideal) :
    k0_pay42 (F := Ideal) (v2w c) t1 t2 v = ce t2.val 9 (8192 * (slabOf c t1).val) v := by
  have ht := lt_of_lt_of_eq t2.isLt trips2
  funext j
  pointwise [k0_pay42]
  refine fin_rs (s := 9) 512 rfl (by decide) v j _ (dir_word (baseW_eq c t1) (kW1_eq t2) (by omega) ?_) _ _ (fun h => ⟨?_, ?_⟩) (fun h => ⟨?_, ?_⟩)
  · rw [show 8192 * (slabOf c t1).val + (j 0).val / 1024 * 1024 = (8192 * (slabOf c t1).val + (j 0).val) / 2 ^ 10 * 2 ^ 10 by omega, blk_testBit _ _ _ (by omega)]
  all_goals (dsimp only; omega)

/-- The stage of distance 512 in the second loop. -/
theorem pay63_eq (t5 : Fin k0_t5_loop.trips) (t8 : Fin k0_t8_loop.trips) (v : Blk Ideal) :
    k0_pay63 (F := Ideal) t5 t8 v = ce (t5.val + 13) 9 (8192 * (slab8 t8).val) v := by
  have ht := lt_of_lt_of_eq t5.isLt trips5
  funext j
  pointwise [k0_pay63]
  refine fin_rs (s := 9) 512 rfl (by decide) v j _ (dir_word (base8_eq t8) (kW5_eq t5) (by omega) ?_) _ _ (fun h => ⟨?_, ?_⟩) (fun h => ⟨?_, ?_⟩)
  · rw [show 8192 * (slab8 t8).val + (j 0).val / 1024 * 1024 = (8192 * (slab8 t8).val + (j 0).val) / 2 ^ 10 * 2 ^ 10 by omega, blk_testBit _ _ _ (by omega)]
  all_goals (dsimp only; omega)

/-- The stage of distance 1024 in the first loop. -/
theorem pay43_eq (c : Dev nD) (t1 : Fin k0_t1_loop.trips) (t2 : Fin k0_t2_loop.trips) (h : 10 ≤ t2.val) (v : Blk Ideal) :
    k0_pay43 (F := Ideal) (v2w c) t1 t2 v = ce t2.val 10 (8192 * (slabOf c t1).val) v := by
  have ht := lt_of_lt_of_eq t2.isLt trips2
  funext j
  pointwise [k0_pay43]
  refine fin_rs (s := 10) 1024 rfl (by decide) v j _ (dir_word (baseW_eq c t1) (kW1_eq t2) (by omega) ?_) _ _ (fun h => ⟨?_, ?_⟩) (fun h => ⟨?_, ?_⟩)
  · rw [show 8192 * (slabOf c t1).val + (j 0).val / 2048 * 2048 = (8192 * (slabOf c t1).val + (j 0).val) / 2 ^ 11 * 2 ^ 11 by omega, blk_testBit _ _ _ (by omega)]
  all_goals (dsimp only; omega)

/-- The stage of distance 1024 in the second loop. -/
theorem pay64_eq (t5 : Fin k0_t5_loop.trips) (t8 : Fin k0_t8_loop.trips) (v : Blk Ideal) :
    k0_pay64 (F := Ideal) t5 t8 v = ce (t5.val + 13) 10 (8192 * (slab8 t8).val) v := by
  have ht := lt_of_lt_of_eq t5.isLt trips5
  funext j
  pointwise [k0_pay64]
  refine fin_rs (s := 10) 1024 rfl (by decide) v j _ (dir_word (base8_eq t8) (kW5_eq t5) (by omega) ?_) _ _ (fun h => ⟨?_, ?_⟩) (fun h => ⟨?_, ?_⟩)
  · rw [show 8192 * (slab8 t8).val + (j 0).val / 2048 * 2048 = (8192 * (slab8 t8).val + (j 0).val) / 2 ^ 11 * 2 ^ 11 by omega, blk_testBit _ _ _ (by omega)]
  all_goals (dsimp only; omega)

set_option maxRecDepth 100000 in
/-- The stage of distance 2048 in the first loop. -/
theorem pay44_eq (c : Dev nD) (t1 : Fin k0_t1_loop.trips) (t2 : Fin k0_t2_loop.trips) (h : 11 ≤ t2.val) (v : Blk Ideal) :
    k0_pay44 (F := Ideal) (v2w c) t1 t2 v = ce t2.val 11 (8192 * (slabOf c t1).val) v := by
  have ht := lt_of_lt_of_eq t2.isLt trips2
  funext j
  pointwise [k0_pay44]
  refine fin_rs (s := 11) 2048 rfl (by decide) v j _ (dir_word (baseW_eq c t1) (kW1_eq t2) (by omega) ?_) _ _ (fun h => ⟨?_, ?_⟩) (fun h => ⟨?_, ?_⟩)
  · rw [show 8192 * (slabOf c t1).val + (j 0).val / 4096 * 4096 = (8192 * (slabOf c t1).val + (j 0).val) / 2 ^ 12 * 2 ^ 12 by omega, blk_testBit _ _ _ (by omega)]
  all_goals (dsimp only; omega)

set_option maxRecDepth 100000 in
/-- The stage of distance 2048 in the second loop. -/
theorem pay65_eq (t5 : Fin k0_t5_loop.trips) (t8 : Fin k0_t8_loop.trips) (v : Blk Ideal) :
    k0_pay65 (F := Ideal) t5 t8 v = ce (t5.val + 13) 11 (8192 * (slab8 t8).val) v := by
  have ht := lt_of_lt_of_eq t5.isLt trips5
  funext j
  pointwise [k0_pay65]
  refine fin_rs (s := 11) 2048 rfl (by decide) v j _ (dir_word (base8_eq t8) (kW5_eq t5) (by omega) ?_) _ _ (fun h => ⟨?_, ?_⟩) (fun h => ⟨?_, ?_⟩)
  · rw [show 8192 * (slab8 t8).val + (j 0).val / 4096 * 4096 = (8192 * (slab8 t8).val + (j 0).val) / 2 ^ 12 * 2 ^ 12 by omega, blk_testBit _ _ _ (by omega)]
  all_goals (dsimp only; omega)

set_option maxRecDepth 100000 in
/-- The stage of distance 4096 in the first loop. -/
theorem pay45_eq (c : Dev nD) (t1 : Fin k0_t1_loop.trips) (t2 : Fin k0_t2_loop.trips) (h : 12 ≤ t2.val) (v : Blk Ideal) :
    k0_pay45 (F := Ideal) (v2w c) t1 t2 v = ce t2.val 12 (8192 * (slabOf c t1).val) v := by
  have ht := lt_of_lt_of_eq t2.isLt trips2
  funext j
  have hr : (j 0).val < 8192 := (j 0).isLt
  pointwise [k0_pay45]
  rw [show (j 0).val / 4096 = (j 0).val / 4096 % 2 by omega]
  refine fin_rs (s := 12) 4096 rfl (by decide) v j _ (dir_word (baseW_eq c t1) (kW1_eq t2) (by omega) ?_) _ _ (fun h => ⟨?_, ?_⟩) (fun h => ⟨?_, ?_⟩)
  · rw [show 8192 * (slabOf c t1).val + 0 * 8192 = (8192 * (slabOf c t1).val + (j 0).val) / 2 ^ 13 * 2 ^ 13 by omega, blk_testBit _ _ _ (by omega)]
  all_goals (dsimp only; omega)

set_option maxRecDepth 100000 in
/-- The stage of distance 4096 in the second loop. -/
theorem pay66_eq (t5 : Fin k0_t5_loop.trips) (t8 : Fin k0_t8_loop.trips) (v : Blk Ideal) :
    k0_pay66 (F := Ideal) t5 t8 v = ce (t5.val + 13) 12 (8192 * (slab8 t8).val) v := by
  have ht := lt_of_lt_of_eq t5.isLt trips5
  funext j
  have hr : (j 0).val < 8192 := (j 0).isLt
  pointwise [k0_pay66]
  rw [show (j 0).val / 4096 = (j 0).val / 4096 % 2 by omega]
  refine fin_rs (s := 12) 4096 rfl (by decide) v j _ (dir_word (base8_eq t8) (kW5_eq t5) (by omega) ?_) _ _ (fun h => ⟨?_, ?_⟩) (fun h => ⟨?_, ?_⟩)
  · rw [show 8192 * (slab8 t8).val + 0 * 8192 = (8192 * (slab8 t8).val + (j 0).val) / 2 ^ 13 * 2 ^ 13 by omega, blk_testBit _ _ _ (by omega)]
  all_goals (dsimp only; omega)

end Cert.KernelIdeal.Net
-- ==== Proof.V.Laws.lean ====
/-
The payloads keep what the network says of a slab: the laws a run of the idealized kernel needs.
-/
module

public import proofs.«01_k».proof.Proof.V.Reads

@[expose] public section

noncomputable section

namespace Cert.KernelIdeal.Net

open Cert.KernelIdeal Cert.KernelIdeal.Gen

open Idealize.ShloMosaic Idealize.SL.Sem Idealize.ShloMosaic.TcCoe Idealize.ShloMosaic.SortNet

variable (m : (ℓ : Loc nD τ sig) → Buf (Elt Ideal) ℓ)

/-- The stages of one level more. -/
theorem tri_next (l : ℕ) : tri l + l + 1 = tri (l + 1) := by
  have h : (l + 1) * (l + 1 + 1) = l * (l + 1) + (l + 1) * 2 := by ring
  unfold tri
  rw [h, Nat.add_mul_div_right _ _ (by decide)]
  omega

/-- The last five stages of a level. -/
theorem gd_tail (l : ℕ) (hl : l < 16) (h4 : 4 ≤ l) (c S : Dev nD) (v : Blk Ideal) (h : GdV m (tri l + (l - 4)) c S v) :
    GdV m (tri (l + 1)) c S (ce l 0 (8192 * S.val) (ce l 1 (8192 * S.val) (ce l 2 (8192 * S.val) (ce l 3 (8192 * S.val) (ce l 4 (8192 * S.val) v))))) := by
  have h1 := gd_ce m _ l 4 c S hl h4 (by decide) rfl v h
  have h2 := gd_ce m _ l 3 c S hl (by omega) (by decide) (by omega) _ h1
  have h3 := gd_ce m _ l 2 c S hl (by omega) (by decide) (by omega) _ h2
  have h5 := gd_ce m _ l 1 c S hl (by omega) (by decide) (by omega) _ h3
  have h6 := gd_ce m _ l 0 c S hl (by omega) (by decide) (by omega) _ h5
  have e : tri l + (l - 4) + 1 + 1 + 1 + 1 + 1 = tri (l + 1) := by rw [← tri_next]; omega
  rw [e] at h6
  exact h6

/-- A gate lets a stage through where the level has it. -/
theorem gate_word : ∀ (t2 : Fin k0_t2_loop.trips) (s : Fin 5),
    Scalar.cmpi .sge (kW1 t2) (BitVec.ofNat 32 (2 ^ (s.val + 1))) = BitVec.ofBool (decide (s.val ≤ t2.val)) := by decide +kernel

/-- A gate in terms of the level: the stage where the level has it, else nothing. -/
theorem gate_eq (t2 : Fin k0_t2_loop.trips) (s : ℕ) (hs : s < 5) (x v : Blk Ideal) :
    gate (kW1 t2) (BitVec.ofNat 32 (2 ^ (s + 1))) x v = if s ≤ t2.val then x else v := by
  unfold gate
  rw [gate_word t2 ⟨s, hs⟩, select_ofBool]
  simp

/-- A gated stage, not the last. -/
theorem gd_gate (t2 : Fin k0_t2_loop.trips) (s : ℕ) (hs : s + 1 < 5) (c S : Dev nD) (x v : Blk Ideal)
    (hx : s + 1 ≤ t2.val → x = ce t2.val (s + 1) (8192 * S.val) v) (h : GdV m (tri t2 + (t2.val - (s + 1))) c S v) :
    GdV m (tri t2 + (t2.val - s)) c S (gate (kW1 t2) (BitVec.ofNat 32 (2 ^ (s + 1 + 1))) x v) := by
  have ht := lt_of_lt_of_eq t2.isLt trips2
  rw [gate_eq t2 (s + 1) hs]
  by_cases hc : s + 1 ≤ t2.val
  · rw [if_pos hc, hx hc, show tri t2 + (t2.val - s) = tri t2 + (t2.val - (s + 1)) + 1 by omega]
    exact gd_ce m _ t2.val (s + 1) c S (by omega) hc (by omega) rfl v h
  · rw [if_neg hc, show tri t2 + (t2.val - s) = tri t2 + (t2.val - (s + 1)) by omega]
    exact h

/-- The gated stages of a level. -/
theorem gd_gated (t2 : Fin k0_t2_loop.trips) (c S : Dev nD) (b : BitVec 32) (hb : b = BitVec.ofNat 32 (8192 * S.val)) (v : Blk Ideal)
    (h : GdV m (tri t2 + (t2.val - 4)) c S v) : GdV m (tri (t2.val + 1)) c S (gl1 b (kW1 t2) (gl2 b (kW1 t2) (gl4 b (kW1 t2) (gl8 b (kW1 t2) (gl16 b (kW1 t2) v))))) := by
  have ht := lt_of_lt_of_eq t2.isLt trips2
  have hl : t2.val < 16 := by omega
  have hk := kW1_eq t2
  have s1 : ∀ v, GdV m (tri t2 + (t2.val - 4)) c S v → GdV m (tri t2 + (t2.val - 3)) c S (gl16 b (kW1 t2) v) := fun v hv =>
    gd_gate m t2 3 (by decide) c S (rs16 b (kW1 t2) v) v (fun hs => rs16_eq hl hb hk v hs) hv
  have s2 : ∀ v, GdV m (tri t2 + (t2.val - 3)) c S v → GdV m (tri t2 + (t2.val - 2)) c S (gl8 b (kW1 t2) v) := fun v hv =>
    gd_gate m t2 2 (by decide) c S (rs8 b (kW1 t2) v) v (fun hs => rs8_eq hl hb hk v hs) hv
  have s3 : ∀ v, GdV m (tri t2 + (t2.val - 2)) c S v → GdV m (tri t2 + (t2.val - 1)) c S (gl4 b (kW1 t2) v) := fun v hv =>
    gd_gate m t2 1 (by decide) c S (wd4 b (kW1 t2) v) v (fun hs => wd4_eq hl hb hk v) hv
  have s4 : ∀ v, GdV m (tri t2 + (t2.val - 1)) c S v → GdV m (tri t2 + (t2.val - 0)) c S (gl2 b (kW1 t2) v) := fun v hv =>
    gd_gate m t2 0 (by decide) c S (wd2 b (kW1 t2) v) v (fun hs => wd2_eq hl hb hk v) hv
  have s5 : ∀ v, GdV m (tri t2 + (t2.val - 0)) c S v → GdV m (tri (t2.val + 1)) c S (gl1 b (kW1 t2) v) := fun v hv => by
    have h5 := gd_ce m _ t2.val 0 c S hl (by omega) (by decide) rfl v hv
    rw [show tri t2 + (t2.val - 0) + 1 = tri (t2.val + 1) from by rw [← tri_next]; omega] at h5
    have e : gl1 b (kW1 t2) v = ce t2.val 0 (8192 * S.val) v := by
      unfold gl1
      rw [show 2#32 = BitVec.ofNat 32 (2 ^ (0 + 1)) from rfl, gate_eq t2 0 (by decide), if_pos (by omega), wd1_eq hl hb hk]
    rw [e]
    exact h5
  exact s5 _ (s4 _ (s3 _ (s2 _ (s1 v h))))

/-- The lower slab of a pair has the pair's bit clear. -/
theorem lo7_bit : ∀ (t5 : Fin k0_t5_loop.trips) (t6 : Fin (k0_t6_loop t5).trips) (t7 : Fin k0_t7_loop.trips), k0_cond20 t5 t6 = 1#1 →
    (lo7 t5 t6 t7).testBit (t5.val - t6.val) = false := by decide +kernel

/-- The lower slab after a stage between two slabs. -/
theorem pay57_eq (t5 : Fin k0_t5_loop.trips) (t6 : Fin (k0_t6_loop t5).trips) (t7 : Fin k0_t7_loop.trips) (h : k0_cond20 t5 t6 = 1#1) (v w : Blk Ideal)
    (j : S8192x128.Idx) : k0_pay57 (F := Ideal) t5 t6 t7 v w j
      = if (8192 * lo7 t5 t6 t7).testBit (t5.val + 13 + 1) = false then min (v j) (w j) else max (v j) (w j) := by
  have e : ∀ (c : BitVec 1) (b : Bool), c = BitVec.ofBool (!b) → Scalar.select c (min (v j) (w j)) (max (v j) (w j))
      = if b = false then min (v j) (w j) else max (v j) (w j) := fun c b hc => by subst hc; cases b <;> rfl
  pointwise [k0_pay57, k0_pay55, k0_pay56]
  refine e _ _ ?_
  revert h
  clear e
  revert t7 t6 t5
  decide +kernel

/-- The upper slab after a stage between two slabs. -/
theorem pay58_eq (t5 : Fin k0_t5_loop.trips) (t6 : Fin (k0_t6_loop t5).trips) (t7 : Fin k0_t7_loop.trips) (h : k0_cond20 t5 t6 = 1#1) (v w : Blk Ideal)
    (j : S8192x128.Idx) : k0_pay58 (F := Ideal) t5 t6 t7 v w j
      = if (8192 * lo7 t5 t6 t7).testBit (t5.val + 13 + 1) = false then max (v j) (w j) else min (v j) (w j) := by
  have e : ∀ (c : BitVec 1) (b : Bool), c = BitVec.ofBool (!b) → Scalar.select c (max (v j) (w j)) (min (v j) (w j))
      = if b = false then max (v j) (w j) else min (v j) (w j) := fun c b hc => by subst hc; cases b <;> rfl
  pointwise [k0_pay58, k0_pay55, k0_pay56]
  refine e _ _ ?_
  revert h
  clear e
  revert t7 t6 t5
  decide +kernel

/-- What a run needs to know of the payloads, of the network's stages. -/
theorem laws : Laws m (GdV m) where
  land := gd_land m
  a0 := fun c t1 t2 t3 h v hv => by
    have ht := lt_of_lt_of_eq t2.isLt trips2
    rw [pay38_eq c t1 t2 (by omega) v]
    exact gd_ce m _ t2.val 5 c (slabOf c t1) (by omega) (by omega) (by decide) (by omega) v hv
  a1 := fun c t1 t2 t3 h v hv => by
    have ht := lt_of_lt_of_eq t2.isLt trips2
    rw [pay39_eq c t1 t2 (by omega) v]
    exact gd_ce m _ t2.val 6 c (slabOf c t1) (by omega) (by omega) (by decide) (by omega) v hv
  a2 := fun c t1 t2 t3 h v hv => by
    have ht := lt_of_lt_of_eq t2.isLt trips2
    rw [pay40_eq c t1 t2 (by omega) v]
    exact gd_ce m _ t2.val 7 c (slabOf c t1) (by omega) (by omega) (by decide) (by omega) v hv
  a3 := fun c t1 t2 t3 h v hv => by
    have ht := lt_of_lt_of_eq t2.isLt trips2
    rw [pay41_eq c t1 t2 (by omega) v]
    exact gd_ce m _ t2.val 8 c (slabOf c t1) (by omega) (by omega) (by decide) (by omega) v hv
  a4 := fun c t1 t2 t3 h v hv => by
    have ht := lt_of_lt_of_eq t2.isLt trips2
    rw [pay42_eq c t1 t2 (by omega) v]
    exact gd_ce m _ t2.val 9 c (slabOf c t1) (by omega) (by omega) (by decide) (by omega) v hv
  a5 := fun c t1 t2 t3 h v hv => by
    have ht := lt_of_lt_of_eq t2.isLt trips2
    rw [pay43_eq c t1 t2 (by omega) v]
    exact gd_ce m _ t2.val 10 c (slabOf c t1) (by omega) (by omega) (by decide) (by omega) v hv
  a6 := fun c t1 t2 t3 h v hv => by
    have ht := lt_of_lt_of_eq t2.isLt trips2
    rw [pay44_eq c t1 t2 (by omega) v]
    exact gd_ce m _ t2.val 11 c (slabOf c t1) (by omega) (by omega) (by decide) (by omega) v hv
  a7 := fun c t1 t2 t3 h v hv => by
    have ht := lt_of_lt_of_eq t2.isLt trips2
    rw [pay45_eq c t1 t2 (by omega) v]
    exact gd_ce m _ t2.val 12 c (slabOf c t1) (by omega) (by omega) (by decide) (by omega) v hv
  tA := fun c t1 t2 h v hv => by
    have ht := lt_of_lt_of_eq t2.isLt trips2
    have hl : t2.val < 16 := by omega
    have hb := baseW_eq c t1
    have hk := kW1_eq t2
    rw [tailA_eq, wd1_eq hl hb hk, wd2_eq hl hb hk, wd4_eq hl hb hk, rs8_eq hl hb hk _ (by omega), rs16_eq hl hb hk _ h]
    exact gd_tail m t2.val hl h c (slabOf c t1) v hv
  tB := fun c t1 t2 h v hv => by
    rw [tailB_eq]
    exact gd_gated m t2 c (slabOf c t1) _ (baseW_eq c t1) v hv
  pr := fun c t5 t6 t7 h v w hv hw => by
    have ht := lt_of_lt_of_eq t5.isLt trips5
    have h6 := (cond20_iff t5 t6).mp h
    exact gd_pair m _ (t5.val + 13) (t5.val - t6.val) c (slabL t5 t6 t7 h) (slabH t5 t6 t7 h) (by omega) (by omega) (by omega) rfl (lo7_bit t5 t6 t7 h)
      v w _ _ hv hw (fun r a => pay57_eq t5 t6 t7 h v w (ix2 r a)) (fun r a => pay58_eq t5 t6 t7 h v w (ix2 r a))
  g0 := fun c t5 t6 t8 h v hv => by
    have ht := lt_of_lt_of_eq t5.isLt trips5
    rw [pay59_eq t5 t8 v]
    exact gd_ce m _ (t5.val + 13) 5 c (slab8 t8) (by omega) (by omega) (by decide) (by omega) v hv
  g1 := fun c t5 t6 t8 h v hv => by
    have ht := lt_of_lt_of_eq t5.isLt trips5
    rw [pay60_eq t5 t8 v]
    exact gd_ce m _ (t5.val + 13) 6 c (slab8 t8) (by omega) (by omega) (by decide) (by omega) v hv
  g2 := fun c t5 t6 t8 h v hv => by
    have ht := lt_of_lt_of_eq t5.isLt trips5
    rw [pay61_eq t5 t8 v]
    exact gd_ce m _ (t5.val + 13) 7 c (slab8 t8) (by omega) (by omega) (by decide) (by omega) v hv
  g3 := fun c t5 t6 t8 h v hv => by
    have ht := lt_of_lt_of_eq t5.isLt trips5
    rw [pay62_eq t5 t8 v]
    exact gd_ce m _ (t5.val + 13) 8 c (slab8 t8) (by omega) (by omega) (by decide) (by omega) v hv
  g4 := fun c t5 t6 t8 h v hv => by
    have ht := lt_of_lt_of_eq t5.isLt trips5
    rw [pay63_eq t5 t8 v]
    exact gd_ce m _ (t5.val + 13) 9 c (slab8 t8) (by omega) (by omega) (by decide) (by omega) v hv
  g5 := fun c t5 t6 t8 h v hv => by
    have ht := lt_of_lt_of_eq t5.isLt trips5
    rw [pay64_eq t5 t8 v]
    exact gd_ce m _ (t5.val + 13) 10 c (slab8 t8) (by omega) (by omega) (by decide) (by omega) v hv
  g6 := fun c t5 t6 t8 h v hv => by
    have ht := lt_of_lt_of_eq t5.isLt trips5
    rw [pay65_eq t5 t8 v]
    exact gd_ce m _ (t5.val + 13) 11 c (slab8 t8) (by omega) (by omega) (by decide) (by omega) v hv
  g7 := fun c t5 t6 t8 h v hv => by
    have ht := lt_of_lt_of_eq t5.isLt trips5
    rw [pay66_eq t5 t8 v]
    exact gd_ce m _ (t5.val + 13) 12 c (slab8 t8) (by omega) (by omega) (by decide) (by omega) v hv
  tC := fun c t5 t12 v hv => by
    have ht := lt_of_lt_of_eq t5.isLt trips5
    have hl : t5.val + 13 < 16 := by omega
    have hb := baseW12_eq t12
    have hk := kW5_eq t5
    rw [tailC_eq, wd1_eq hl hb hk, wd2_eq hl hb hk, wd4_eq hl hb hk, rs8_eq hl hb hk _ (by omega), rs16_eq hl hb hk _ (by omega)]
    exact gd_tail m (t5.val + 13) hl (by omega) c (slab12 t12) v (by rw [show t5.val + 13 - 4 = t5.val + 9 by omega]; exact hv)

end Cert.KernelIdeal.Net
-- ==== Proof.V.Value.lean ====
/-
The values: the reference sorts each column by the order of the extended reals, a sorted rearrangement of a column is unique, so
the kernel's blocks are the blocks of the reference's array.
-/
module

public import proofs.«01_k».proof.Defs
public import proofs.«01_k».proof.Proof.V.Laws
public import proofs.«01_k».proof.Proof.KI.Run
public import proofs.«01_k».proof.Proof.Gen.ReferenceIdeal
public import proofs.«01_k».proof.Proof.Gen.ReferenceIdeal.Run
public import Idealize.ShloMosaic.Lib.SortFacts
public import Idealize.ShloMosaic.Lib.SortNet.HostSort

@[expose] public section

noncomputable section

namespace Cert.KernelIdeal.Net

open Idealize.ShloMosaic Idealize.SL.Sem Idealize.ShloMosaic.TcCoe

/-- The reference's comparator is the order of the extended reals: there are no NaNs, and a zero replaced by zero is itself. -/
theorem comparator_eq (l r : EReal) :
    (Cert.ReferenceIdeal.comparator_f32_d0 (F := Ideal) l r == 1#1) = decide (l < r) := by
  have hz : ∀ x : EReal, Scalar.select (BitVec.ofBool (decide (x ≠ x))) (FloatOps.ofBits (F := Ideal) .f32 0x7FC00000#32)
      (Scalar.select (BitVec.ofBool (decide (x = FloatOps.ofBits (F := Ideal) .f32 0x00000000#32))) (FloatOps.ofBits (F := Ideal) .f32 0x00000000#32) x) = x := by
    intro x
    rw [Scalar.select_ofBool, Scalar.select_ofBool]
    simp only [ne_eq, not_true_eq_false, decide_false, Bool.false_eq_true, if_false, decide_eq_true_eq]
    split
    · next h => exact h.symm
    · rfl
  have e : Cert.ReferenceIdeal.comparator_f32_d0 (F := Ideal) l r = BitVec.ofBool (decide (l < r)) := by
    show BitVec.ofBool (decide ((Scalar.select (BitVec.ofBool (decide (l ≠ l))) (FloatOps.ofBits (F := Ideal) .f32 0x7FC00000#32)
      (Scalar.select (BitVec.ofBool (decide (l = FloatOps.ofBits (F := Ideal) .f32 0x00000000#32))) (FloatOps.ofBits (F := Ideal) .f32 0x00000000#32) l) : EReal) <
      Scalar.select (BitVec.ofBool (decide (r ≠ r))) (FloatOps.ofBits (F := Ideal) .f32 0x7FC00000#32)
      (Scalar.select (BitVec.ofBool (decide (r = FloatOps.ofBits (F := Ideal) .f32 0x00000000#32))) (FloatOps.ofBits (F := Ideal) .f32 0x00000000#32) r))) = _
    rw [hz l, hz r]
  rw [e]
  cases decide (l < r) <;> rfl

/-- A sort by the order reads, at every place, the one ascending rearrangement. -/
theorem sorted_unique {n : ℕ} (f w : Fin n → EReal) (hw : Monotone w) (hσ : ∃ σ : Equiv.Perm (Fin n), w = f ∘ σ) (i : Fin n) :
    f (sortedFrom (fun a b => decide (f a < f b)) i) = w i := by
  obtain ⟨σ, rfl⟩ := hσ
  let τ : Equiv.Perm (Fin n) := Equiv.ofBijective _ ⟨sortedFrom_injective (fun a b => decide (f a < f b)), sortedFrom_surjective _⟩
  have hτ : Monotone (f ∘ τ) := by
    intro i j hij
    rcases lt_or_eq_of_le hij with h | h
    · have hn := sortedFrom_noInversion (fun a b => decide (f a < f b)) (fun a b => decide (f a < f b))
        (fun a b hab => decide_eq_false (not_lt_of_gt (of_decide_eq_true hab))) (fun a b hab => hab)
        (fun a b c hab hbc => decide_eq_false (not_lt_of_ge (le_trans (not_lt.mp (of_decide_eq_false hbc)) (not_lt.mp (of_decide_eq_false hab)))))
        i j h
      exact not_lt.mp (of_decide_eq_false hn)
    · rw [h]
  have hl : List.ofFn (f ∘ τ) = List.ofFn (f ∘ σ) :=
    List.Perm.eq_of_pairwise (le := fun a b : EReal => a ≤ b) (fun a b _ _ q1 q2 => le_antisymm q1 q2)
      (List.pairwise_ofFn.mpr fun i j hij => hτ (le_of_lt hij)) (List.pairwise_ofFn.mpr fun i j hij => hw (le_of_lt hij))
      ((Equiv.Perm.ofFn_comp_perm τ f).trans (Equiv.Perm.ofFn_comp_perm σ f).symm)
  exact congrFun (List.ofFn_injective hl) i

/-- A sort of a column of the whole array is the column after all the stages. -/
theorem sorted_eq_pre (N : ℕ) (hN : N = 2 ^ 16) (f : Fin N → EReal) (i : Fin N) :
    f (sortedFrom (fun a b => decide (f a < f b)) i) = pre 136 (fun k => f (Fin.cast hN.symm k)) (Fin.cast hN i) := by
  subst hN
  exact sorted_unique f (pre 136 f) (pre_sorted f).1 (pre_sorted f).2 i

/-- The reference's sort at a place: its column after all the stages. -/
theorem host_sort_eq (x : Cert.ReferenceIdeal.S65536x1024.Idx → EReal) (i : Fin 65536) (q : Fin 1024) :
    Host.sort Cert.ReferenceIdeal.S65536x1024 0 (Cert.ReferenceIdeal.comparator_f32_d0 (F := Ideal)) x (ix2 i q)
      = pre 136 (fun k => x (ix2 (Fin.cast (rfl : 2 ^ 16 = 65536) k) q)) (Fin.cast (rfl : 65536 = 2 ^ 16) i) := by
  rw [← sorted_eq_pre 65536 rfl (fun k => x (ix2 k q)) i]
  have hd : 0 < Cert.ReferenceIdeal.S65536x1024.rank := by decide
  have ha : ∀ k : Fin 65536, Shape.Idx.along (s := Cert.ReferenceIdeal.S65536x1024) (ix2 i q) ⟨0, hd⟩ k = ix2 k q := by
    intro k
    funext a
    match a with
    | 0 => rfl
    | 1 => rfl
  have hc : (fun k k' : Fin 65536 => Cert.ReferenceIdeal.comparator_f32_d0 (F := Ideal)
      (x (Shape.Idx.along (s := Cert.ReferenceIdeal.S65536x1024) (ix2 i q) ⟨0, hd⟩ k))
      (x (Shape.Idx.along (s := Cert.ReferenceIdeal.S65536x1024) (ix2 i q) ⟨0, hd⟩ k')) == 1#1)
      = fun k k' => decide (x (ix2 k q) < x (ix2 k' q)) := by
    funext k k'
    rw [ha, ha, comparator_eq]
  unfold Host.sort
  rw [dif_pos hd]
  exact (congrArg (fun B : Fin 65536 → Fin 65536 → Bool => x (Shape.Idx.along (s := Cert.ReferenceIdeal.S65536x1024) (ix2 i q) ⟨0, hd⟩ (sortedFrom B i))) hc).trans
    (congrArg x (ha _))

/-- The same with the place given among the rows of a column. -/
theorem host_sort_row (x : Cert.ReferenceIdeal.S65536x1024.Idx → EReal) (i : Fin (2 ^ 16)) (q : Fin 1024) :
    Host.sort Cert.ReferenceIdeal.S65536x1024 0 (Cert.ReferenceIdeal.comparator_f32_d0 (F := Ideal)) x (ix2 (Fin.cast (rfl : 2 ^ 16 = 65536) i) q)
      = pre 136 (fun k => x (ix2 (Fin.cast (rfl : 2 ^ 16 = 65536) k) q)) i :=
  (host_sort_eq x (Fin.cast rfl i) q).trans (congrArg (pre 136 _) (Fin.ext rfl))

/-- A memory of the eight devices, device by device the blocks of rows of one array. -/
def Cut (m : (ℓ : Loc Cert.KernelIdeal.nD Cert.KernelIdeal.τ Cert.KernelIdeal.sig) → Buf (Elt Ideal) ℓ)
    (X : (⟨2, ![65536, 1024]⟩ : Shape).Idx → EReal) : Prop :=
  ∀ c : Dev Cert.KernelIdeal.nD, m ((c.tc : Thread Cert.KernelIdeal.nD Cert.KernelIdeal.τ).loc Cert.KernelIdeal.main_arg0)
    = Layout.block ⟨2, ![8192, 1024]⟩ ⟨2, ![65536, 1024]⟩ 0 8 c X

/-- Column `128 * d + a` of the whole array. -/
def colNo (d : Dev Cert.KernelIdeal.nD) (a : Fin 128) : Fin 1024 :=
  ⟨128 * d.val + a.val, by have h1 : d.val < 8 := d.isLt; have h2 := a.isLt; omega⟩

/-- The column a device sorts is a column of the whole array. -/
theorem colOf_eq (m : (ℓ : Loc Cert.KernelIdeal.nD Cert.KernelIdeal.τ Cert.KernelIdeal.sig) → Buf (Elt Ideal) ℓ)
    (X : (⟨2, ![65536, 1024]⟩ : Shape).Idx → EReal) (hm : Cut m X) (d : Dev Cert.KernelIdeal.nD) (a : Fin 128) :
    colOf m d a = fun k => X (ix2 (Fin.cast (rfl : 2 ^ 16 = 65536) k) (colNo d a)) := by
  funext k
  unfold colOf xblk
  rw [hm, Layout.block_apply]
  refine congrArg X (funext fun b => Fin.ext ?_)
  match b with
  | 0 =>
    refine (Layout.idx_rows_val _ _ _).1.trans ?_
    rw [Rect.emb_apply]
    show k.val / 8192 * 8192 + (0 + 1 * (k.val % 8192)) = k.val
    omega
  | 1 =>
    refine (Layout.idx_rows_val _ _ _).2.trans ?_
    rw [Rect.emb_apply]
    show 128 * d.val + 1 * a.val = 128 * d.val + a.val
    omega

/-- What the stages say of a device's result: it is the device's block of the sorted array. -/
theorem block_value (m : (ℓ : Loc Cert.KernelIdeal.nD Cert.KernelIdeal.τ Cert.KernelIdeal.sig) → Buf (Elt Ideal) ℓ)
    (X : (⟨2, ![65536, 1024]⟩ : Shape).Idx → EReal) (hm : Cut m X) (c : Dev Cert.KernelIdeal.nD)
    (g : Cert.KernelIdeal.S8192x1024.Idx → EReal) (h : Fin1 (GdV m) c g) :
    g = Layout.block ⟨2, ![8192, 1024]⟩ ⟨2, ![65536, 1024]⟩ 0 8 c
      (Host.sort Cert.ReferenceIdeal.S65536x1024 0 (Cert.ReferenceIdeal.comparator_f32_d0 (F := Ideal)) X) := by
  funext j
  have hc : c.val < 8 := c.isLt
  have h0 : (j 0 : ℕ) < 8192 := (j 0).isLt
  have h1 : (j 1 : ℕ) < 1024 := (j 1).isLt
  obtain ⟨d, hd⟩ : ∃ d : Dev Cert.KernelIdeal.nD, d.val = (j 1 : ℕ) / 128 := ⟨⟨(j 1 : ℕ) / 128, by show _ < 8; omega⟩, rfl⟩
  obtain ⟨a, ha⟩ : ∃ a : Fin 128, a.val = (j 1 : ℕ) % 128 := ⟨⟨(j 1 : ℕ) % 128, by omega⟩, rfl⟩
  obtain ⟨r, hr⟩ : ∃ r : Fin 8192, r.val = (j 0 : ℕ) := ⟨⟨(j 0 : ℕ), h0⟩, rfl⟩
  have hj : (colR d).emb (ix2 r a) = j := by
    refine funext fun b => Fin.ext ?_
    rw [Rect.emb_apply]
    match b with
    | 0 =>
      show 0 + 1 * r.val = (j 0 : ℕ)
      omega
    | 1 =>
      show 128 * d.val + 1 * a.val = (j 1 : ℕ)
      omega
  have hg : g j = pre 136 (colOf m d a) (rowOf c r) := by
    rw [← hj]
    exact h d r a
  rw [hg, colOf_eq m X hm, Layout.block_apply]
  have hi : ∀ ht : Layout.Tiles ⟨2, ![8192, 1024]⟩ ⟨2, ![65536, 1024]⟩ 0 8, ht.idx c j = ix2 (Fin.cast (rfl : 2 ^ 16 = 65536) (rowOf c r)) (colNo d a) := by
    intro ht
    refine funext fun b => Fin.ext ?_
    match b with
    | 0 =>
      refine (Layout.idx_rows_val _ _ _).1.trans ?_
      show c.val * 8192 + (j 0 : ℕ) = 8192 * c.val + r.val
      omega
    | 1 =>
      refine (Layout.idx_rows_val _ _ _).2.trans ?_
      show (j 1 : ℕ) = 128 * d.val + a.val
      omega
  rw [hi, host_sort_row]

end Cert.KernelIdeal.Net
-- ==== Proof.lean ====
/-
The claims of the distributed column sort. The launches are run in Proof/K and Proof/KI; here the frames are those runs with the
values dropped, the rewrites are the rule's own statement, and the values are those of Proof/V.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.V.Value
public import Idealize.ShloMosaic.Lib.Bf16Pair
public import Idealize.ShloMosaic.Lib.Quiescent

@[expose] public section

noncomputable section

namespace Cert.Proof

open Idealize.ShloMosaic Idealize.SL.Sem

/-- The compiled kernel runs, leaves its argument and ends with every counter at zero. -/
theorem quiescent_Kernel : Cert.quiescent_Kernel := by
  intro m g _
  refine (θ_run Cert.Kernel.defs _ _).mono (fun r h => ⟨fun c => (h.1 c).1, h.2⟩)
    (Cert.Kernel.Net.run_main m g (fun _ _ _ _ => True) ⟨fun _ _ => trivial, fun _ _ _ _ => trivial⟩)

/-- The idealized kernel runs, leaves its argument and ends with every counter at zero. -/
theorem quiescent_KernelIdeal : Cert.quiescent_KernelIdeal := by
  intro m g _
  refine (θ_run Cert.KernelIdeal.defs _ _).mono (fun r h => ⟨fun c => (h.1 c).1, h.2⟩)
    (Cert.KernelIdeal.Net.run_main m g (fun _ _ _ _ => True) (by constructor <;> intros <;> trivial))

/-- The reference runs, leaves its argument, and has no counter. -/
theorem quiescent_ReferenceIdeal : Cert.quiescent_ReferenceIdeal := by
  intro m g _
  exact (θ_run Cert.ReferenceIdeal.defs _ _).mono (fun r h => ⟨fun c => (h c).2, sem_eq_zero_of_no_sems rfl r.2⟩)
    (Cert.ReferenceIdeal.Value.run (F := Ideal) m g)

/-- The rewrites of the idealized kernel are the rule's. -/
theorem preserves : Cert.preserves_Kernel_KernelIdeal :=
  IdealRules.bf16_pair.statement Cert.KernelIdeal.S8192x128 Cert.KernelIdeal.S4096x128

/-- On the extended reals each device's result is its block of rows of the reference's sorted array. -/
theorem algebraic : Cert.algebraic_KernelIdeal_ReferenceIdeal := by
  intro m g m' g' _ hm
  refine ⟨Host.sort Cert.ReferenceIdeal.S65536x1024 0 (Cert.ReferenceIdeal.comparator_f32_d0 (F := Ideal))
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun r h c => ⟨Cert.KernelIdeal.Net.block_value m _ hm c _ (h.1 c).2, (h.1 c).1⟩)
      (Cert.KernelIdeal.Net.run_main m g (Cert.KernelIdeal.Net.GdV m) (Cert.KernelIdeal.Net.laws m))
  · exact (θ_run Cert.ReferenceIdeal.defs _ _).mono (fun r h => ⟨(h 0).1, (h 0).2⟩)
      (Cert.ReferenceIdeal.Value.run (F := Ideal) m' g')

/-- Every claim of the certificate. -/
theorem claim : Cert.Claim :=
  ⟨inferInstance, inferInstance, inferInstance, quiescent_Kernel, quiescent_KernelIdeal, quiescent_ReferenceIdeal, preserves,
    algebraic⟩

end Cert.Proof

end
